-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleIdeal_inside [hPre_inside : Cert.Pre_inside.Facts] (m : (ℓ : Loc Cert.SampleIdeal.nD Cert.SampleIdeal.τ Cert.SampleIdeal.sig) → Buf (Elt Ideal) ℓ) : Prop :=
  ∀ c : Dev Cert.SampleIdeal.nD,
    (Cert.Pre_inside.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7))) = (fun _ => 1#1)

def Pre_SampleReferenceIdeal (m : (ℓ : Loc Cert.SampleReferenceIdeal.nD Cert.SampleReferenceIdeal.τ Cert.SampleReferenceIdeal.sig) → Buf (Elt Ideal) ℓ) : Prop :=
  True

def Pre_SampleReferenceIdeal_inside [hPre_inside : Cert.Pre_inside.Facts] (m : (ℓ : Loc Cert.SampleReferenceIdeal.nD Cert.SampleReferenceIdeal.τ Cert.SampleReferenceIdeal.sig) → Buf (Elt Ideal) ℓ) : Prop :=
  ∀ c : Dev Cert.SampleReferenceIdeal.nD,
    (Cert.Pre_inside.fn (F := Ideal) (m ((c.tc : Thread Cert.SampleReferenceIdeal.nD Cert.SampleReferenceIdeal.τ).loc Cert.SampleReferenceIdeal.main_arg0)) (m ((c.tc : Thread Cert.SampleReferenceIdeal.nD Cert.SampleReferenceIdeal.τ).loc Cert.SampleReferenceIdeal.main_arg1)) (m ((c.tc : Thread Cert.SampleReferenceIdeal.nD Cert.SampleReferenceIdeal.τ).loc Cert.SampleReferenceIdeal.main_arg2)) (m ((c.tc : Thread Cert.SampleReferenceIdeal.nD Cert.SampleReferenceIdeal.τ).loc Cert.SampleReferenceIdeal.main_arg3)) (m ((c.tc : Thread Cert.SampleReferenceIdeal.nD Cert.SampleReferenceIdeal.τ).loc Cert.SampleReferenceIdeal.main_arg4)) (m ((c.tc : Thread Cert.SampleReferenceIdeal.nD Cert.SampleReferenceIdeal.τ).loc Cert.SampleReferenceIdeal.main_arg5)) (m ((c.tc : Thread Cert.SampleReferenceIdeal.nD Cert.SampleReferenceIdeal.τ).loc Cert.SampleReferenceIdeal.main_arg6)) (m ((c.tc : Thread Cert.SampleReferenceIdeal.nD Cert.SampleReferenceIdeal.τ).loc Cert.SampleReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7))
      ∧ r.2.sem = fun _ => 0)

def quiescent_SampleIdeal_pre_inside [hSampleIdeal : Cert.SampleIdeal.Facts] [hPre_inside : Cert.Pre_inside.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal_inside m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3)
      ∧ r.2.mem ((c.tc : Thread Cert.SampleReferenceIdeal.nD Cert.SampleReferenceIdeal.τ).loc Cert.SampleReferenceIdeal.main_arg4) = m ((c.tc : Thread Cert.SampleReferenceIdeal.nD Cert.SampleReferenceIdeal.τ).loc Cert.SampleReferenceIdeal.main_arg4)
      ∧ r.2.mem ((c.tc : Thread Cert.SampleReferenceIdeal.nD Cert.SampleReferenceIdeal.τ).loc Cert.SampleReferenceIdeal.main_arg5) = m ((c.tc : Thread Cert.SampleReferenceIdeal.nD Cert.SampleReferenceIdeal.τ).loc Cert.SampleReferenceIdeal.main_arg5)
      ∧ r.2.mem ((c.tc : Thread Cert.SampleReferenceIdeal.nD Cert.SampleReferenceIdeal.τ).loc Cert.SampleReferenceIdeal.main_arg6) = m ((c.tc : Thread Cert.SampleReferenceIdeal.nD Cert.SampleReferenceIdeal.τ).loc Cert.SampleReferenceIdeal.main_arg6)
      ∧ r.2.mem ((c.tc : Thread Cert.SampleReferenceIdeal.nD Cert.SampleReferenceIdeal.τ).loc Cert.SampleReferenceIdeal.main_arg7) = m ((c.tc : Thread Cert.SampleReferenceIdeal.nD Cert.SampleReferenceIdeal.τ).loc Cert.SampleReferenceIdeal.main_arg7))
      ∧ r.2.sem = fun _ => 0)

def quiescent_SampleReferenceIdeal_pre_inside [hSampleReferenceIdeal : Cert.SampleReferenceIdeal.Facts] [hPre_inside : Cert.Pre_inside.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal_inside m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3)
      ∧ r.2.mem ((c.tc : Thread Cert.SampleReferenceIdeal.nD Cert.SampleReferenceIdeal.τ).loc Cert.SampleReferenceIdeal.main_arg4) = m ((c.tc : Thread Cert.SampleReferenceIdeal.nD Cert.SampleReferenceIdeal.τ).loc Cert.SampleReferenceIdeal.main_arg4)
      ∧ r.2.mem ((c.tc : Thread Cert.SampleReferenceIdeal.nD Cert.SampleReferenceIdeal.τ).loc Cert.SampleReferenceIdeal.main_arg5) = m ((c.tc : Thread Cert.SampleReferenceIdeal.nD Cert.SampleReferenceIdeal.τ).loc Cert.SampleReferenceIdeal.main_arg5)
      ∧ r.2.mem ((c.tc : Thread Cert.SampleReferenceIdeal.nD Cert.SampleReferenceIdeal.τ).loc Cert.SampleReferenceIdeal.main_arg6) = m ((c.tc : Thread Cert.SampleReferenceIdeal.nD Cert.SampleReferenceIdeal.τ).loc Cert.SampleReferenceIdeal.main_arg6)
      ∧ r.2.mem ((c.tc : Thread Cert.SampleReferenceIdeal.nD Cert.SampleReferenceIdeal.τ).loc Cert.SampleReferenceIdeal.main_arg7) = m ((c.tc : Thread Cert.SampleReferenceIdeal.nD Cert.SampleReferenceIdeal.τ).loc Cert.SampleReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v354) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Sample_SampleIdeal : Prop :=
  True

def algebraic_SampleIdeal_SampleReferenceIdeal_pre_inside [hSampleIdeal : Cert.SampleIdeal.Facts] [hSampleReferenceIdeal : Cert.SampleReferenceIdeal.Facts] [hPre_inside : Cert.Pre_inside.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleIdeal_inside m →
    (∀ c : Dev Cert.SampleIdeal.nD,
      m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)
      ∧ m' ((c.tc : Thread Cert.SampleReferenceIdeal.nD Cert.SampleReferenceIdeal.τ).loc Cert.SampleReferenceIdeal.main_arg1) = m ((c.tc : Thread Cert.SampleIdeal.nD Cert.SampleIdeal.τ).loc Cert.SampleIdeal.main_arg1)
      ∧ m' ((c.tc : Thread Cert.SampleReferenceIdeal.nD Cert.SampleReferenceIdeal.τ).loc Cert.SampleReferenceIdeal.main_arg2) = m ((c.tc : Thread Cert.SampleIdeal.nD Cert.SampleIdeal.τ).loc Cert.SampleIdeal.main_arg2)
      ∧ m' ((c.tc : Thread Cert.SampleReferenceIdeal.nD Cert.SampleReferenceIdeal.τ).loc Cert.SampleReferenceIdeal.main_arg3) = m ((c.tc : Thread Cert.SampleIdeal.nD Cert.SampleIdeal.τ).loc Cert.SampleIdeal.main_arg3)
      ∧ m' ((c.tc : Thread Cert.SampleReferenceIdeal.nD Cert.SampleReferenceIdeal.τ).loc Cert.SampleReferenceIdeal.main_arg4) = m ((c.tc : Thread Cert.SampleIdeal.nD Cert.SampleIdeal.τ).loc Cert.SampleIdeal.main_arg4)
      ∧ m' ((c.tc : Thread Cert.SampleReferenceIdeal.nD Cert.SampleReferenceIdeal.τ).loc Cert.SampleReferenceIdeal.main_arg5) = m ((c.tc : Thread Cert.SampleIdeal.nD Cert.SampleIdeal.τ).loc Cert.SampleIdeal.main_arg5)
      ∧ m' ((c.tc : Thread Cert.SampleReferenceIdeal.nD Cert.SampleReferenceIdeal.τ).loc Cert.SampleReferenceIdeal.main_arg6) = m ((c.tc : Thread Cert.SampleIdeal.nD Cert.SampleIdeal.τ).loc Cert.SampleIdeal.main_arg6)
      ∧ m' ((c.tc : Thread Cert.SampleReferenceIdeal.nD Cert.SampleReferenceIdeal.τ).loc Cert.SampleReferenceIdeal.main_arg7) = m ((c.tc : Thread Cert.SampleIdeal.nD Cert.SampleIdeal.τ).loc Cert.SampleIdeal.main_arg7)) →
    ∃ (v0 : (c : Dev Cert.SampleIdeal.nD) → Buf (Elt Ideal) ((c.tc : Thread Cert.SampleIdeal.nD Cert.SampleIdeal.τ).loc Cert.SampleIdeal.main_v34_0)) (v1 : (c : Dev Cert.SampleIdeal.nD) → Buf (Elt Ideal) ((c.tc : Thread Cert.SampleIdeal.nD Cert.SampleIdeal.τ).loc Cert.SampleIdeal.main_v34_1)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v34_0) = v0 c
          ∧ r.2.mem ((c.tc : Thread Cert.SampleIdeal.nD Cert.SampleIdeal.τ).loc Cert.SampleIdeal.main_v34_1) = v1 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v525) = v0 c
          ∧ r.2.mem ((c.tc : Thread Cert.SampleReferenceIdeal.nD Cert.SampleReferenceIdeal.τ).loc Cert.SampleReferenceIdeal.main_v527) = v1 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1)
          ∧ r.2.mem ((c.tc : Thread Cert.SampleReferenceIdeal.nD Cert.SampleReferenceIdeal.τ).loc Cert.SampleReferenceIdeal.main_arg2) = m' ((c.tc : Thread Cert.SampleReferenceIdeal.nD Cert.SampleReferenceIdeal.τ).loc Cert.SampleReferenceIdeal.main_arg2)
          ∧ r.2.mem ((c.tc : Thread Cert.SampleReferenceIdeal.nD Cert.SampleReferenceIdeal.τ).loc Cert.SampleReferenceIdeal.main_arg3) = m' ((c.tc : Thread Cert.SampleReferenceIdeal.nD Cert.SampleReferenceIdeal.τ).loc Cert.SampleReferenceIdeal.main_arg3)
          ∧ r.2.mem ((c.tc : Thread Cert.SampleReferenceIdeal.nD Cert.SampleReferenceIdeal.τ).loc Cert.SampleReferenceIdeal.main_arg4) = m' ((c.tc : Thread Cert.SampleReferenceIdeal.nD Cert.SampleReferenceIdeal.τ).loc Cert.SampleReferenceIdeal.main_arg4)
          ∧ r.2.mem ((c.tc : Thread Cert.SampleReferenceIdeal.nD Cert.SampleReferenceIdeal.τ).loc Cert.SampleReferenceIdeal.main_arg5) = m' ((c.tc : Thread Cert.SampleReferenceIdeal.nD Cert.SampleReferenceIdeal.τ).loc Cert.SampleReferenceIdeal.main_arg5)
          ∧ r.2.mem ((c.tc : Thread Cert.SampleReferenceIdeal.nD Cert.SampleReferenceIdeal.τ).loc Cert.SampleReferenceIdeal.main_arg6) = m' ((c.tc : Thread Cert.SampleReferenceIdeal.nD Cert.SampleReferenceIdeal.τ).loc Cert.SampleReferenceIdeal.main_arg6)
          ∧ r.2.mem ((c.tc : Thread Cert.SampleReferenceIdeal.nD Cert.SampleReferenceIdeal.τ).loc Cert.SampleReferenceIdeal.main_arg7) = m' ((c.tc : Thread Cert.SampleReferenceIdeal.nD Cert.SampleReferenceIdeal.τ).loc Cert.SampleReferenceIdeal.main_arg7))

def Claim : Prop :=
  ∃ (hKernel : Cert.Kernel.Facts) (hKernelIdeal : Cert.KernelIdeal.Facts) (hReferenceIdeal : Cert.ReferenceIdeal.Facts) (hSample : Cert.Sample.Facts) (hSampleIdeal : Cert.SampleIdeal.Facts) (hSampleReferenceIdeal : Cert.SampleReferenceIdeal.Facts) (hPre_finite : Cert.Pre_finite.Facts) (hPre_inside : Cert.Pre_inside.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Sample (hSample := hSample)
    ∧ quiescent_SampleIdeal (hSampleIdeal := hSampleIdeal)
    ∧ quiescent_SampleIdeal_pre_inside (hSampleIdeal := hSampleIdeal) (hPre_inside := hPre_inside)
    ∧ quiescent_SampleReferenceIdeal (hSampleReferenceIdeal := hSampleReferenceIdeal)
    ∧ quiescent_SampleReferenceIdeal_pre_inside (hSampleReferenceIdeal := hSampleReferenceIdeal) (hPre_inside := hPre_inside)
    ∧ preserves_Kernel_KernelIdeal
    ∧ algebraic_KernelIdeal_ReferenceIdeal_pre_finite (hKernelIdeal := hKernelIdeal) (hReferenceIdeal := hReferenceIdeal) (hPre_finite := hPre_finite)
    ∧ preserves_Sample_SampleIdeal
    ∧ algebraic_SampleIdeal_SampleReferenceIdeal_pre_inside (hSampleIdeal := hSampleIdeal) (hSampleReferenceIdeal := hSampleReferenceIdeal) (hPre_inside := hPre_inside)
-- ==== Pre_finite.lean ====
abbrev S2x8x64x64x64 : Shape := ⟨5, ![2, 8, 64, 64, 64]⟩
abbrev S2x64x8x64x64 : Shape := ⟨5, ![2, 64, 8, 64, 64]⟩
abbrev S8x16x3x3x3 : Shape := ⟨5, ![8, 16, 3, 3, 3]⟩
abbrev S8 : Shape := ⟨1, ![8]⟩
abbrev S8x8x3x3x3 : Shape := ⟨5, ![8, 8, 3, 3, 3]⟩
abbrev S_ : Shape := ⟨0, ![]⟩

class Facts : Prop where
  bcast_S_S2x8x64x64x64 : S_.BroadcastsInDim S2x8x64x64x64 (![] : Fin 0 → Fin S2x8x64x64x64.rank)
  reducesTo_S2x8x64x64x64_S_d0_1_2_3_4 : S2x8x64x64x64.ReducesTo [0, 1, 2, 3, 4] S_
  h_S_ : 0 < S_.numel
  bcast_S_S2x64x8x64x64 : S_.BroadcastsInDim S2x64x8x64x64 (![] : Fin 0 → Fin S2x64x8x64x64.rank)
  reducesTo_S2x64x8x64x64_S_d0_1_2_3_4 : S2x64x8x64x64.ReducesTo [0, 1, 2, 3, 4] S_
  bcast_S_S8x16x3x3x3 : S_.BroadcastsInDim S8x16x3x3x3 (![] : Fin 0 → Fin S8x16x3x3x3.rank)
  reducesTo_S8x16x3x3x3_S_d0_1_2_3_4 : S8x16x3x3x3.ReducesTo [0, 1, 2, 3, 4] S_
  bcast_S_S8 : S_.BroadcastsInDim S8 (![] : Fin 0 → Fin S8.rank)
  reducesTo_S8_S_d0 : S8.ReducesTo [0] S_

variable [Facts]

def fn_part1 {F : FTy → Type} [FloatOps F] (main_arg6 : FVec F S8 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S8 .f32 := Host.absf main_arg6
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S2x8x64x64x64 .f32) (main_arg1 : FVec F S2x64x8x64x64 .f32) (main_arg2 : FVec F S8x16x3x3x3 .f32) (main_arg3 : FVec F S8 .f32) (main_arg4 : FVec F S8x8x3x3x3 .f32) (main_arg5 : FVec F S8 .f32) (main_arg6 : FVec F S8 .f32) (main_arg7 : FVec F S8 .f32) : IVec S_ 1 :=
  let main_v0 : FVec F S2x8x64x64x64 .f32 := Host.absf main_arg0
  let main_cst : FVec F S_ .f32 := constant S_ .f32 0x7F800000#32
  let main_v1 : FVec F S2x8x64x64x64 .f32 := broadcastInDim S2x8x64x64x64 ![] bcast_S_S2x8x64x64x64 main_cst
  let main_v2 : IVec S2x8x64x64x64 1 := cmpf .olt main_v0 main_v1
  let main_c : IVec S_ 1 := constantI S_ 1 1#1
  let main_v3 : IVec S_ 1 := (fun x v => Host.reduce IntOp.andi x v reducesTo_S2x8x64x64x64_S_d0_1_2_3_4 h_S_) main_v2 main_c
  let main_v4 : FVec F S2x64x8x64x64 .f32 := Host.absf main_arg1
  let main_cst_0 : FVec F S_ .f32 := constant S_ .f32 0x7F800000#32
  let main_v5 : FVec F S2x64x8x64x64 .f32 := broadcastInDim S2x64x8x64x64 ![] bcast_S_S2x64x8x64x64 main_cst_0
  let main_v6 : IVec S2x64x8x64x64 1 := cmpf .olt main_v4 main_v5
  let main_c_1 : IVec S_ 1 := constantI S_ 1 1#1
  let main_v7 : IVec S_ 1 := (fun x v => Host.reduce IntOp.andi x v reducesTo_S2x64x8x64x64_S_d0_1_2_3_4 h_S_) main_v6 main_c_1
  let main_v8 : IVec S_ 1 := andi main_v3 main_v7
  let main_v9 : FVec F S8x16x3x3x3 .f32 := Host.absf main_arg2
  let main_cst_2 : FVec F S_ .f32 := constant S_ .f32 0x7F800000#32
  let main_v10 : FVec F S8x16x3x3x3 .f32 := broadcastInDim S8x16x3x3x3 ![] bcast_S_S8x16x3x3x3 main_cst_2
  let main_v11 : IVec S8x16x3x3x3 1 := cmpf .olt main_v9 main_v10
  let main_c_3 : IVec S_ 1 := constantI S_ 1 1#1
  let main_v12 : IVec S_ 1 := (fun x v => Host.reduce IntOp.andi x v reducesTo_S8x16x3x3x3_S_d0_1_2_3_4 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg6 main_v13 main_v16
-- ==== Pre_inside.lean ====
abbrev S2x8x64x64x64 : Shape := ⟨5, ![2, 8, 64, 64, 64]⟩
abbrev S2x8x256x256 : Shape := ⟨4, ![2, 8, 256, 256]⟩
abbrev S64x64 : Shape := ⟨2, ![64, 64]⟩
abbrev S6x16x3x3x3 : Shape := ⟨5, ![6, 16, 3, 3, 3]⟩
abbrev S6 : Shape := ⟨1, ![6]⟩
abbrev S3x16x3x3x3 : Shape := ⟨5, ![3, 16, 3, 3, 3]⟩
abbrev S3 : Shape := ⟨1, ![3]⟩
abbrev S1x1x3 : Shape := ⟨3, ![1, 1, 3]⟩
abbrev S64x64x1 : Shape := ⟨3, ![64, 64, 1]⟩
abbrev S64x64x3 : Shape := ⟨3, ![64, 64, 3]⟩
abbrev S_ : Shape := ⟨0, ![]⟩

class Facts : Prop where
  slices_S6_S3_0 : S6.Slices ![0] S3
  bcast_S3_S1x1x3_2 : S3.BroadcastsInDim S1x1x3 (![2] : Fin 1 → Fin S1x1x3.rank)
  bcast_S64x64_S64x64x1_0_1 : S64x64.BroadcastsInDim S64x64x1 (![0, 1] : Fin 2 → Fin S64x64x1.rank)
  bcast_S1x1x3_S64x64x3_0_1_2 : S1x1x3.BroadcastsInDim S64x64x3 (![0, 1, 2] : Fin 3 → Fin S64x64x3.rank)
  bcast_S64x64x1_S64x64x3_0_1_2 : S64x64x1.BroadcastsInDim S64x64x3 (![0, 1, 2] : Fin 3 → Fin S64x64x3.rank)
  bcast_S_S64x64x3 : S_.BroadcastsInDim S64x64x3 (![] : Fin 0 → Fin S64x64x3.rank)
  slices_S6_S3_3 : S6.Slices ![3] S3
  reducesTo_S64x64x3_S_d0_1_2 : S64x64x3.ReducesTo [0, 1, 2] S_
  h_S_ : 0 < S_.numel
  bcast_S_S6x16x3x3x3 : S_.BroadcastsInDim S6x16x3x3x3 (![] : Fin 0 → Fin S6x16x3x3x3.rank)
  reducesTo_S6x16x3x3x3_S_d0_1_2_3_4 : S6x16x3x3x3.ReducesTo [0, 1, 2, 3, 4] S_
  bcast_S_S3x16x3x3x3 : S_.BroadcastsInDim S3x16x3x3x3 (![] : Fin 0 → Fin S3x16x3x3x3.rank)
  reducesTo_S3x16x3x3x3_S_d0_1_2_3_4 : S3x16x3x3x3.ReducesTo [0, 1, 2, 3, 4] S_
  bcast_S_S3 : S_.BroadcastsInDim S3 (![] : Fin 0 → Fin S3.rank)
  reducesTo_S3_S_d0 : S3.ReducesTo [0] S_

variable [Facts]

def fn_part2 {F : FTy → Type} [FloatOps F] (main_arg6 : FVec F S3x16x3x3x3 .f32) (main_arg7 : FVec F S3 .f32) (main_v34 : IVec S_ 1) (main_cst_10 : FVec F S_ .f32) : IVec S_ 1 :=
  let main_v35 : FVec F S3x16x3x3x3 .f32 := broadcastInDim S3x16x3x3x3 ![] bcast_S_S3x16x3x3x3 main_cst_10
  let main_v36 : IVec S3x16x3x3x3 1 := cmpf .oeq main_arg6 main_v35
  let main_c_11 : IVec S_ 1 := constantI S_ 1 1#1
  let main_v37 : IVec S_ 1 := (fun x v => Host.reduce IntOp.andi x v reducesTo_S3x16x3x3x3_S_d0_1_2_3_4 h_S_) main_v36 main_c_11
  let main_v38 : IVec S_ 1 := andi main_v34 main_v37
  let main_v39 : FVec F S3 .f32 := Host.absf main_arg7
  let main_cst_12 : FVec F S_ .f32 := constant S_ .f32 0x7F800000#32
  let main_v40 : FVec F S3 .f32 := broadcastInDim S3 ![] bcast_S_S3 main_cst_12
  let main_v41 : IVec S3 1 := cmpf .olt main_v39 main_v40
  let main_c_13 : IVec S_ 1 := constantI S_ 1 1#1
  let main_v42 : IVec S_ 1 := (fun x v => Host.reduce IntOp.andi x v reducesTo_S3_S_d0 h_S_) main_v41 main_c_13
  let main_v43 : IVec S_ 1 := andi main_v38 main_v42
  main_v43

def fn_part1 {F : FTy → Type} [FloatOps F] (main_arg4 : FVec F S6x16x3x3x3 .f32) (main_arg6 : FVec F S3x16x3x3x3 .f32) (main_arg7 : FVec F S3 .f32) (main_v7 : FVec F S64x64x3 .f32) (main_v15 : FVec F S64x64x3 .f32) (main_v18 : IVec S_ 1) (main_cst_2 : FVec F S_ .f32) : IVec S_ 1 :=
  let main_v19 : FVec F S64x64x3 .f32 := broadcastInDim S64x64x3 ![] bcast_S_S64x64x3 main_cst_2
  let main_v20 : IVec S64x64x3 1 := cmpf .ole main_v7 main_v19
  let main_c_3 : IVec S_ 1 := constantI S_ 1 1#1
  let main_v21 : IVec S_ 1 := (fun x v => Host.reduce IntOp.andi x v reducesTo_S64x64x3_S_d0_1_2 h_S_) main_v20 main_c_3
  let main_v22 : IVec S_ 1 := andi main_v18 main_v21
  let main_cst_4 : FVec F S_ .f32 := constant S_ .f32 0x42400000#32
  let main_v23 : FVec F S64x64x3 .f32 := broadcastInDim S64x64x3 ![] bcast_S_S64x64x3 main_cst_4
  let main_v24 : IVec S64x64x3 1 := cmpf .oge main_v15 main_v23
  let main_c_5 : IVec S_ 1 := constantI S_ 1 1#1
  let main_v25 : IVec S_ 1 := (fun x v => Host.reduce IntOp.andi x v reducesTo_S64x64x3_S_d0_1_2 h_S_) main_v24 main_c_5
  let main_v26 : IVec S_ 1 := andi main_v22 main_v25
  let main_cst_6 : FVec F S_ .f32 := constant S_ .f32 0x434F0000#32
  let main_v27 : FVec F S64x64x3 .f32 := broadcastInDim S64x64x3 ![] bcast_S_S64x64x3 main_cst_6
  let main_v28 : IVec S64x64x3 1 := cmpf .ole main_v15 main_v27
  let main_c_7 : IVec S_ 1 := constantI S_ 1 1#1
  let main_v29 : IVec S_ 1 := (fun x v => Host.reduce IntOp.andi x v reducesTo_S64x64x3_S_d0_1_2 h_S_) main_v28 main_c_7
  let main_v30 : IVec S_ 1 := andi main_v26 main_v29
  let main_cst_8 : FVec F S_ .f32 := constant S_ .f32 0x00000000#32
  let main_v31 : FVec F S6x16x3x3x3 .f32 := broadcastInDim S6x16x3x3x3 ![] bcast_S_S6x16x3x3x3 main_cst_8
  let main_v32 : IVec S6x16x3x3x3 1 := cmpf .oeq main_arg4 main_v31
  let main_c_9 : IVec S_ 1 := constantI S_ 1 1#1
  let main_v33 : IVec S_ 1 := (fun x v => Host.reduce IntOp.andi x v reducesTo_S6x16x3x3x3_S_d0_1_2_3_4 h_S_) main_v32 main_c_9
  let main_v34 : IVec S_ 1 := andi main_v30 main_v33
  let main_cst_10 : FVec F S_ .f32 := constant S_ .f32 0x00000000#32
  fn_part2 (F := F) main_arg6 main_arg7 main_v34 main_cst_10

def fn {F : FTy → Type} [FloatOps F] (main_arg0 : FVec F S2x8x64x64x64 .f32) (main_arg1 : FVec F S2x8x256x256 .f32) (main_arg2 : FVec F S64x64 .f32) (main_arg3 : FVec F S64x64 .f32) (main_arg4 : FVec F S6x16x3x3x3 .f32) (main_arg5 : FVec F S6 .f32) (main_arg6 : FVec F S3x16x3x3x3 .f32) (main_arg7 : FVec F S3 .f32) : IVec S_ 1 :=
  let main_v0 : FVec F S3 .f32 := (extractStridedSlice S3 ![0] · slices_S6_S3_0) main_arg5
  let main_v1 : FVec F S1x1x3 .f32 := broadcastInDim S1x1x3 ![2] bcast_S3_S1x1x3_2 main_v0
  let main_v2 : FVec F S64x64x1 .f32 := broadcastInDim S64x64x1 ![0, 1] bcast_S64x64_S64x64x1_0_1 main_arg2
  let main_v3 : FVec F S64x64x3 .f32 := broadcastInDim S64x64x3 ![0, 1, 2] bcast_S1x1x3_S64x64x3_0_1_2 main_v1
  let main_v4 : FVec F S64x64x3 .f32 := broadcastInDim S64x64x3 ![0, 1, 2] bcast_S64x64x1_S64x64x3_0_1_2 main_v2
  let main_v5 : FVec F S64x64x3 .f32 := addf main_v3 main_v4
  let main_cst : FVec F S_ .f32 := constant S_ .f32 0x3F800000#32
  let main_v6 : FVec F S64x64x3 .f32 := broadcastInDim S64x64x3 ![] bcast_S_S64x64x3 main_cst
  let main_v7 : FVec F S64x64x3 .f32 := addf main_v5 main_v6
  let main_v8 : FVec F S3 .f32 := (extractStridedSlice S3 ![3] · slices_S6_S3_3) main_arg5
  let main_v9 : FVec F S1x1x3 .f32 := broadcastInDim S1x1x3 ![2] bcast_S3_S1x1x3_2 main_v8
  let main_v10 : FVec F S64x64x1 .f32 := broadcastInDim S64x64x1 ![0, 1] bcast_S64x64_S64x64x1_0_1 main_arg3
  let main_v11 : FVec F S64x64x3 .f32 := broadcastInDim S64x64x3 ![0, 1, 2] bcast_S1x1x3_S64x64x3_0_1_2 main_v9
  let main_v12 : FVec F S64x64x3 .f32 := broadcastInDim S64x64x3 ![0, 1, 2] bcast_S64x64x1_S64x64x3_0_1_2 main_v10
  let main_v13 : FVec F S64x64x3 .f32 := addf main_v11 main_v12
  let main_cst_0 : FVec F S_ .f32 := constant S_ .f32 0x3F800000#32
  let main_v14 : FVec F S64x64x3 .f32 := broadcastInDim S64x64x3 ![] bcast_S_S64x64x3 main_cst_0
  let main_v15 : FVec F S64x64x3 .f32 := addf main_v13 main_v14
  let main_cst_1 : FVec F S_ .f32 := constant S_ .f32 0x42400000#32
  let main_v16 : FVec F S64x64x3 .f32 := broadcastInDim S64x64x3 ![] bcast_S_S64x64x3 main_cst_1
  let main_v17 : IVec S64x64x3 1 := cmpf .oge main_v7 main_v16
  let main_c : IVec S_ 1 := constantI S_ 1 1#1
  let main_v18 : IVec S_ 1 := (fun x v => Host.reduce IntOp.andi x v reducesTo_S64x64x3_S_d0_1_2 h_S_) main_v17 main_c
  let main_cst_2 : FVec F S_ .f32 := constant S_ .f32 0x434F0000#32
  fn_part1 (F := F) main_arg4 main_arg6 main_arg7 main_v7 main_v15 main_v18 main_cst_2
-- ==== Kernel.lean ====
abbrev S2x8x64x64x64 : Shape := ⟨5, ![2, 8, 64, 64, 64]⟩
abbrev S2x64x8x64x64 : Shape := ⟨5, ![2, 64, 8, 64, 64]⟩
abbrev S8x16x3x3x3 : Shape := ⟨5, ![8, 16, 3, 3, 3]⟩
abbrev S8 : Shape := ⟨1, ![8]⟩
abbrev S8x8x3x3x3 : Shape := ⟨5, ![8, 8, 3, 3, 3]⟩
abbrev S2x64x8x4096 : Shape := ⟨4, ![2, 64, 8, 4096]⟩
abbrev S3x3x16x3x8 : Shape := ⟨5, ![3, 3, 16, 3, 8]⟩
abbrev S144x24 : Shape := ⟨2, ![144, 24]⟩
abbrev S3x3x8x3x8 : Shape := ⟨5, ![3, 3, 8, 3, 8]⟩
abbrev S72x24 : Shape := ⟨2, ![72, 24]⟩
abbrev S2x8x2 : Shape := ⟨3, ![2, 8, 2]⟩
abbrev S1x64x8x4096 : Shape := ⟨4, ![1, 64, 8, 4096]⟩
abbrev S1x8x2 : Shape := ⟨3, ![1, 8, 2]⟩
abbrev S1x4096 : Shape := ⟨2, ![1, 4096]⟩
abbrev S1x1x8x4096 : Shape := ⟨4, ![1, 1, 8, 4096]⟩
abbrev S8x4096 : Shape := ⟨2, ![8, 4096]⟩
abbrev S16x4096 : Shape := ⟨2, ![16, 4096]⟩
abbrev S16x1 : Shape := ⟨2, ![16, 1]⟩
abbrev S16x4095 : Shape := ⟨2, ![16, 4095]⟩
abbrev S48x4096 : Shape := ⟨2, ![48, 4096]⟩
abbrev S48x64 : Shape := ⟨2, ![48, 64]⟩
abbrev S48x4032 : Shape := ⟨2, ![48, 4032]⟩
abbrev S144x4096 : Shape := ⟨2, ![144, 4096]⟩
abbrev S24x4096 : Shape := ⟨2, ![24, 4096]⟩
abbrev S64x8x4096 : Shape := ⟨3, ![64, 8, 4096]⟩
abbrev S1x8x1 : Shape := ⟨3, ![1, 8, 1]⟩
abbrev S8x1 : Shape := ⟨2, ![8, 1]⟩
abbrev S8x2 : Shape := ⟨2, ![8, 2]⟩
abbrev S1x8x4096 : Shape := ⟨3, ![1, 8, 4096]⟩
abbrev S8x4095 : Shape := ⟨2, ![8, 4095]⟩
abbrev S24x64 : Shape := ⟨2, ![24, 64]⟩
abbrev S24x4032 : Shape := ⟨2, ![24, 4032]⟩
abbrev S72x4096 : Shape := ⟨2, ![72, 4096]⟩
abbrev S1x1x8x1 : Shape := ⟨4, ![1, 1, 8, 1]⟩

abbrev nBuf : Space → Nat
  | .hbm => 23
  | .vmem => 19
  | .smem => 0
  | _ => 0

abbrev bufTy : (tb : Table) → Fin (tcTables nBuf tb) → BufTy
  | .hbm, ⟨0, _⟩ => ⟨S2x8x64x64x64, .f32⟩
  | .hbm, ⟨1, _⟩ => ⟨S2x64x8x64x64, .f32⟩
  | .hbm, ⟨2, _⟩ => ⟨S8x16x3x3x3, .f32⟩
  | .hbm, ⟨3, _⟩ => ⟨S8, .f32⟩
  | .hbm, ⟨4, _⟩ => ⟨S8x8x3x3x3, .f32⟩
  | .hbm, ⟨5, _⟩ => ⟨S8, .f32⟩
  | .hbm, ⟨6, _⟩ => ⟨S8, .f32⟩
  | .hbm, ⟨7, _⟩ => ⟨S8, .f32⟩
  | .hbm, ⟨8, _⟩ => ⟨S2x64x8x4096, .f32⟩
  | .hbm, ⟨9, _⟩ => ⟨S2x64x8x64x64, .f32⟩
  | .hbm, ⟨10, _⟩ => ⟨S2x64x8x4096, .f32⟩
  | .hbm, ⟨11, _⟩ => ⟨S3x3x16x3x8, .f32⟩
  | .hbm, ⟨12, _⟩ => ⟨S144x24, .f32⟩
  | .hbm, ⟨13, _⟩ => ⟨S3x3x8x3x8, .f32⟩
  | .hbm, ⟨14, _⟩ => ⟨S72x24, .f32⟩
  | .hbm, ⟨15, _⟩ => ⟨S2x64x8x4096, .f32⟩
  | .hbm, ⟨16, _⟩ => ⟨S2x8x2, .f32⟩
  | .hbm, ⟨17, _⟩ => ⟨S8x1, .f32⟩
  | .hbm, ⟨18, _⟩ => ⟨S8x1, .f32⟩
  | .hbm, ⟨19, _⟩ => ⟨S8x1, .f32⟩
  | .hbm, ⟨20, _⟩ => ⟨S2x64x8x4096, .f32⟩
  | .hbm, ⟨21, _⟩ => ⟨S2x64x8x64x64, .f32⟩
  | .hbm, ⟨22, _⟩ => ⟨S2x8x64x64x64, .f32⟩
  | .local _ .vmem, ⟨0, _⟩ => ⟨S1x64x8x4096, .f32⟩
  | .local _ .vmem, ⟨1, _⟩ => ⟨S1x64x8x4096, .f32⟩
  | .local _ .vmem, ⟨2, _⟩ => ⟨S1x64x8x4096, .f32⟩
  | .local _ .vmem, ⟨3, _⟩ => ⟨S1x64x8x4096, .f32⟩
  | .local _ .vmem, ⟨4, _⟩ => ⟨S144x24, .f32⟩
  | .local _ .vmem, ⟨5, _⟩ => ⟨S1x64x8x4096, .f32⟩
  | .local _ .vmem, ⟨6, _⟩ => ⟨S1x64x8x4096, .f32⟩
  | .local _ .vmem, ⟨7, _⟩ => ⟨S1x8x2, .f32⟩
  | .local _ .vmem, ⟨8, _⟩ => ⟨S1x8x2, .f32⟩
  | .local _ .vmem, ⟨9, _⟩ => ⟨S1x64x8x4096, .f32⟩
  | .local _ .vmem, ⟨10, _⟩ => ⟨S1x64x8x4096, .f32⟩
  | .local _ .vmem, ⟨11, _⟩ => ⟨S2x8x2, .f32⟩
  | .local _ .vmem, ⟨12, _⟩ => ⟨S8x1, .f32⟩
  | .local _ .vmem, ⟨13, _⟩ => ⟨S8x1, .f32⟩
  | .local _ .vmem, ⟨14, _⟩ => ⟨S72x24, .f32⟩
  | .local _ .vmem, ⟨15, _⟩ => ⟨S8x1, .f32⟩
  | .local _ .vmem, ⟨16, _⟩ => ⟨S1x64x8x4096, .f32⟩
  | .local _ .vmem, ⟨17, _⟩ => ⟨S1x64x8x4096, .f32⟩
  | .local _ .vmem, ⟨18, _⟩ => ⟨S64x8x4096, .f32⟩
  | _, _ => ⟨S2x8x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32_9 : BitVec 32 := 0#32
  let c64_i32_10 : BitVec 32 := 64#32
  let v29 : BitVec 32 := Scalar.addi c0_i32_9 c64_i32_10
  let c1_i32_11 : BitVec 32 := 1#32
  ⟨c0_i32_9, v29, c1_i32_11⟩
def k0_off1 (k0_t1 : Fin k0_t1_loop.trips) : Fin 4 → Nat :=
  let c0_22 : Index := 0#32
  let c0_i32_9 : BitVec 32 := 0#32
  let c1_i32_11 : BitVec 32 := 1#32
  let arg6 : BitVec 32 := Scf.iv c0_i32_9 c1_i32_11 k0_t1
  let v42 : Index := Scalar.indexCast arg6
  let c0_23 : Index := 0#32
  let c0_24 : Index := 0#32
  ![0, v42.toNat, 0, 0]
def k0_cond1 (k0_t1 : Fin k0_t1_loop.trips) : BitVec 1 :=
  let c0_i32_9 : BitVec 32 := 0#32
  let c1_i32_11 : BitVec 32 := 1#32
  let arg6 : BitVec 32 := Scf.iv c0_i32_9 c1_i32_11 k0_t1
  let c1_i32_33 : BitVec 32 := 1#32
  let v68 : BitVec 32 := Scalar.addi arg6 c1_i32_33
  let c0_i32_34 : BitVec 32 := 0#32
  let v69 : BitVec 32 := Scalar.subi v68 c0_i32_34
  let c0_i32_37 : BitVec 32 := 0#32
  let v72 : BitVec 1 := Scalar.cmpi .sge v69 c0_i32_37
  let c64_i32_38 : BitVec 32 := 64#32
  let v73 : BitVec 1 := Scalar.cmpi .slt v69 c64_i32_38
  let v74 : BitVec 1 := Scalar.andi v72 v73
  let v75 : BitVec 32 := Scalar.extui v74
  let c0_i32_39 : BitVec 32 := 0#32
  let v76 : BitVec 1 := Scalar.cmpi .ne v75 c0_i32_39
  v76

def k0_off2 (k0_t1 : Fin k0_t1_loop.trips) : Fin 4 → Nat :=
  let c0_53 : Index := 0#32
  let c63_i32_36 : BitVec 32 := 63#32
  let c0_i32_35 : BitVec 32 := 0#32
  let c0_i32_9 : BitVec 32 := 0#32
  let c1_i32_11 : BitVec 32 := 1#32
  let arg6 : BitVec 32 := Scf.iv c0_i32_9 c1_i32_11 k0_t1
  let c1_i32_33 : BitVec 32 := 1#32
  let v68 : BitVec 32 := Scalar.addi arg6 c1_i32_33
  let c0_i32_34 : BitVec 32 := 0#32
  let v69 : BitVec 32 := Scalar.subi v68 c0_i32_34
  let v70 : BitVec 32 := Scalar.maxsi c0_i32_35 v69
  let v71 : BitVec 32 := Scalar.minsi c63_i32_36 v70
  let v95 : Index := Scalar.indexCast v71
  let c0_54 : Index := 0#32
  let c0_55 : Index := 0#32
  ![0, v95.toNat, 0, 0]
def k0_cond2 (k0_t1 : Fin k0_t1_loop.trips) : BitVec 1 :=
  let c0_i32_9 : BitVec 32 := 0#32
  let c1_i32_11 : BitVec 32 := 1#32
  let arg6 : BitVec 32 := Scf.iv c0_i32_9 c1_i32_11 k0_t1
  let c1_i32_40 : BitVec 32 := 1#32
  let v77 : BitVec 32 := Scalar.addi arg6 c1_i32_40
  let c1_i32_41 : BitVec 32 := 1#32
  let v78 : BitVec 32 := Scalar.subi v77 c1_i32_41
  let c0_i32_44 : BitVec 32 := 0#32
  let v81 : BitVec 1 := Scalar.cmpi .sge v78 c0_i32_44
  let c64_i32_45 : BitVec 32 := 64#32
  let v82 : BitVec 1 := Scalar.cmpi .slt v78 c64_i32_45
  let v83 : BitVec 1 := Scalar.andi v81 v82
  let v84 : BitVec 32 := Scalar.extui v83
  let c0_i32_46 : BitVec 32 := 0#32
  let v85 : BitVec 1 := Scalar.cmpi .ne v84 c0_i32_46
  v85

def k0_off3 (k0_t1 : Fin k0_t1_loop.trips) : Fin 4 → Nat :=
  let c0_53 : Index := 0#32
  let c63_i32_43 : BitVec 32 := 63#32
  let c0_i32_42 : BitVec 32 := 0#32
  let c0_i32_9 : BitVec 32 := 0#32
  let c1_i32_11 : BitVec 32 := 1#32
  let arg6 : BitVec 32 := Scf.iv c0_i32_9 c1_i32_11 k0_t1
  let c1_i32_40 : BitVec 32 := 1#32
  let v77 : BitVec 32 := Scalar.addi arg6 c1_i32_40
  let c1_i32_41 : BitVec 32 := 1#32
  let v78 : BitVec 32 := Scalar.subi v77 c1_i32_41
  let v79 : BitVec 32 := Scalar.maxsi c0_i32_42 v78
  let v80 : BitVec 32 := Scalar.minsi c63_i32_43 v79
  let v95 : Index := Scalar.indexCast v80
  let c0_54 : Index := 0#32
  let c0_55 : Index := 0#32
  ![0, v95.toNat, 0, 0]
def k0_cond3 (k0_t1 : Fin k0_t1_loop.trips) : BitVec 1 :=
  let c0_i32_9 : BitVec 32 := 0#32
  let c1_i32_11 : BitVec 32 := 1#32
  let arg6 : BitVec 32 := Scf.iv c0_i32_9 c1_i32_11 k0_t1
  let c1_i32_47 : BitVec 32 := 1#32
  let v86 : BitVec 32 := Scalar.addi arg6 c1_i32_47
  let c2_i32 : BitVec 32 := 2#32
  let v87 : BitVec 32 := Scalar.subi v86 c2_i32
  let c0_i32_50 : BitVec 32 := 0#32
  let v90 : BitVec 1 := Scalar.cmpi .sge v87 c0_i32_50
  let c64_i32_51 : BitVec 32 := 64#32
  let v91 : BitVec 1 := Scalar.cmpi .slt v87 c64_i32_51
  let v92 : BitVec 1 := Scalar.andi v90 v91
  let v93 : BitVec 32 := Scalar.extui v92
  let c0_i32_52 : BitVec 32 := 0#32
  let v94 : BitVec 1 := Scalar.cmpi .ne v93 c0_i32_52
  v94

def k0_off4 (k0_t1 : Fin k0_t1_loop.trips) : Fin 4 → Nat :=
  let c0_53 : Index := 0#32
  let c63_i32_49 : BitVec 32 := 63#32
  let c0_i32_48 : BitVec 32 := 0#32
  let c0_i32_9 : BitVec 32 := 0#32
  let c1_i32_11 : BitVec 32 := 1#32
  let arg6 : BitVec 32 := Scf.iv c0_i32_9 c1_i32_11 k0_t1
  let c1_i32_47 : BitVec 32 := 1#32
  let v86 : BitVec 32 := Scalar.addi arg6 c1_i32_47
  let c2_i32 : BitVec 32 := 2#32
  let v87 : BitVec 32 := Scalar.subi v86 c2_i32
  let v88 : BitVec 32 := Scalar.maxsi c0_i32_48 v87
  let v89 : BitVec 32 := Scalar.minsi c63_i32_49 v88
  let v95 : Index := Scalar.indexCast v89
  let c0_54 : Index := 0#32
  let c0_55 : Index := 0#32
  ![0, v95.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S144x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x64x8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![2], ![false]⟩

@[reducible] def k1_t1_loop : Scf.Loop 32 :=
  let c0_i32 : BitVec 32 := 0#32
  let c64_i32 : BitVec 32 := 64#32
  let v28 : BitVec 32 := Scalar.addi c0_i32 c64_i32
  let c1_i32 : BitVec 32 := 1#32
  ⟨c0_i32, v28, c1_i32⟩
def k1_off1 (k1_t1 : Fin k1_t1_loop.trips) : Fin 4 → Nat :=
  let c0_37 : Index := 0#32
  let c0_i32 : BitVec 32 := 0#32
  let c1_i32 : BitVec 32 := 1#32
  let arg9 : BitVec 32 := Scf.iv c0_i32 c1_i32 k1_t1
  let v67 : Index := Scalar.indexCast arg9
  let c0_38 : Index := 0#32
  let c0_39 : Index := 0#32
  ![0, v67.toNat, 0, 0]
def k1_off2 (k1_t1 : Fin k1_t1_loop.trips) : Fin 3 → Nat :=
  let c0_i32 : BitVec 32 := 0#32
  let c1_i32 : BitVec 32 := 1#32
  let arg9 : BitVec 32 := Scf.iv c0_i32 c1_i32 k1_t1
  let v79 : Index := Scalar.indexCast arg9
  let c0_42 : Index := 0#32
  let c0_43 : Index := 0#32
  ![v79.toNat, 0, 0]
@[reducible] def k1_t2_loop : Scf.Loop 32 :=
  let c0_i32_23 : BitVec 32 := 0#32
  let c64_i32_24 : BitVec 32 := 64#32
  let v58 : BitVec 32 := Scalar.addi c0_i32_23 c64_i32_24
  let c1_i32_25 : BitVec 32 := 1#32
  ⟨c0_i32_23, v58, c1_i32_25⟩
def k1_off3 (k1_t2 : Fin k1_t2_loop.trips) : Fin 3 → Nat :=
  let c0_i32_23 : BitVec 32 := 0#32
  let c1_i32_25 : BitVec 32 := 1#32
  let arg9 : BitVec 32 := Scf.iv c0_i32_23 c1_i32_25 k1_t2
  let v67 : Index := Scalar.indexCast arg9
  let c0_37 : Index := 0#32
  let c0_38 : Index := 0#32
  ![v67.toNat, 0, 0]
def k1_cond1 (k1_t2 : Fin k1_t2_loop.trips) : BitVec 1 :=
  let c0_i32_23 : BitVec 32 := 0#32
  let c1_i32_25 : BitVec 32 := 1#32
  let arg9 : BitVec 32 := Scf.iv c0_i32_23 c1_i32_25 k1_t2
  let c1_i32_44 : BitVec 32 := 1#32
  let v89 : BitVec 32 := Scalar.addi arg9 c1_i32_44
  let c0_i32_45 : BitVec 32 := 0#32
  let v90 : BitVec 32 := Scalar.subi v89 c0_i32_45
  let c0_i32_48 : BitVec 32 := 0#32
  let v93 : BitVec 1 := Scalar.cmpi .sge v90 c0_i32_48
  let c64_i32_49 : BitVec 32 := 64#32
  let v94 : BitVec 1 := Scalar.cmpi .slt v90 c64_i32_49
  let v95 : BitVec 1 := Scalar.andi v93 v94
  let v96 : BitVec 32 := Scalar.extui v95
  let c0_i32_50 : BitVec 32 := 0#32
  let v97 : BitVec 1 := Scalar.cmpi .ne v96 c0_i32_50
  v97

def k1_off4 (k1_t2 : Fin k1_t2_loop.trips) : Fin 4 → Nat :=
  let c0_64 : Index := 0#32
  let c63_i32_47 : BitVec 32 := 63#32
  let c0_i32_46 : BitVec 32 := 0#32
  let c0_i32_23 : BitVec 32 := 0#32
  let c1_i32_25 : BitVec 32 := 1#32
  let arg9 : BitVec 32 := Scf.iv c0_i32_23 c1_i32_25 k1_t2
  let c1_i32_44 : BitVec 32 := 1#32
  let v89 : BitVec 32 := Scalar.addi arg9 c1_i32_44
  let c0_i32_45 : BitVec 32 := 0#32
  let v90 : BitVec 32 := Scalar.subi v89 c0_i32_45
  let v91 : BitVec 32 := Scalar.maxsi c0_i32_46 v90
  let v92 : BitVec 32 := Scalar.minsi c63_i32_47 v91
  let v116 : Index := Scalar.indexCast v92
  let c0_65 : Index := 0#32
  let c0_66 : Index := 0#32
  ![0, v116.toNat, 0, 0]
def k1_cond2 (k1_t2 : Fin k1_t2_loop.trips) : BitVec 1 :=
  let c0_i32_23 : BitVec 32 := 0#32
  let c1_i32_25 : BitVec 32 := 1#32
  let arg9 : BitVec 32 := Scf.iv c0_i32_23 c1_i32_25 k1_t2
  let c1_i32_51 : BitVec 32 := 1#32
  let v98 : BitVec 32 := Scalar.addi arg9 c1_i32_51
  let c1_i32_52 : BitVec 32 := 1#32
  let v99 : BitVec 32 := Scalar.subi v98 c1_i32_52
  let c0_i32_55 : BitVec 32 := 0#32
  let v102 : BitVec 1 := Scalar.cmpi .sge v99 c0_i32_55
  let c64_i32_56 : BitVec 32 := 64#32
  let v103 : BitVec 1 := Scalar.cmpi .slt v99 c64_i32_56
  let v104 : BitVec 1 := Scalar.andi v102 v103
  let v105 : BitVec 32 := Scalar.extui v104
  let c0_i32_57 : BitVec 32 := 0#32
  let v106 : BitVec 1 := Scalar.cmpi .ne v105 c0_i32_57
  v106

def k1_off5 (k1_t2 : Fin k1_t2_loop.trips) : Fin 4 → Nat :=
  let c0_64 : Index := 0#32
  let c63_i32_54 : BitVec 32 := 63#32
  let c0_i32_53 : BitVec 32 := 0#32
  let c0_i32_23 : BitVec 32 := 0#32
  let c1_i32_25 : BitVec 32 := 1#32
  let arg9 : BitVec 32 := Scf.iv c0_i32_23 c1_i32_25 k1_t2
  let c1_i32_51 : BitVec 32 := 1#32
  let v98 : BitVec 32 := Scalar.addi arg9 c1_i32_51
  let c1_i32_52 : BitVec 32 := 1#32
  let v99 : BitVec 32 := Scalar.subi v98 c1_i32_52
  let v100 : BitVec 32 := Scalar.maxsi c0_i32_53 v99
  let v101 : BitVec 32 := Scalar.minsi c63_i32_54 v100
  let v116 : Index := Scalar.indexCast v101
  let c0_65 : Index := 0#32
  let c0_66 : Index := 0#32
  ![0, v116.toNat, 0, 0]
def k1_cond3 (k1_t2 : Fin k1_t2_loop.trips) : BitVec 1 :=
  let c0_i32_23 : BitVec 32 := 0#32
  let c1_i32_25 : BitVec 32 := 1#32
  let arg9 : BitVec 32 := Scf.iv c0_i32_23 c1_i32_25 k1_t2
  let c1_i32_58 : BitVec 32 := 1#32
  let v107 : BitVec 32 := Scalar.addi arg9 c1_i32_58
  let c2_i32 : BitVec 32 := 2#32
  let v108 : BitVec 32 := Scalar.subi v107 c2_i32
  let c0_i32_61 : BitVec 32 := 0#32
  let v111 : BitVec 1 := Scalar.cmpi .sge v108 c0_i32_61
  let c64_i32_62 : BitVec 32 := 64#32
  let v112 : BitVec 1 := Scalar.cmpi .slt v108 c64_i32_62
  let v113 : BitVec 1 := Scalar.andi v111 v112
  let v114 : BitVec 32 := Scalar.extui v113
  let c0_i32_63 : BitVec 32 := 0#32
  let v115 : BitVec 1 := Scalar.cmpi .ne v114 c0_i32_63
  v115

def k1_off6 (k1_t2 : Fin k1_t2_loop.trips) : Fin 4 → Nat :=
  let c0_64 : Index := 0#32
  let c63_i32_60 : BitVec 32 := 63#32
  let c0_i32_59 : BitVec 32 := 0#32
  let c0_i32_23 : BitVec 32 := 0#32
  let c1_i32_25 : BitVec 32 := 1#32
  let arg9 : BitVec 32 := Scf.iv c0_i32_23 c1_i32_25 k1_t2
  let c1_i32_58 : BitVec 32 := 1#32
  let v107 : BitVec 32 := Scalar.addi arg9 c1_i32_58
  let c2_i32 : BitVec 32 := 2#32
  let v108 : BitVec 32 := Scalar.subi v107 c2_i32
  let v109 : BitVec 32 := Scalar.maxsi c0_i32_59 v108
  let v110 : BitVec 32 := Scalar.minsi c63_i32_60 v109
  let v116 : Index := Scalar.indexCast v110
  let c0_65 : Index := 0#32
  let c0_66 : Index := 0#32
  ![0, v116.toNat, 0, 0]
def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x64x8x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x8x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S72x24 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x64x8x4096 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S2x8x64x64x64 : Shape := ⟨5, ![2, 8, 64, 64, 64]⟩
abbrev S2x64x8x64x64 : Shape := ⟨5, ![2, 64, 8, 64, 64]⟩
abbrev S8x16x3x3x3 : Shape := ⟨5, ![8, 16, 3, 3, 3]⟩
abbrev S8 : Shape := ⟨1, ![8]⟩
abbrev S8x8x3x3x3 : Shape := ⟨5, ![8, 8, 3, 3, 3]⟩
abbrev S2x16x64x64x64 : Shape := ⟨5, ![2, 16, 64, 64, 64]⟩
abbrev S_ : Shape := ⟨0, ![]⟩
abbrev S2x16x66x66x66 : Shape := ⟨5, ![2, 16, 66, 66, 66]⟩
abbrev S8x16x1x1x1 : Shape := ⟨5, ![8, 16, 1, 1, 1]⟩
abbrev S8x16 : Shape := ⟨2, ![8, 16]⟩
abbrev S8x2x64x64x64 : Shape := ⟨5, ![8, 2, 64, 64, 64]⟩
abbrev S1x8x1x1x1 : Shape := ⟨5, ![1, 8, 1, 1, 1]⟩
abbrev S2x8x66x66x66 : Shape := ⟨5, ![2, 8, 66, 66, 66]⟩
abbrev S8x8x1x1x1 : Shape := ⟨5, ![8, 8, 1, 1, 1]⟩
abbrev S8x8 : Shape := ⟨2, ![8, 8]⟩

abbrev nBuf : Space → Nat
  | .hbm => 395
  | .vmem => 0
  | .smem => 0
  | _ => 0

abbrev hbmTy0_0 (i : Nat) : BufTy := match i % 128 with
  | 0 => ⟨S2x8x64x64x64, .f32⟩
  | 1 => ⟨S2x64x8x64x64, .f32⟩
  | 2 => ⟨S8x16x3x3x3, .f32⟩
  | 3 => ⟨S8, .f32⟩
  | 4 => ⟨S8x8x3x3x3, .f32⟩
  | 5 => ⟨S8, .f32⟩
  | 6 => ⟨S8, .f32⟩
  | 7 => ⟨S8, .f32⟩
  | 8 => ⟨S2x8x64x64x64, .f32⟩
  | 9 => ⟨S2x16x64x64x64, .f32⟩
  | 10 => ⟨S_, .i32⟩
  | 11 => ⟨S_, .f32⟩
  | 12 => ⟨S2x16x66x66x66, .f32⟩
  | 13 => ⟨S2x16x64x64x64, .f32⟩
  | 14 => ⟨S8x16x1x1x1, .f32⟩
  | 15 => ⟨S8x16, .f32⟩
  | 16 => ⟨S8x2x64x64x64, .f32⟩
  | 17 => ⟨S2x8x64x64x64, .f32⟩
  | 18 => ⟨S2x16x64x64x64, .f32⟩
  | 19 => ⟨S8x16x1x1x1, .f32⟩
  | 20 => ⟨S8x16, .f32⟩
  | 21 => ⟨S8x2x64x64x64, .f32⟩
  | 22 => ⟨S2x8x64x64x64, .f32⟩
  | 23 => ⟨S2x8x64x64x64, .f32⟩
  | 24 => ⟨S2x16x64x64x64, .f32⟩
  | 25 => ⟨S8x16x1x1x1, .f32⟩
  | 26 => ⟨S8x16, .f32⟩
  | 27 => ⟨S8x2x64x64x64, .f32⟩
  | 28 => ⟨S2x8x64x64x64, .f32⟩
  | 29 => ⟨S2x8x64x64x64, .f32⟩
  | 30 => ⟨S2x16x64x64x64, .f32⟩
  | 31 => ⟨S8x16x1x1x1, .f32⟩
  | 32 => ⟨S8x16, .f32⟩
  | 33 => ⟨S8x2x64x64x64, .f32⟩
  | 34 => ⟨S2x8x64x64x64, .f32⟩
  | 35 => ⟨S2x8x64x64x64, .f32⟩
  | 36 => ⟨S2x16x64x64x64, .f32⟩
  | 37 => ⟨S8x16x1x1x1, .f32⟩
  | 38 => ⟨S8x16, .f32⟩
  | 39 => ⟨S8x2x64x64x64, .f32⟩
  | 40 => ⟨S2x8x64x64x64, .f32⟩
  | 41 => ⟨S2x8x64x64x64, .f32⟩
  | 42 => ⟨S2x16x64x64x64, .f32⟩
  | 43 => ⟨S8x16x1x1x1, .f32⟩
  | 44 => ⟨S8x16, .f32⟩
  | 45 => ⟨S8x2x64x64x64, .f32⟩
  | 46 => ⟨S2x8x64x64x64, .f32⟩
  | 47 => ⟨S2x8x64x64x64, .f32⟩
  | 48 => ⟨S2x16x64x64x64, .f32⟩
  | 49 => ⟨S8x16x1x1x1, .f32⟩
  | 50 => ⟨S8x16, .f32⟩
  | 51 => ⟨S8x2x64x64x64, .f32⟩
  | 52 => ⟨S2x8x64x64x64, .f32⟩
  | 53 => ⟨S2x8x64x64x64, .f32⟩
  | 54 => ⟨S2x16x64x64x64, .f32⟩
  | 55 => ⟨S8x16x1x1x1, .f32⟩
  | 56 => ⟨S8x16, .f32⟩
  | 57 => ⟨S8x2x64x64x64, .f32⟩
  | 58 => ⟨S2x8x64x64x64, .f32⟩
  | 59 => ⟨S2x8x64x64x64, .f32⟩
  | 60 => ⟨S2x16x64x64x64, .f32⟩
  | 61 => ⟨S8x16x1x1x1, .f32⟩
  | 62 => ⟨S8x16, .f32⟩
  | 63 => ⟨S8x2x64x64x64, .f32⟩
  | 64 => ⟨S2x8x64x64x64, .f32⟩
  | 65 => ⟨S2x8x64x64x64, .f32⟩
  | 66 => ⟨S2x16x64x64x64, .f32⟩
  | 67 => ⟨S8x16x1x1x1, .f32⟩
  | 68 => ⟨S8x16, .f32⟩
  | 69 => ⟨S8x2x64x64x64, .f32⟩
  | 70 => ⟨S2x8x64x64x64, .f32⟩
  | 71 => ⟨S2x8x64x64x64, .f32⟩
  | 72 => ⟨S2x16x64x64x64, .f32⟩
  | 73 => ⟨S8x16x1x1x1, .f32⟩
  | 74 => ⟨S8x16, .f32⟩
  | 75 => ⟨S8x2x64x64x64, .f32⟩
  | 76 => ⟨S2x8x64x64x64, .f32⟩
  | 77 => ⟨S2x8x64x64x64, .f32⟩
  | 78 => ⟨S2x16x64x64x64, .f32⟩
  | 79 => ⟨S8x16x1x1x1, .f32⟩
  | 80 => ⟨S8x16, .f32⟩
  | 81 => ⟨S8x2x64x64x64, .f32⟩
  | 82 => ⟨S2x8x64x64x64, .f32⟩
  | 83 => ⟨S2x8x64x64x64, .f32⟩
  | 84 => ⟨S2x16x64x64x64, .f32⟩
  | 85 => ⟨S8x16x1x1x1, .f32⟩
  | 86 => ⟨S8x16, .f32⟩
  | 87 => ⟨S8x2x64x64x64, .f32⟩
  | 88 => ⟨S2x8x64x64x64, .f32⟩
  | 89 => ⟨S2x8x64x64x64, .f32⟩
  | 90 => ⟨S2x16x64x64x64, .f32⟩
  | 91 => ⟨S8x16x1x1x1, .f32⟩
  | 92 => ⟨S8x16, .f32⟩
  | 93 => ⟨S8x2x64x64x64, .f32⟩
  | 94 => ⟨S2x8x64x64x64, .f32⟩
  | 95 => ⟨S2x8x64x64x64, .f32⟩
  | 96 => ⟨S2x16x64x64x64, .f32⟩
  | 97 => ⟨S8x16x1x1x1, .f32⟩
  | 98 => ⟨S8x16, .f32⟩
  | 99 => ⟨S8x2x64x64x64, .f32⟩
  | 100 => ⟨S2x8x64x64x64, .f32⟩
  | 101 => ⟨S2x8x64x64x64, .f32⟩
  | 102 => ⟨S2x16x64x64x64, .f32⟩
  | 103 => ⟨S8x16x1x1x1, .f32⟩
  | 104 => ⟨S8x16, .f32⟩
  | 105 => ⟨S8x2x64x64x64, .f32⟩
  | 106 => ⟨S2x8x64x64x64, .f32⟩
  | 107 => ⟨S2x8x64x64x64, .f32⟩
  | 108 => ⟨S2x16x64x64x64, .f32⟩
  | 109 => ⟨S8x16x1x1x1, .f32⟩
  | 110 => ⟨S8x16, .f32⟩
  | 111 => ⟨S8x2x64x64x64, .f32⟩
  | 112 => ⟨S2x8x64x64x64, .f32⟩
  | 113 => ⟨S2x8x64x64x64, .f32⟩
  | 114 => ⟨S2x16x64x64x64, .f32⟩
  | 115 => ⟨S8x16x1x1x1, .f32⟩
  | 116 => ⟨S8x16, .f32⟩
  | 117 => ⟨S8x2x64x64x64, .f32⟩
  | 118 => ⟨S2x8x64x64x64, .f32⟩
  | 119 => ⟨S2x8x64x64x64, .f32⟩
  | 120 => ⟨S2x16x64x64x64, .f32⟩
  | 121 => ⟨S8x16x1x1x1, .f32⟩
  | 122 => ⟨S8x16, .f32⟩
  | 123 => ⟨S8x2x64x64x64, .f32⟩
  | 124 => ⟨S2x8x64x64x64, .f32⟩
  | 125 => ⟨S2x8x64x64x64, .f32⟩
  | 126 => ⟨S2x16x64x64x64, .f32⟩
  | 127 => ⟨S8x16x1x1x1, .f32⟩
  | _ => ⟨S2x8x64x64x64, .f32⟩

abbrev hbmTy0_1 (i : Nat) : BufTy := match i % 128 with
  | 0 => ⟨S8x16, .f32⟩
  | 1 => ⟨S8x2x64x64x64, .f32⟩
  | 2 => ⟨S2x8x64x64x64, .f32⟩
  | 3 => ⟨S2x8x64x64x64, .f32⟩
  | 4 => ⟨S2x16x64x64x64, .f32⟩
  | 5 => ⟨S8x16x1x1x1, .f32⟩
  | 6 => ⟨S8x16, .f32⟩
  | 7 => ⟨S8x2x64x64x64, .f32⟩
  | 8 => ⟨S2x8x64x64x64, .f32⟩
  | 9 => ⟨S2x8x64x64x64, .f32⟩
  | 10 => ⟨S2x16x64x64x64, .f32⟩
  | 11 => ⟨S8x16x1x1x1, .f32⟩
  | 12 => ⟨S8x16, .f32⟩
  | 13 => ⟨S8x2x64x64x64, .f32⟩
  | 14 => ⟨S2x8x64x64x64, .f32⟩
  | 15 => ⟨S2x8x64x64x64, .f32⟩
  | 16 => ⟨S2x16x64x64x64, .f32⟩
  | 17 => ⟨S8x16x1x1x1, .f32⟩
  | 18 => ⟨S8x16, .f32⟩
  | 19 => ⟨S8x2x64x64x64, .f32⟩
  | 20 => ⟨S2x8x64x64x64, .f32⟩
  | 21 => ⟨S2x8x64x64x64, .f32⟩
  | 22 => ⟨S2x16x64x64x64, .f32⟩
  | 23 => ⟨S8x16x1x1x1, .f32⟩
  | 24 => ⟨S8x16, .f32⟩
  | 25 => ⟨S8x2x64x64x64, .f32⟩
  | 26 => ⟨S2x8x64x64x64, .f32⟩
  | 27 => ⟨S2x8x64x64x64, .f32⟩
  | 28 => ⟨S2x16x64x64x64, .f32⟩
  | 29 => ⟨S8x16x1x1x1, .f32⟩
  | 30 => ⟨S8x16, .f32⟩
  | 31 => ⟨S8x2x64x64x64, .f32⟩
  | 32 => ⟨S2x8x64x64x64, .f32⟩
  | 33 => ⟨S2x8x64x64x64, .f32⟩
  | 34 => ⟨S2x16x64x64x64, .f32⟩
  | 35 => ⟨S8x16x1x1x1, .f32⟩
  | 36 => ⟨S8x16, .f32⟩
  | 37 => ⟨S8x2x64x64x64, .f32⟩
  | 38 => ⟨S2x8x64x64x64, .f32⟩
  | 39 => ⟨S2x8x64x64x64, .f32⟩
  | 40 => ⟨S2x16x64x64x64, .f32⟩
  | 41 => ⟨S8x16x1x1x1, .f32⟩
  | 42 => ⟨S8x16, .f32⟩
  | 43 => ⟨S8x2x64x64x64, .f32⟩
  | 44 => ⟨S2x8x64x64x64, .f32⟩
  | 45 => ⟨S2x8x64x64x64, .f32⟩
  | 46 => ⟨S1x8x1x1x1, .f32⟩
  | 47 => ⟨S2x8x64x64x64, .f32⟩
  | 48 => ⟨S2x8x64x64x64, .f32⟩
  | 49 => ⟨S_, .f32⟩
  | 50 => ⟨S8, .f32⟩
  | 51 => ⟨S1x8x1x1x1, .f32⟩
  | 52 => ⟨S_, .f32⟩
  | 53 => ⟨S1x8x1x1x1, .f32⟩
  | 54 => ⟨S1x8x1x1x1, .f32⟩
  | 55 => ⟨S_, .i32⟩
  | 56 => ⟨S_, .f32⟩
  | 57 => ⟨S8, .f32⟩
  | 58 => ⟨S1x8x1x1x1, .f32⟩
  | 59 => ⟨S_, .f32⟩
  | 60 => ⟨S1x8x1x1x1, .f32⟩
  | 61 => ⟨S1x8x1x1x1, .f32⟩
  | 62 => ⟨S2x8x64x64x64, .f32⟩
  | 63 => ⟨S2x8x64x64x64, .f32⟩
  | 64 => ⟨S2x8x64x64x64, .f32⟩
  | 65 => ⟨S_, .f32⟩
  | 66 => ⟨S_, .f32⟩
  | 67 => ⟨S_, .f32⟩
  | 68 => ⟨S_, .f32⟩
  | 69 => ⟨S8, .f32⟩
  | 70 => ⟨S1x8x1x1x1, .f32⟩
  | 71 => ⟨S1x8x1x1x1, .f32⟩
  | 72 => ⟨S1x8x1x1x1, .f32⟩
  | 73 => ⟨S_, .f32⟩
  | 74 => ⟨S_, .i1⟩
  | 75 => ⟨S_, .f32⟩
  | 76 => ⟨S_, .f32⟩
  | 77 => ⟨S1x8x1x1x1, .f32⟩
  | 78 => ⟨S1x8x1x1x1, .f32⟩
  | 79 => ⟨S2x8x64x64x64, .f32⟩
  | 80 => ⟨S2x8x64x64x64, .f32⟩
  | 81 => ⟨S_, .f32⟩
  | 82 => ⟨S1x8x1x1x1, .f32⟩
  | 83 => ⟨S1x8x1x1x1, .f32⟩
  | 84 => ⟨S1x8x1x1x1, .f32⟩
  | 85 => ⟨S2x8x64x64x64, .f32⟩
  | 86 => ⟨S2x8x64x64x64, .f32⟩
  | 87 => ⟨S1x8x1x1x1, .f32⟩
  | 88 => ⟨S2x8x64x64x64, .f32⟩
  | 89 => ⟨S2x8x64x64x64, .f32⟩
  | 90 => ⟨S1x8x1x1x1, .f32⟩
  | 91 => ⟨S2x8x64x64x64, .f32⟩
  | 92 => ⟨S2x8x64x64x64, .f32⟩
  | 93 => ⟨S_, .f32⟩
  | 94 => ⟨S2x8x64x64x64, .f32⟩
  | 95 => ⟨S2x8x64x64x64, .i1⟩
  | 96 => ⟨S_, .f32⟩
  | 97 => ⟨S2x8x64x64x64, .f32⟩
  | 98 => ⟨S2x8x64x64x64, .f32⟩
  | 99 => ⟨S2x8x64x64x64, .f32⟩
  | 100 => ⟨S_, .i32⟩
  | 101 => ⟨S_, .f32⟩
  | 102 => ⟨S2x8x66x66x66, .f32⟩
  | 103 => ⟨S2x8x64x64x64, .f32⟩
  | 104 => ⟨S8x8x1x1x1, .f32⟩
  | 105 => ⟨S8x8, .f32⟩
  | 106 => ⟨S8x2x64x64x64, .f32⟩
  | 107 => ⟨S2x8x64x64x64, .f32⟩
  | 108 => ⟨S2x8x64x64x64, .f32⟩
  | 109 => ⟨S8x8x1x1x1, .f32⟩
  | 110 => ⟨S8x8, .f32⟩
  | 111 => ⟨S8x2x64x64x64, .f32⟩
  | 112 => ⟨S2x8x64x64x64, .f32⟩
  | 113 => ⟨S2x8x64x64x64, .f32⟩
  | 114 => ⟨S2x8x64x64x64, .f32⟩
  | 115 => ⟨S8x8x1x1x1, .f32⟩
  | 116 => ⟨S8x8, .f32⟩
  | 117 => ⟨S8x2x64x64x64, .f32⟩
  | 118 => ⟨S2x8x64x64x64, .f32⟩
  | 119 => ⟨S2x8x64x64x64, .f32⟩
  | 120 => ⟨S2x8x64x64x64, .f32⟩
  | 121 => ⟨S8x8x1x1x1, .f32⟩
  | 122 => ⟨S8x8, .f32⟩
  | 123 => ⟨S8x2x64x64x64, .f32⟩
  | 124 => ⟨S2x8x64x64x64, .f32⟩
  | 125 => ⟨S2x8x64x64x64, .f32⟩
  | 126 => ⟨S2x8x64x64x64, .f32⟩
  | 127 => ⟨S8x8x1x1x1, .f32⟩
  | _ => ⟨S2x8x64x64x64, .f32⟩

abbrev hbmTy0_2 (i : Nat) : BufTy := match i % 128 with
  | 0 => ⟨S8x8, .f32⟩
  | 1 => ⟨S8x2x64x64x64, .f32⟩
  | 2 => ⟨S2x8x64x64x64, .f32⟩
  | 3 => ⟨S2x8x64x64x64, .f32⟩
  | 4 => ⟨S2x8x64x64x64, .f32⟩
  | 5 => ⟨S8x8x1x1x1, .f32⟩
  | 6 => ⟨S8x8, .f32⟩
  | 7 => ⟨S8x2x64x64x64, .f32⟩
  | 8 => ⟨S2x8x64x64x64, .f32⟩
  | 9 => ⟨S2x8x64x64x64, .f32⟩
  | 10 => ⟨S2x8x64x64x64, .f32⟩
  | 11 => ⟨S8x8x1x1x1, .f32⟩
  | 12 => ⟨S8x8, .f32⟩
  | 13 => ⟨S8x2x64x64x64, .f32⟩
  | 14 => ⟨S2x8x64x64x64, .f32⟩
  | 15 => ⟨S2x8x64x64x64, .f32⟩
  | 16 => ⟨S2x8x64x64x64, .f32⟩
  | 17 => ⟨S8x8x1x1x1, .f32⟩
  | 18 => ⟨S8x8, .f32⟩
  | 19 => ⟨S8x2x64x64x64, .f32⟩
  | 20 => ⟨S2x8x64x64x64, .f32⟩
  | 21 => ⟨S2x8x64x64x64, .f32⟩
  | 22 => ⟨S2x8x64x64x64, .f32⟩
  | 23 => ⟨S8x8x1x1x1, .f32⟩
  | 24 => ⟨S8x8, .f32⟩
  | 25 => ⟨S8x2x64x64x64, .f32⟩
  | 26 => ⟨S2x8x64x64x64, .f32⟩
  | 27 => ⟨S2x8x64x64x64, .f32⟩
  | 28 => ⟨S2x8x64x64x64, .f32⟩
  | 29 => ⟨S8x8x1x1x1, .f32⟩
  | 30 => ⟨S8x8, .f32⟩
  | 31 => ⟨S8x2x64x64x64, .f32⟩
  | 32 => ⟨S2x8x64x64x64, .f32⟩
  | 33 => ⟨S2x8x64x64x64, .f32⟩
  | 34 => ⟨S2x8x64x64x64, .f32⟩
  | 35 => ⟨S8x8x1x1x1, .f32⟩
  | 36 => ⟨S8x8, .f32⟩
  | 37 => ⟨S8x2x64x64x64, .f32⟩
  | 38 => ⟨S2x8x64x64x64, .f32⟩
  | 39 => ⟨S2x8x64x64x64, .f32⟩
  | 40 => ⟨S2x8x64x64x64, .f32⟩
  | 41 => ⟨S8x8x1x1x1, .f32⟩
  | 42 => ⟨S8x8, .f32⟩
  | 43 => ⟨S8x2x64x64x64, .f32⟩
  | 44 => ⟨S2x8x64x64x64, .f32⟩
  | 45 => ⟨S2x8x64x64x64, .f32⟩
  | 46 => ⟨S2x8x64x64x64, .f32⟩
  | 47 => ⟨S8x8x1x1x1, .f32⟩
  | 48 => ⟨S8x8, .f32⟩
  | 49 => ⟨S8x2x64x64x64, .f32⟩
  | 50 => ⟨S2x8x64x64x64, .f32⟩
  | 51 => ⟨S2x8x64x64x64, .f32⟩
  | 52 => ⟨S2x8x64x64x64, .f32⟩
  | 53 => ⟨S8x8x1x1x1, .f32⟩
  | 54 => ⟨S8x8, .f32⟩
  | 55 => ⟨S8x2x64x64x64, .f32⟩
  | 56 => ⟨S2x8x64x64x64, .f32⟩
  | 57 => ⟨S2x8x64x64x64, .f32⟩
  | 58 => ⟨S2x8x64x64x64, .f32⟩
  | 59 => ⟨S8x8x1x1x1, .f32⟩
  | 60 => ⟨S8x8, .f32⟩
  | 61 => ⟨S8x2x64x64x64, .f32⟩
  | 62 => ⟨S2x8x64x64x64, .f32⟩
  | 63 => ⟨S2x8x64x64x64, .f32⟩
  | 64 => ⟨S2x8x64x64x64, .f32⟩
  | 65 => ⟨S8x8x1x1x1, .f32⟩
  | 66 => ⟨S8x8, .f32⟩
  | 67 => ⟨S8x2x64x64x64, .f32⟩
  | 68 => ⟨S2x8x64x64x64, .f32⟩
  | 69 => ⟨S2x8x64x64x64, .f32⟩
  | 70 => ⟨S2x8x64x64x64, .f32⟩
  | 71 => ⟨S8x8x1x1x1, .f32⟩
  | 72 => ⟨S8x8, .f32⟩
  | 73 => ⟨S8x2x64x64x64, .f32⟩
  | 74 => ⟨S2x8x64x64x64, .f32⟩
  | 75 => ⟨S2x8x64x64x64, .f32⟩
  | 76 => ⟨S2x8x64x64x64, .f32⟩
  | 77 => ⟨S8x8x1x1x1, .f32⟩
  | 78 => ⟨S8x8, .f32⟩
  | 79 => ⟨S8x2x64x64x64, .f32⟩
  | 80 => ⟨S2x8x64x64x64, .f32⟩
  | 81 => ⟨S2x8x64x64x64, .f32⟩
  | 82 => ⟨S2x8x64x64x64, .f32⟩
  | 83 => ⟨S8x8x1x1x1, .f32⟩
  | 84 => ⟨S8x8, .f32⟩
  | 85 => ⟨S8x2x64x64x64, .f32⟩
  | 86 => ⟨S2x8x64x64x64, .f32⟩
  | 87 => ⟨S2x8x64x64x64, .f32⟩
  | 88 => ⟨S2x8x64x64x64, .f32⟩
  | 89 => ⟨S8x8x1x1x1, .f32⟩
  | 90 => ⟨S8x8, .f32⟩
  | 91 => ⟨S8x2x64x64x64, .f32⟩
  | 92 => ⟨S2x8x64x64x64, .f32⟩
  | 93 => ⟨S2x8x64x64x64, .f32⟩
  | 94 => ⟨S2x8x64x64x64, .f32⟩
  | 95 => ⟨S8x8x1x1x1, .f32⟩
  | 96 => ⟨S8x8, .f32⟩
  | 97 => ⟨S8x2x64x64x64, .f32⟩
  | 98 => ⟨S2x8x64x64x64, .f32⟩
  | 99 => ⟨S2x8x64x64x64, .f32⟩
  | 100 => ⟨S2x8x64x64x64, .f32⟩
  | 101 => ⟨S8x8x1x1x1, .f32⟩
  | 102 => ⟨S8x8, .f32⟩
  | 103 => ⟨S8x2x64x64x64, .f32⟩
  | 104 => ⟨S2x8x64x64x64, .f32⟩
  | 105 => ⟨S2x8x64x64x64, .f32⟩
  | 106 => ⟨S2x8x64x64x64, .f32⟩
  | 107 => ⟨S8x8x1x1x1, .f32⟩
  | 108 => ⟨S8x8, .f32⟩
  | 109 => ⟨S8x2x64x64x64, .f32⟩
  | 110 => ⟨S2x8x64x64x64, .f32⟩
  | 111 => ⟨S2x8x64x64x64, .f32⟩
  | 112 => ⟨S2x8x64x64x64, .f32⟩
  | 113 => ⟨S8x8x1x1x1, .f32⟩
  | 114 => ⟨S8x8, .f32⟩
  | 115 => ⟨S8x2x64x64x64, .f32⟩
  | 116 => ⟨S2x8x64x64x64, .f32⟩
  | 117 => ⟨S2x8x64x64x64, .f32⟩
  | 118 => ⟨S2x8x64x64x64, .f32⟩
  | 119 => ⟨S8x8x1x1x1, .f32⟩
  | 120 => ⟨S8x8, .f32⟩
  | 121 => ⟨S8x2x64x64x64, .f32⟩
  | 122 => ⟨S2x8x64x64x64, .f32⟩
  | 123 => ⟨S2x8x64x64x64, .f32⟩
  | 124 => ⟨S2x8x64x64x64, .f32⟩
  | 125 => ⟨S8x8x1x1x1, .f32⟩
  | 126 => ⟨S8x8, .f32⟩
  | 127 => ⟨S8x2x64x64x64, .f32⟩
  | _ => ⟨S2x8x64x64x64, .f32⟩

abbrev hbmTy0_3 (i : Nat) : BufTy := match i % 128 with
  | 0 => ⟨S2x8x64x64x64, .f32⟩
  | 1 => ⟨S2x8x64x64x64, .f32⟩
  | 2 => ⟨S2x8x64x64x64, .f32⟩
  | 3 => ⟨S8x8x1x1x1, .f32⟩
  | 4 => ⟨S8x8, .f32⟩
  | 5 => ⟨S8x2x64x64x64, .f32⟩
  | 6 => ⟨S2x8x64x64x64, .f32⟩
  | 7 => ⟨S2x8x64x64x64, .f32⟩
  | 8 => ⟨S1x8x1x1x1, .f32⟩
  | 9 => ⟨S2x8x64x64x64, .f32⟩
  | 10 => ⟨S2x8x64x64x64, .f32⟩
  | _ => ⟨S2x8x64x64x64, .f32⟩

abbrev hbmTy (i : Nat) : BufTy := match i / 128 with
  | 0 => hbmTy0_0 i
  | 1 => hbmTy0_1 i
  | 2 => hbmTy0_2 i
  | 3 => hbmTy0_3 i
  | _ => ⟨S2x8x64x64x64, .f32⟩

abbrev bufTy : (tb : Table) → Fin (tcTables nBuf tb) → BufTy
  | .hbm, ⟨i, _⟩ => hbmTy i
  | _, _ => ⟨S2x8x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_cst : Ref sig .tc := ⟨.hbm, 177, rfl⟩
abbrev main_v167 : Ref sig .tc := ⟨.hbm, 178, rfl⟩
abbrev main_v168 : Ref sig .tc := ⟨.hbm, 179, rfl⟩
abbrev main_cst_0 : Ref sig .tc := ⟨.hbm, 180, rfl⟩
abbrev main_v169 : Ref sig .tc := ⟨.hbm, 181, rfl⟩
abbrev main_v170 : Ref sig .tc := ⟨.hbm, 182, rfl⟩
abbrev main_c_1 : Ref sig .tc := ⟨.hbm, 183, rfl⟩
abbrev main_call1_cst : Ref sig .tc := ⟨.hbm, 184, rfl⟩
abbrev main_call1_v0 : Ref sig .tc := ⟨.hbm, 185, rfl⟩
abbrev main_call1_v1 : Ref sig .tc := ⟨.hbm, 186, rfl⟩
abbrev main_call1_cst_0 : Ref sig .tc := ⟨.hbm, 187, rfl⟩
abbrev main_call1_v2 : Ref sig .tc := ⟨.hbm, 188, rfl⟩
abbrev main_call1_v3 : Ref sig .tc := ⟨.hbm, 189, rfl⟩
abbrev main_call1_v4 : Ref sig .tc := ⟨.hbm, 190, rfl⟩
abbrev main_call1_v5 : Ref sig .tc := ⟨.hbm, 191, rfl⟩
abbrev main_call1_v6 : Ref sig .tc := ⟨.hbm, 192, rfl⟩
abbrev main_call1_v7 : Ref sig .tc := ⟨.hbm, 193, rfl⟩
abbrev main_call1_cst_1 : Ref sig .tc := ⟨.hbm, 194, rfl⟩
abbrev main_call1_v8 : Ref sig .tc := ⟨.hbm, 195, rfl⟩
abbrev main_call1_cst_2 : Ref sig .tc := ⟨.hbm, 196, rfl⟩
abbrev main_call1_v9 : Ref sig .tc := ⟨.hbm, 197, rfl⟩
abbrev main_call1_v10 : Ref sig .tc := ⟨.hbm, 198, rfl⟩
abbrev main_call1_v11 : Ref sig .tc := ⟨.hbm, 199, rfl⟩
abbrev main_call1_v12 : Ref sig .tc := ⟨.hbm, 200, rfl⟩
abbrev main_call1_cst_3 : Ref sig .tc := ⟨.hbm, 201, rfl⟩
abbrev main_call1_v13 : Ref sig .tc := ⟨.hbm, 202, rfl⟩
abbrev main_call1_cst_4 : Ref sig .tc := ⟨.hbm, 203, rfl⟩
abbrev main_call1_call0_v0 : Ref sig .tc := ⟨.hbm, 204, rfl⟩
abbrev main_call1_call0_v1 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_cst_2 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_cst_3 : Ref sig .tc := ⟨.hbm, 221, rfl⟩
abbrev main_v185 : Ref sig .tc := ⟨.hbm, 222, rfl⟩
abbrev main_v186 : Ref sig .tc := ⟨.hbm, 223, rfl⟩
abbrev main_cst_4 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_c_5 : Ref sig .tc := ⟨.hbm, 228, rfl⟩
abbrev main_call3_v0 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_v226 : Ref sig .tc := ⟨.hbm, 266, rfl⟩
abbrev main_v227 : Ref sig .tc := ⟨.hbm, 267, rfl⟩
abbrev main_v228 : Ref sig .tc := ⟨.hbm, 268, rfl⟩
abbrev main_v229 : Ref sig .tc := ⟨.hbm, 269, rfl⟩
abbrev main_v230 : Ref sig .tc := ⟨.hbm, 270, rfl⟩
abbrev main_v231 : Ref sig .tc := ⟨.hbm, 271, rfl⟩
abbrev main_v232 : Ref sig .tc := ⟨.hbm, 272, rfl⟩
abbrev main_v233 : Ref sig .tc := ⟨.hbm, 273, rfl⟩
abbrev main_v234 : Ref sig .tc := ⟨.hbm, 274, rfl⟩
abbrev main_v235 : Ref sig .tc := ⟨.hbm, 275, rfl⟩
abbrev main_v236 : Ref sig .tc := ⟨.hbm, 276, rfl⟩
abbrev main_v237 : Ref sig .tc := ⟨.hbm, 277, rfl⟩
abbrev main_v238 : Ref sig .tc := ⟨.hbm, 278, rfl⟩
abbrev main_v239 : Ref sig .tc := ⟨.hbm, 279, rfl⟩
abbrev main_v240 : Ref sig .tc := ⟨.hbm, 280, rfl⟩
abbrev main_v241 : Ref sig .tc := ⟨.hbm, 281, rfl⟩
abbrev main_v242 : Ref sig .tc := ⟨.hbm, 282, rfl⟩
abbrev main_v243 : Ref sig .tc := ⟨.hbm, 283, rfl⟩
abbrev main_v244 : Ref sig .tc := ⟨.hbm, 284, rfl⟩
abbrev main_v245 : Ref sig .tc := ⟨.hbm, 285, rfl⟩
abbrev main_v246 : Ref sig .tc := ⟨.hbm, 286, rfl⟩
abbrev main_v247 : Ref sig .tc := ⟨.hbm, 287, rfl⟩
abbrev main_v248 : Ref sig .tc := ⟨.hbm, 288, rfl⟩
abbrev main_v249 : Ref sig .tc := ⟨.hbm, 289, rfl⟩
abbrev main_v250 : Ref sig .tc := ⟨.hbm, 290, rfl⟩
abbrev main_v251 : Ref sig .tc := ⟨.hbm, 291, rfl⟩
abbrev main_v252 : Ref sig .tc := ⟨.hbm, 292, rfl⟩
abbrev main_v253 : Ref sig .tc := ⟨.hbm, 293, rfl⟩
abbrev main_v254 : Ref sig .tc := ⟨.hbm, 294, rfl⟩
abbrev main_v255 : Ref sig .tc := ⟨.hbm, 295, rfl⟩
abbrev main_v256 : Ref sig .tc := ⟨.hbm, 296, rfl⟩
abbrev main_v257 : Ref sig .tc := ⟨.hbm, 297, rfl⟩
abbrev main_v258 : Ref sig .tc := ⟨.hbm, 298, rfl⟩
abbrev main_v259 : Ref sig .tc := ⟨.hbm, 299, rfl⟩
abbrev main_v260 : Ref sig .tc := ⟨.hbm, 300, rfl⟩
abbrev main_v261 : Ref sig .tc := ⟨.hbm, 301, rfl⟩
abbrev main_v262 : Ref sig .tc := ⟨.hbm, 302, rfl⟩
abbrev main_v263 : Ref sig .tc := ⟨.hbm, 303, rfl⟩
abbrev main_v264 : Ref sig .tc := ⟨.hbm, 304, rfl⟩
abbrev main_v265 : Ref sig .tc := ⟨.hbm, 305, rfl⟩
abbrev main_v266 : Ref sig .tc := ⟨.hbm, 306, rfl⟩
abbrev main_v267 : Ref sig .tc := ⟨.hbm, 307, rfl⟩
abbrev main_v268 : Ref sig .tc := ⟨.hbm, 308, rfl⟩
abbrev main_v269 : Ref sig .tc := ⟨.hbm, 309, rfl⟩
abbrev main_v270 : Ref sig .tc := ⟨.hbm, 310, rfl⟩
abbrev main_v271 : Ref sig .tc := ⟨.hbm, 311, rfl⟩
abbrev main_v272 : Ref sig .tc := ⟨.hbm, 312, rfl⟩
abbrev main_v273 : Ref sig .tc := ⟨.hbm, 313, rfl⟩
abbrev main_v274 : Ref sig .tc := ⟨.hbm, 314, rfl⟩
abbrev main_v275 : Ref sig .tc := ⟨.hbm, 315, rfl⟩
abbrev main_v276 : Ref sig .tc := ⟨.hbm, 316, rfl⟩
abbrev main_v277 : Ref sig .tc := ⟨.hbm, 317, rfl⟩
abbrev main_v278 : Ref sig .tc := ⟨.hbm, 318, rfl⟩
abbrev main_v279 : Ref sig .tc := ⟨.hbm, 319, rfl⟩
abbrev main_v280 : Ref sig .tc := ⟨.hbm, 320, rfl⟩
abbrev main_v281 : Ref sig .tc := ⟨.hbm, 321, rfl⟩
abbrev main_v282 : Ref sig .tc := ⟨.hbm, 322, rfl⟩
abbrev main_v283 : Ref sig .tc := ⟨.hbm, 323, rfl⟩
abbrev main_v284 : Ref sig .tc := ⟨.hbm, 324, rfl⟩
abbrev main_v285 : Ref sig .tc := ⟨.hbm, 325, rfl⟩
abbrev main_v286 : Ref sig .tc := ⟨.hbm, 326, rfl⟩
abbrev main_v287 : Ref sig .tc := ⟨.hbm, 327, rfl⟩
abbrev main_v288 : Ref sig .tc := ⟨.hbm, 328, rfl⟩
abbrev main_v289 : Ref sig .tc := ⟨.hbm, 329, rfl⟩
abbrev main_v290 : Ref sig .tc := ⟨.hbm, 330, rfl⟩
abbrev main_v291 : Ref sig .tc := ⟨.hbm, 331, rfl⟩
abbrev main_v292 : Ref sig .tc := ⟨.hbm, 332, rfl⟩
abbrev main_v293 : Ref sig .tc := ⟨.hbm, 333, rfl⟩
abbrev main_v294 : Ref sig .tc := ⟨.hbm, 334, rfl⟩
abbrev main_v295 : Ref sig .tc := ⟨.hbm, 335, rfl⟩
abbrev main_v296 : Ref sig .tc := ⟨.hbm, 336, rfl⟩
abbrev main_v297 : Ref sig .tc := ⟨.hbm, 337, rfl⟩
abbrev main_v298 : Ref sig .tc := ⟨.hbm, 338, rfl⟩
abbrev main_v299 : Ref sig .tc := ⟨.hbm, 339, rfl⟩
abbrev main_v300 : Ref sig .tc := ⟨.hbm, 340, rfl⟩
abbrev main_v301 : Ref sig .tc := ⟨.hbm, 341, rfl⟩
abbrev main_v302 : Ref sig .tc := ⟨.hbm, 342, rfl⟩
abbrev main_v303 : Ref sig .tc := ⟨.hbm, 343, rfl⟩
abbrev main_v304 : Ref sig .tc := ⟨.hbm, 344, rfl⟩
abbrev main_v305 : Ref sig .tc := ⟨.hbm, 345, rfl⟩
abbrev main_v306 : Ref sig .tc := ⟨.hbm, 346, rfl⟩
abbrev main_v307 : Ref sig .tc := ⟨.hbm, 347, rfl⟩
abbrev main_v308 : Ref sig .tc := ⟨.hbm, 348, rfl⟩
abbrev main_v309 : Ref sig .tc := ⟨.hbm, 349, rfl⟩
abbrev main_v310 : Ref sig .tc := ⟨.hbm, 350, rfl⟩
abbrev main_v311 : Ref sig .tc := ⟨.hbm, 351, rfl⟩
abbrev main_v312 : Ref sig .tc := ⟨.hbm, 352, rfl⟩
abbrev main_v313 : Ref sig .tc := ⟨.hbm, 353, rfl⟩
abbrev main_v314 : Ref sig .tc := ⟨.hbm, 354, rfl⟩
abbrev main_v315 : Ref sig .tc := ⟨.hbm, 355, rfl⟩
abbrev main_v316 : Ref sig .tc := ⟨.hbm, 356, rfl⟩
abbrev main_v317 : Ref sig .tc := ⟨.hbm, 357, rfl⟩
abbrev main_v318 : Ref sig .tc := ⟨.hbm, 358, rfl⟩
abbrev main_v319 : Ref sig .tc := ⟨.hbm, 359, rfl⟩
abbrev main_v320 : Ref sig .tc := ⟨.hbm, 360, rfl⟩
abbrev main_v321 : Ref sig .tc := ⟨.hbm, 361, rfl⟩
abbrev main_v322 : Ref sig .tc := ⟨.hbm, 362, rfl⟩
abbrev main_v323 : Ref sig .tc := ⟨.hbm, 363, rfl⟩
abbrev main_v324 : Ref sig .tc := ⟨.hbm, 364, rfl⟩
abbrev main_v325 : Ref sig .tc := ⟨.hbm, 365, rfl⟩
abbrev main_v326 : Ref sig .tc := ⟨.hbm, 366, rfl⟩
abbrev main_v327 : Ref sig .tc := ⟨.hbm, 367, rfl⟩
abbrev main_v328 : Ref sig .tc := ⟨.hbm, 368, rfl⟩
abbrev main_v329 : Ref sig .tc := ⟨.hbm, 369, rfl⟩
abbrev main_v330 : Ref sig .tc := ⟨.hbm, 370, rfl⟩
abbrev main_v331 : Ref sig .tc := ⟨.hbm, 371, rfl⟩
abbrev main_v332 : Ref sig .tc := ⟨.hbm, 372, rfl⟩
abbrev main_v333 : Ref sig .tc := ⟨.hbm, 373, rfl⟩
abbrev main_v334 : Ref sig .tc := ⟨.hbm, 374, rfl⟩
abbrev main_v335 : Ref sig .tc := ⟨.hbm, 375, rfl⟩
abbrev main_v336 : Ref sig .tc := ⟨.hbm, 376, rfl⟩
abbrev main_v337 : Ref sig .tc := ⟨.hbm, 377, rfl⟩
abbrev main_v338 : Ref sig .tc := ⟨.hbm, 378, rfl⟩
abbrev main_v339 : Ref sig .tc := ⟨.hbm, 379, rfl⟩
abbrev main_v340 : Ref sig .tc := ⟨.hbm, 380, rfl⟩
abbrev main_v341 : Ref sig .tc := ⟨.hbm, 381, rfl⟩
abbrev main_v342 : Ref sig .tc := ⟨.hbm, 382, rfl⟩
abbrev main_v343 : Ref sig .tc := ⟨.hbm, 383, rfl⟩
abbrev main_v344 : Ref sig .tc := ⟨.hbm, 384, rfl⟩
abbrev main_v345 : Ref sig .tc := ⟨.hbm, 385, rfl⟩
abbrev main_v346 : Ref sig .tc := ⟨.hbm, 386, rfl⟩
abbrev main_v347 : Ref sig .tc := ⟨.hbm, 387, rfl⟩
abbrev main_v348 : Ref sig .tc := ⟨.hbm, 388, rfl⟩
abbrev main_v349 : Ref sig .tc := ⟨.hbm, 389, rfl⟩
abbrev main_v350 : Ref sig .tc := ⟨.hbm, 390, rfl⟩
abbrev main_v351 : Ref sig .tc := ⟨.hbm, 391, rfl⟩
abbrev main_v352 : Ref sig .tc := ⟨.hbm, 392, rfl⟩
abbrev main_v353 : Ref sig .tc := ⟨.hbm, 393, rfl⟩
abbrev main_v354 : Ref sig .tc := ⟨.hbm, 394, rfl⟩

abbrev nD : Nat := 1
abbrev τ : Topo := Topo.v7x

variable {F : FTy → Type} [FloatOps F]
-- ==== Sample.lean ====
abbrev S2x8x64x64x64 : Shape := ⟨5, ![2, 8, 64, 64, 64]⟩
abbrev S2x8x256x256 : Shape := ⟨4, ![2, 8, 256, 256]⟩
abbrev S64x64 : Shape := ⟨2, ![64, 64]⟩
abbrev S6x16x3x3x3 : Shape := ⟨5, ![6, 16, 3, 3, 3]⟩
abbrev S6 : Shape := ⟨1, ![6]⟩
abbrev S3x16x3x3x3 : Shape := ⟨5, ![3, 16, 3, 3, 3]⟩
abbrev S3 : Shape := ⟨1, ![3]⟩
abbrev S1x1x3 : Shape := ⟨3, ![1, 1, 3]⟩
abbrev S64x64x1 : Shape := ⟨3, ![64, 64, 1]⟩
abbrev S64x64x3 : Shape := ⟨3, ![64, 64, 3]⟩
abbrev S_ : Shape := ⟨0, ![]⟩
abbrev S64x3x64 : Shape := ⟨3, ![64, 3, 64]⟩
abbrev S1 : Shape := ⟨1, ![1]⟩
abbrev S1x3 : Shape := ⟨2, ![1, 3]⟩
abbrev S2x8x258x258 : Shape := ⟨4, ![2, 8, 258, 258]⟩
abbrev S2x8x160x160 : Shape := ⟨4, ![2, 8, 160, 160]⟩
abbrev S2x1280x160 : Shape := ⟨3, ![2, 1280, 160]⟩
abbrev S2x64x8x64x64 : Shape := ⟨5, ![2, 64, 8, 64, 64]⟩
abbrev S2x64x6x64x64 : Shape := ⟨5, ![2, 64, 6, 64, 64]⟩
abbrev S1x1280x160 : Shape := ⟨3, ![1, 1280, 160]⟩
abbrev S1x64x3 : Shape := ⟨3, ![1, 64, 3]⟩
abbrev S1x3x64 : Shape := ⟨3, ![1, 3, 64]⟩
abbrev S1x1x8x64x64 : Shape := ⟨5, ![1, 1, 8, 64, 64]⟩
abbrev S1x1x6x64x64 : Shape := ⟨5, ![1, 1, 6, 64, 64]⟩
abbrev S1280x160 : Shape := ⟨2, ![1280, 160]⟩
abbrev S64x3 : Shape := ⟨2, ![64, 3]⟩
abbrev S64x160 : Shape := ⟨2, ![64, 160]⟩
abbrev S64x1 : Shape := ⟨2, ![64, 1]⟩
abbrev S1x1 : Shape := ⟨2, ![1, 1]⟩
abbrev S1280x64 : Shape := ⟨2, ![1280, 64]⟩
abbrev S160x64 : Shape := ⟨2, ![160, 64]⟩
abbrev S1x64x64 : Shape := ⟨3, ![1, 64, 64]⟩
abbrev S8x64x64 : Shape := ⟨3, ![8, 64, 64]⟩
abbrev S3x64 : Shape := ⟨2, ![3, 64]⟩
abbrev S3x64x1 : Shape := ⟨3, ![3, 64, 1]⟩
abbrev S3x64x64 : Shape := ⟨3, ![3, 64, 64]⟩
abbrev S3x1x64 : Shape := ⟨3, ![3, 1, 64]⟩
abbrev S6x64x64 : Shape := ⟨3, ![6, 64, 64]⟩

abbrev nBuf : Space → Nat
  | .hbm => 65
  | .vmem => 14
  | .smem => 1
  | _ => 0

abbrev bufTy : (tb : Table) → Fin (tcTables nBuf tb) → BufTy
  | .hbm, ⟨0, _⟩ => ⟨S2x8x64x64x64, .f32⟩
  | .hbm, ⟨1, _⟩ => ⟨S2x8x256x256, .f32⟩
  | .hbm, ⟨2, _⟩ => ⟨S64x64, .f32⟩
  | .hbm, ⟨3, _⟩ => ⟨S64x64, .f32⟩
  | .hbm, ⟨4, _⟩ => ⟨S6x16x3x3x3, .f32⟩
  | .hbm, ⟨5, _⟩ => ⟨S6, .f32⟩
  | .hbm, ⟨6, _⟩ => ⟨S3x16x3x3x3, .f32⟩
  | .hbm, ⟨7, _⟩ => ⟨S3, .f32⟩
  | .hbm, ⟨8, _⟩ => ⟨S3, .f32⟩
  | .hbm, ⟨9, _⟩ => ⟨S1x1x3, .f32⟩
  | .hbm, ⟨10, _⟩ => ⟨S64x64x1, .f32⟩
  | .hbm, ⟨11, _⟩ => ⟨S64x64x3, .f32⟩
  | .hbm, ⟨12, _⟩ => ⟨S64x64x3, .f32⟩
  | .hbm, ⟨13, _⟩ => ⟨S64x64x3, .f32⟩
  | .hbm, ⟨14, _⟩ => ⟨S_, .f32⟩
  | .hbm, ⟨15, _⟩ => ⟨S64x64x3, .f32⟩
  | .hbm, ⟨16, _⟩ => ⟨S64x64x3, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S64x64x3, .f32⟩
  | .hbm, ⟨21, _⟩ => ⟨S64x64x3, .f32⟩
  | .hbm, ⟨22, _⟩ => ⟨S_, .f32⟩
  | .hbm, ⟨23, _⟩ => ⟨S64x64x3, .f32⟩
  | .hbm, ⟨24, _⟩ => ⟨S64x64x3, .f32⟩
  | .hbm, ⟨25, _⟩ => ⟨S3, .f32⟩
  | .hbm, ⟨26, _⟩ => ⟨S1x1x3, .f32⟩
  | .hbm, ⟨27, _⟩ => ⟨S64x64x1, .f32⟩
  | .hbm, ⟨28, _⟩ => ⟨S64x64x3, .f32⟩
  | .hbm, ⟨29, _⟩ => ⟨S64x64x3, .f32⟩
  | .hbm, ⟨30, _⟩ => ⟨S64x64x3, .f32⟩
  | .hbm, ⟨31, _⟩ => ⟨S_, .f32⟩
  | .hbm, ⟨32, _⟩ => ⟨S64x64x3, .f32⟩
  | .hbm, ⟨33, _⟩ => ⟨S64x64x3, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S64x64x3, .f32⟩
  | .hbm, ⟨38, _⟩ => ⟨S64x64x3, .f32⟩
  | .hbm, ⟨39, _⟩ => ⟨S_, .f32⟩
  | .hbm, ⟨40, _⟩ => ⟨S64x64x3, .f32⟩
  | .hbm, ⟨41, _⟩ => ⟨S64x64x3, .f32⟩
  | .hbm, ⟨42, _⟩ => ⟨S64x3x64, .f32⟩
  | .hbm, ⟨43, _⟩ => ⟨S64x3x64, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1, .f32⟩
  | .hbm, ⟨49, _⟩ => ⟨S3, .f32⟩
  | .hbm, ⟨50, _⟩ => ⟨S3, .f32⟩
  | .hbm, ⟨51, _⟩ => ⟨S3, .f32⟩
  | .hbm, ⟨52, _⟩ => ⟨S_, .f32⟩
  | .hbm, ⟨53, _⟩ => ⟨S_, .f32⟩
  | .hbm, ⟨54, _⟩ => ⟨S1, .f32⟩
  | .hbm, ⟨55, _⟩ => ⟨S3, .f32⟩
  | .hbm, ⟨56, _⟩ => ⟨S3, .f32⟩
  | .hbm, ⟨57, _⟩ => ⟨S1x3, .f32⟩
  | .hbm, ⟨58, _⟩ => ⟨S_, .i32⟩
  | .hbm, ⟨59, _⟩ => ⟨S_, .f32⟩
  | .hbm, ⟨60, _⟩ => ⟨S2x8x258x258, .f32⟩
  | .hbm, ⟨61, _⟩ => ⟨S2x8x160x160, .f32⟩
  | .hbm, ⟨62, _⟩ => ⟨S2x1280x160, .f32⟩
  | .hbm, ⟨63, _⟩ => ⟨S2x64x8x64x64, .f32⟩
  | .hbm, ⟨64, _⟩ => ⟨S2x64x6x64x64, .f32⟩
  | .local _ .vmem, ⟨0, _⟩ => ⟨S1x1280x160, .f32⟩
  | .local _ .vmem, ⟨1, _⟩ => ⟨S1x1280x160, .f32⟩
  | .local _ .vmem, ⟨2, _⟩ => ⟨S1x64x3, .f32⟩
  | .local _ .vmem, ⟨3, _⟩ => ⟨S1x64x3, .f32⟩
  | .local _ .vmem, ⟨4, _⟩ => ⟨S1x64x3, .f32⟩
  | .local _ .vmem, ⟨5, _⟩ => ⟨S1x64x3, .f32⟩
  | .local _ .vmem, ⟨6, _⟩ => ⟨S1x3x64, .f32⟩
  | .local _ .vmem, ⟨7, _⟩ => ⟨S1x3x64, .f32⟩
  | .local _ .vmem, ⟨8, _⟩ => ⟨S1x3x64, .f32⟩
  | .local _ .vmem, ⟨9, _⟩ => ⟨S1x3x64, .f32⟩
  | .local _ .vmem, ⟨10, _⟩ => ⟨S1x1x8x64x64, .f32⟩
  | .local _ .vmem, ⟨11, _⟩ => ⟨S1x1x8x64x64, .f32⟩
  | .local _ .vmem, ⟨12, _⟩ => ⟨S1x1x6x64x64, .f32⟩
  | .local _ .vmem, ⟨13, _⟩ => ⟨S1x1x6x64x64, .f32⟩
  | .local _ .smem, ⟨0, _⟩ => ⟨S1x3, .f32⟩
  | _, _ => ⟨S2x8x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_cst_4 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_5 : Ref sig .tc := ⟨.hbm, 44, rfl⟩
abbrev main_v20 : Ref sig .tc := ⟨.hbm, 45, rfl⟩
abbrev main_cst_6 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_7 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c : Ref sig .tc := ⟨.hbm, 58, rfl⟩
abbrev main_call2_v0 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34_0 : Ref sig .tc := ⟨.hbm, 63, rfl⟩
abbrev main_v34_1 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x1280x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x64x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x3x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .smem S1x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x8x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x6x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SampleReferenceIdeal.lean ====
abbrev S2x8x64x64x64 : Shape := ⟨5, ![2, 8, 64, 64, 64]⟩
abbrev S2x8x256x256 : Shape := ⟨4, ![2, 8, 256, 256]⟩
abbrev S64x64 : Shape := ⟨2, ![64, 64]⟩
abbrev S6x16x3x3x3 : Shape := ⟨5, ![6, 16, 3, 3, 3]⟩
abbrev S6 : Shape := ⟨1, ![6]⟩
abbrev S3x16x3x3x3 : Shape := ⟨5, ![3, 16, 3, 3, 3]⟩
abbrev S3 : Shape := ⟨1, ![3]⟩
abbrev S1x64x64x1 : Shape := ⟨4, ![1, 64, 64, 1]⟩
abbrev S2x64x64x64 : Shape := ⟨4, ![2, 64, 64, 64]⟩
abbrev S1x64x1x64 : Shape := ⟨4, ![1, 64, 1, 64]⟩
abbrev S_ : Shape := ⟨0, ![]⟩
abbrev S2x1x64x64x64 : Shape := ⟨5, ![2, 1, 64, 64, 64]⟩
abbrev S2x262144 : Shape := ⟨2, ![2, 262144]⟩
abbrev S2x8x65536 : Shape := ⟨3, ![2, 8, 65536]⟩
abbrev S2x262144x1 : Shape := ⟨3, ![2, 262144, 1]⟩
abbrev S2x8x262144 : Shape := ⟨3, ![2, 8, 262144]⟩
abbrev S2x16x64x64x64 : Shape := ⟨5, ![2, 16, 64, 64, 64]⟩
abbrev S2x8x258x258 : Shape := ⟨4, ![2, 8, 258, 258]⟩
abbrev S2x16x66x66x66 : Shape := ⟨5, ![2, 16, 66, 66, 66]⟩
abbrev S6x16x1x1x1 : Shape := ⟨5, ![6, 16, 1, 1, 1]⟩
abbrev S6x16 : Shape := ⟨2, ![6, 16]⟩
abbrev S6x2x64x64x64 : Shape := ⟨5, ![6, 2, 64, 64, 64]⟩
abbrev S2x6x64x64x64 : Shape := ⟨5, ![2, 6, 64, 64, 64]⟩
abbrev S1x6x1x1x1 : Shape := ⟨5, ![1, 6, 1, 1, 1]⟩
abbrev S2x64x64x64x6 : Shape := ⟨5, ![2, 64, 64, 64, 6]⟩
abbrev S3x16x1x1x1 : Shape := ⟨5, ![3, 16, 1, 1, 1]⟩
abbrev S3x16 : Shape := ⟨2, ![3, 16]⟩
abbrev S3x2x64x64x64 : Shape := ⟨5, ![3, 2, 64, 64, 64]⟩
abbrev S2x3x64x64x64 : Shape := ⟨5, ![2, 3, 64, 64, 64]⟩
abbrev S1x3x1x1x1 : Shape := ⟨5, ![1, 3, 1, 1, 1]⟩
abbrev S2x64x64x64x3 : Shape := ⟨5, ![2, 64, 64, 64, 3]⟩
abbrev S2x64x64x64x1 : Shape := ⟨5, ![2, 64, 64, 64, 1]⟩
abbrev S2x1x64x64x64x3 : Shape := ⟨6, ![2, 1, 64, 64, 64, 3]⟩
abbrev S2x786432 : Shape := ⟨2, ![2, 786432]⟩
abbrev S2x8x66564 : Shape := ⟨3, ![2, 8, 66564]⟩
abbrev S2x786432x1 : Shape := ⟨3, ![2, 786432, 1]⟩
abbrev S2x8x786432 : Shape := ⟨3, ![2, 8, 786432]⟩
abbrev S2x8x64x64x64x3 : Shape := ⟨6, ![2, 8, 64, 64, 64, 3]⟩
abbrev S2x64x8x64x64 : Shape := ⟨5, ![2, 64, 8, 64, 64]⟩
abbrev S2x64x6x64x64 : Shape := ⟨5, ![2, 64, 6, 64, 64]⟩

abbrev nBuf : Space → Nat
  | .hbm => 646
  | .vmem => 0
  | .smem => 0
  | _ => 0

abbrev hbmTy0_0 (i : Nat) : BufTy := match i % 128 with
  | 0 => ⟨S2x8x64x64x64, .f32⟩
  | 1 => ⟨S2x8x256x256, .f32⟩
  | 2 => ⟨S64x64, .f32⟩
  | 3 => ⟨S64x64, .f32⟩
  | 4 => ⟨S6x16x3x3x3, .f32⟩
  | 5 => ⟨S6, .f32⟩
  | 6 => ⟨S3x16x3x3x3, .f32⟩
  | 7 => ⟨S3, .f32⟩
  | 8 => ⟨S1x64x64x1, .f32⟩
  | 9 => ⟨S2x64x64x64, .f32⟩
  | 10 => ⟨S1x64x1x64, .f32⟩
  | 11 => ⟨S2x64x64x64, .f32⟩
  | 12 => ⟨S2x64x64x64, .f32⟩
  | 13 => ⟨S_, .i32⟩
  | 14 => ⟨S_, .i32⟩
  | 15 => ⟨S_, .f32⟩
  | 16 => ⟨S2x64x64x64, .f32⟩
  | 17 => ⟨S2x64x64x64, .f32⟩
  | 18 => ⟨S_, .f32⟩
  | 19 => ⟨S2x64x64x64, .f32⟩
  | 20 => ⟨S2x64x64x64, .f32⟩
  | 21 => ⟨S2x64x64x64, .i32⟩
  | 22 => ⟨S2x64x64x64, .f32⟩
  | 23 => ⟨S_, .f32⟩
  | 24 => ⟨S2x64x64x64, .f32⟩
  | 25 => ⟨S2x64x64x64, .f32⟩
  | 26 => ⟨S_, .i32⟩
  | 27 => ⟨S_, .i32⟩
  | 28 => ⟨S_, .f32⟩
  | 29 => ⟨S2x64x64x64, .f32⟩
  | 30 => ⟨S2x64x64x64, .f32⟩
  | 31 => ⟨S_, .f32⟩
  | 32 => ⟨S2x64x64x64, .f32⟩
  | 33 => ⟨S2x64x64x64, .f32⟩
  | 34 => ⟨S2x64x64x64, .i32⟩
  | 35 => ⟨S2x64x64x64, .f32⟩
  | 36 => ⟨S_, .i32⟩
  | 37 => ⟨S_, .i32⟩
  | 38 => ⟨S_, .f32⟩
  | 39 => ⟨S2x64x64x64, .f32⟩
  | 40 => ⟨S2x64x64x64, .f32⟩
  | 41 => ⟨S_, .f32⟩
  | 42 => ⟨S2x64x64x64, .f32⟩
  | 43 => ⟨S2x64x64x64, .f32⟩
  | 44 => ⟨S2x64x64x64, .i32⟩
  | 45 => ⟨S2x64x64x64, .f32⟩
  | 46 => ⟨S_, .f32⟩
  | 47 => ⟨S2x64x64x64, .f32⟩
  | 48 => ⟨S2x64x64x64, .f32⟩
  | 49 => ⟨S_, .i32⟩
  | 50 => ⟨S_, .i32⟩
  | 51 => ⟨S_, .f32⟩
  | 52 => ⟨S2x64x64x64, .f32⟩
  | 53 => ⟨S2x64x64x64, .f32⟩
  | 54 => ⟨S_, .f32⟩
  | 55 => ⟨S2x64x64x64, .f32⟩
  | 56 => ⟨S2x64x64x64, .f32⟩
  | 57 => ⟨S2x64x64x64, .i32⟩
  | 58 => ⟨S2x64x64x64, .f32⟩
  | 59 => ⟨S2x64x64x64, .f32⟩
  | 60 => ⟨S_, .f32⟩
  | 61 => ⟨S2x64x64x64, .f32⟩
  | 62 => ⟨S2x64x64x64, .f32⟩
  | 63 => ⟨S2x64x64x64, .f32⟩
  | 64 => ⟨S2x64x64x64, .f32⟩
  | 65 => ⟨S_, .f32⟩
  | 66 => ⟨S2x64x64x64, .f32⟩
  | 67 => ⟨S2x64x64x64, .f32⟩
  | 68 => ⟨S2x64x64x64, .f32⟩
  | 69 => ⟨S2x64x64x64, .f32⟩
  | 70 => ⟨S_, .f32⟩
  | 71 => ⟨S2x64x64x64, .f32⟩
  | 72 => ⟨S2x64x64x64, .f32⟩
  | 73 => ⟨S2x64x64x64, .f32⟩
  | 74 => ⟨S2x64x64x64, .f32⟩
  | 75 => ⟨S_, .f32⟩
  | 76 => ⟨S2x64x64x64, .f32⟩
  | 77 => ⟨S2x64x64x64, .f32⟩
  | 78 => ⟨S2x64x64x64, .f32⟩
  | 79 => ⟨S2x1x64x64x64, .f32⟩
  | 80 => ⟨S_, .i32⟩
  | 81 => ⟨S2x64x64x64, .i32⟩
  | 82 => ⟨S2x64x64x64, .i32⟩
  | 83 => ⟨S2x64x64x64, .i32⟩
  | 84 => ⟨S2x262144, .i32⟩
  | 85 => ⟨S2x8x65536, .f32⟩
  | 86 => ⟨S2x262144x1, .i32⟩
  | 87 => ⟨S2x8x262144, .f32⟩
  | 88 => ⟨S2x8x64x64x64, .f32⟩
  | 89 => ⟨S2x8x64x64x64, .f32⟩
  | 90 => ⟨S2x8x64x64x64, .f32⟩
  | 91 => ⟨S2x64x64x64, .f32⟩
  | 92 => ⟨S2x1x64x64x64, .f32⟩
  | 93 => ⟨S_, .i32⟩
  | 94 => ⟨S2x64x64x64, .i32⟩
  | 95 => ⟨S2x64x64x64, .i32⟩
  | 96 => ⟨S2x64x64x64, .i32⟩
  | 97 => ⟨S2x262144, .i32⟩
  | 98 => ⟨S2x8x65536, .f32⟩
  | 99 => ⟨S2x262144x1, .i32⟩
  | 100 => ⟨S2x8x262144, .f32⟩
  | 101 => ⟨S2x8x64x64x64, .f32⟩
  | 102 => ⟨S2x8x64x64x64, .f32⟩
  | 103 => ⟨S2x8x64x64x64, .f32⟩
  | 104 => ⟨S2x8x64x64x64, .f32⟩
  | 105 => ⟨S2x64x64x64, .f32⟩
  | 106 => ⟨S2x1x64x64x64, .f32⟩
  | 107 => ⟨S_, .i32⟩
  | 108 => ⟨S2x64x64x64, .i32⟩
  | 109 => ⟨S2x64x64x64, .i32⟩
  | 110 => ⟨S2x64x64x64, .i32⟩
  | 111 => ⟨S2x262144, .i32⟩
  | 112 => ⟨S2x8x65536, .f32⟩
  | 113 => ⟨S2x262144x1, .i32⟩
  | 114 => ⟨S2x8x262144, .f32⟩
  | 115 => ⟨S2x8x64x64x64, .f32⟩
  | 116 => ⟨S2x8x64x64x64, .f32⟩
  | 117 => ⟨S2x8x64x64x64, .f32⟩
  | 118 => ⟨S2x8x64x64x64, .f32⟩
  | 119 => ⟨S2x64x64x64, .f32⟩
  | 120 => ⟨S2x1x64x64x64, .f32⟩
  | 121 => ⟨S_, .i32⟩
  | 122 => ⟨S2x64x64x64, .i32⟩
  | 123 => ⟨S2x64x64x64, .i32⟩
  | 124 => ⟨S2x64x64x64, .i32⟩
  | 125 => ⟨S2x262144, .i32⟩
  | 126 => ⟨S2x8x65536, .f32⟩
  | 127 => ⟨S2x262144x1, .i32⟩
  | _ => ⟨S2x8x64x64x64, .f32⟩

abbrev hbmTy0_1 (i : Nat) : BufTy := match i % 128 with
  | 0 => ⟨S2x8x262144, .f32⟩
  | 1 => ⟨S2x8x64x64x64, .f32⟩
  | 2 => ⟨S2x8x64x64x64, .f32⟩
  | 3 => ⟨S2x8x64x64x64, .f32⟩
  | 4 => ⟨S2x8x64x64x64, .f32⟩
  | 5 => ⟨S2x16x64x64x64, .f32⟩
  | 6 => ⟨S_, .i32⟩
  | 7 => ⟨S_, .f32⟩
  | 8 => ⟨S2x8x258x258, .f32⟩
  | 9 => ⟨S_, .i32⟩
  | 10 => ⟨S_, .f32⟩
  | 11 => ⟨S2x16x66x66x66, .f32⟩
  | 12 => ⟨S2x16x64x64x64, .f32⟩
  | 13 => ⟨S6x16x1x1x1, .f32⟩
  | 14 => ⟨S6x16, .f32⟩
  | 15 => ⟨S6x2x64x64x64, .f32⟩
  | 16 => ⟨S2x6x64x64x64, .f32⟩
  | 17 => ⟨S2x16x64x64x64, .f32⟩
  | 18 => ⟨S6x16x1x1x1, .f32⟩
  | 19 => ⟨S6x16, .f32⟩
  | 20 => ⟨S6x2x64x64x64, .f32⟩
  | 21 => ⟨S2x6x64x64x64, .f32⟩
  | 22 => ⟨S2x6x64x64x64, .f32⟩
  | 23 => ⟨S2x16x64x64x64, .f32⟩
  | 24 => ⟨S6x16x1x1x1, .f32⟩
  | 25 => ⟨S6x16, .f32⟩
  | 26 => ⟨S6x2x64x64x64, .f32⟩
  | 27 => ⟨S2x6x64x64x64, .f32⟩
  | 28 => ⟨S2x6x64x64x64, .f32⟩
  | 29 => ⟨S2x16x64x64x64, .f32⟩
  | 30 => ⟨S6x16x1x1x1, .f32⟩
  | 31 => ⟨S6x16, .f32⟩
  | 32 => ⟨S6x2x64x64x64, .f32⟩
  | 33 => ⟨S2x6x64x64x64, .f32⟩
  | 34 => ⟨S2x6x64x64x64, .f32⟩
  | 35 => ⟨S2x16x64x64x64, .f32⟩
  | 36 => ⟨S6x16x1x1x1, .f32⟩
  | 37 => ⟨S6x16, .f32⟩
  | 38 => ⟨S6x2x64x64x64, .f32⟩
  | 39 => ⟨S2x6x64x64x64, .f32⟩
  | 40 => ⟨S2x6x64x64x64, .f32⟩
  | 41 => ⟨S2x16x64x64x64, .f32⟩
  | 42 => ⟨S6x16x1x1x1, .f32⟩
  | 43 => ⟨S6x16, .f32⟩
  | 44 => ⟨S6x2x64x64x64, .f32⟩
  | 45 => ⟨S2x6x64x64x64, .f32⟩
  | 46 => ⟨S2x6x64x64x64, .f32⟩
  | 47 => ⟨S2x16x64x64x64, .f32⟩
  | 48 => ⟨S6x16x1x1x1, .f32⟩
  | 49 => ⟨S6x16, .f32⟩
  | 50 => ⟨S6x2x64x64x64, .f32⟩
  | 51 => ⟨S2x6x64x64x64, .f32⟩
  | 52 => ⟨S2x6x64x64x64, .f32⟩
  | 53 => ⟨S2x16x64x64x64, .f32⟩
  | 54 => ⟨S6x16x1x1x1, .f32⟩
  | 55 => ⟨S6x16, .f32⟩
  | 56 => ⟨S6x2x64x64x64, .f32⟩
  | 57 => ⟨S2x6x64x64x64, .f32⟩
  | 58 => ⟨S2x6x64x64x64, .f32⟩
  | 59 => ⟨S2x16x64x64x64, .f32⟩
  | 60 => ⟨S6x16x1x1x1, .f32⟩
  | 61 => ⟨S6x16, .f32⟩
  | 62 => ⟨S6x2x64x64x64, .f32⟩
  | 63 => ⟨S2x6x64x64x64, .f32⟩
  | 64 => ⟨S2x6x64x64x64, .f32⟩
  | 65 => ⟨S2x16x64x64x64, .f32⟩
  | 66 => ⟨S6x16x1x1x1, .f32⟩
  | 67 => ⟨S6x16, .f32⟩
  | 68 => ⟨S6x2x64x64x64, .f32⟩
  | 69 => ⟨S2x6x64x64x64, .f32⟩
  | 70 => ⟨S2x6x64x64x64, .f32⟩
  | 71 => ⟨S2x16x64x64x64, .f32⟩
  | 72 => ⟨S6x16x1x1x1, .f32⟩
  | 73 => ⟨S6x16, .f32⟩
  | 74 => ⟨S6x2x64x64x64, .f32⟩
  | 75 => ⟨S2x6x64x64x64, .f32⟩
  | 76 => ⟨S2x6x64x64x64, .f32⟩
  | 77 => ⟨S2x16x64x64x64, .f32⟩
  | 78 => ⟨S6x16x1x1x1, .f32⟩
  | 79 => ⟨S6x16, .f32⟩
  | 80 => ⟨S6x2x64x64x64, .f32⟩
  | 81 => ⟨S2x6x64x64x64, .f32⟩
  | 82 => ⟨S2x6x64x64x64, .f32⟩
  | 83 => ⟨S2x16x64x64x64, .f32⟩
  | 84 => ⟨S6x16x1x1x1, .f32⟩
  | 85 => ⟨S6x16, .f32⟩
  | 86 => ⟨S6x2x64x64x64, .f32⟩
  | 87 => ⟨S2x6x64x64x64, .f32⟩
  | 88 => ⟨S2x6x64x64x64, .f32⟩
  | 89 => ⟨S2x16x64x64x64, .f32⟩
  | 90 => ⟨S6x16x1x1x1, .f32⟩
  | 91 => ⟨S6x16, .f32⟩
  | 92 => ⟨S6x2x64x64x64, .f32⟩
  | 93 => ⟨S2x6x64x64x64, .f32⟩
  | 94 => ⟨S2x6x64x64x64, .f32⟩
  | 95 => ⟨S2x16x64x64x64, .f32⟩
  | 96 => ⟨S6x16x1x1x1, .f32⟩
  | 97 => ⟨S6x16, .f32⟩
  | 98 => ⟨S6x2x64x64x64, .f32⟩
  | 99 => ⟨S2x6x64x64x64, .f32⟩
  | 100 => ⟨S2x6x64x64x64, .f32⟩
  | 101 => ⟨S2x16x64x64x64, .f32⟩
  | 102 => ⟨S6x16x1x1x1, .f32⟩
  | 103 => ⟨S6x16, .f32⟩
  | 104 => ⟨S6x2x64x64x64, .f32⟩
  | 105 => ⟨S2x6x64x64x64, .f32⟩
  | 106 => ⟨S2x6x64x64x64, .f32⟩
  | 107 => ⟨S2x16x64x64x64, .f32⟩
  | 108 => ⟨S6x16x1x1x1, .f32⟩
  | 109 => ⟨S6x16, .f32⟩
  | 110 => ⟨S6x2x64x64x64, .f32⟩
  | 111 => ⟨S2x6x64x64x64, .f32⟩
  | 112 => ⟨S2x6x64x64x64, .f32⟩
  | 113 => ⟨S2x16x64x64x64, .f32⟩
  | 114 => ⟨S6x16x1x1x1, .f32⟩
  | 115 => ⟨S6x16, .f32⟩
  | 116 => ⟨S6x2x64x64x64, .f32⟩
  | 117 => ⟨S2x6x64x64x64, .f32⟩
  | 118 => ⟨S2x6x64x64x64, .f32⟩
  | 119 => ⟨S2x16x64x64x64, .f32⟩
  | 120 => ⟨S6x16x1x1x1, .f32⟩
  | 121 => ⟨S6x16, .f32⟩
  | 122 => ⟨S6x2x64x64x64, .f32⟩
  | 123 => ⟨S2x6x64x64x64, .f32⟩
  | 124 => ⟨S2x6x64x64x64, .f32⟩
  | 125 => ⟨S2x16x64x64x64, .f32⟩
  | 126 => ⟨S6x16x1x1x1, .f32⟩
  | 127 => ⟨S6x16, .f32⟩
  | _ => ⟨S2x8x64x64x64, .f32⟩

abbrev hbmTy0_2 (i : Nat) : BufTy := match i % 128 with
  | 0 => ⟨S6x2x64x64x64, .f32⟩
  | 1 => ⟨S2x6x64x64x64, .f32⟩
  | 2 => ⟨S2x6x64x64x64, .f32⟩
  | 3 => ⟨S2x16x64x64x64, .f32⟩
  | 4 => ⟨S6x16x1x1x1, .f32⟩
  | 5 => ⟨S6x16, .f32⟩
  | 6 => ⟨S6x2x64x64x64, .f32⟩
  | 7 => ⟨S2x6x64x64x64, .f32⟩
  | 8 => ⟨S2x6x64x64x64, .f32⟩
  | 9 => ⟨S2x16x64x64x64, .f32⟩
  | 10 => ⟨S6x16x1x1x1, .f32⟩
  | 11 => ⟨S6x16, .f32⟩
  | 12 => ⟨S6x2x64x64x64, .f32⟩
  | 13 => ⟨S2x6x64x64x64, .f32⟩
  | 14 => ⟨S2x6x64x64x64, .f32⟩
  | 15 => ⟨S2x16x64x64x64, .f32⟩
  | 16 => ⟨S6x16x1x1x1, .f32⟩
  | 17 => ⟨S6x16, .f32⟩
  | 18 => ⟨S6x2x64x64x64, .f32⟩
  | 19 => ⟨S2x6x64x64x64, .f32⟩
  | 20 => ⟨S2x6x64x64x64, .f32⟩
  | 21 => ⟨S2x16x64x64x64, .f32⟩
  | 22 => ⟨S6x16x1x1x1, .f32⟩
  | 23 => ⟨S6x16, .f32⟩
  | 24 => ⟨S6x2x64x64x64, .f32⟩
  | 25 => ⟨S2x6x64x64x64, .f32⟩
  | 26 => ⟨S2x6x64x64x64, .f32⟩
  | 27 => ⟨S2x16x64x64x64, .f32⟩
  | 28 => ⟨S6x16x1x1x1, .f32⟩
  | 29 => ⟨S6x16, .f32⟩
  | 30 => ⟨S6x2x64x64x64, .f32⟩
  | 31 => ⟨S2x6x64x64x64, .f32⟩
  | 32 => ⟨S2x6x64x64x64, .f32⟩
  | 33 => ⟨S2x16x64x64x64, .f32⟩
  | 34 => ⟨S6x16x1x1x1, .f32⟩
  | 35 => ⟨S6x16, .f32⟩
  | 36 => ⟨S6x2x64x64x64, .f32⟩
  | 37 => ⟨S2x6x64x64x64, .f32⟩
  | 38 => ⟨S2x6x64x64x64, .f32⟩
  | 39 => ⟨S2x16x64x64x64, .f32⟩
  | 40 => ⟨S6x16x1x1x1, .f32⟩
  | 41 => ⟨S6x16, .f32⟩
  | 42 => ⟨S6x2x64x64x64, .f32⟩
  | 43 => ⟨S2x6x64x64x64, .f32⟩
  | 44 => ⟨S2x6x64x64x64, .f32⟩
  | 45 => ⟨S1x6x1x1x1, .f32⟩
  | 46 => ⟨S2x6x64x64x64, .f32⟩
  | 47 => ⟨S2x6x64x64x64, .f32⟩
  | 48 => ⟨S2x64x64x64x6, .f32⟩
  | 49 => ⟨S_, .i32⟩
  | 50 => ⟨S_, .f32⟩
  | 51 => ⟨S2x16x66x66x66, .f32⟩
  | 52 => ⟨S2x16x64x64x64, .f32⟩
  | 53 => ⟨S3x16x1x1x1, .f32⟩
  | 54 => ⟨S3x16, .f32⟩
  | 55 => ⟨S3x2x64x64x64, .f32⟩
  | 56 => ⟨S2x3x64x64x64, .f32⟩
  | 57 => ⟨S2x16x64x64x64, .f32⟩
  | 58 => ⟨S3x16x1x1x1, .f32⟩
  | 59 => ⟨S3x16, .f32⟩
  | 60 => ⟨S3x2x64x64x64, .f32⟩
  | 61 => ⟨S2x3x64x64x64, .f32⟩
  | 62 => ⟨S2x3x64x64x64, .f32⟩
  | 63 => ⟨S2x16x64x64x64, .f32⟩
  | 64 => ⟨S3x16x1x1x1, .f32⟩
  | 65 => ⟨S3x16, .f32⟩
  | 66 => ⟨S3x2x64x64x64, .f32⟩
  | 67 => ⟨S2x3x64x64x64, .f32⟩
  | 68 => ⟨S2x3x64x64x64, .f32⟩
  | 69 => ⟨S2x16x64x64x64, .f32⟩
  | 70 => ⟨S3x16x1x1x1, .f32⟩
  | 71 => ⟨S3x16, .f32⟩
  | 72 => ⟨S3x2x64x64x64, .f32⟩
  | 73 => ⟨S2x3x64x64x64, .f32⟩
  | 74 => ⟨S2x3x64x64x64, .f32⟩
  | 75 => ⟨S2x16x64x64x64, .f32⟩
  | 76 => ⟨S3x16x1x1x1, .f32⟩
  | 77 => ⟨S3x16, .f32⟩
  | 78 => ⟨S3x2x64x64x64, .f32⟩
  | 79 => ⟨S2x3x64x64x64, .f32⟩
  | 80 => ⟨S2x3x64x64x64, .f32⟩
  | 81 => ⟨S2x16x64x64x64, .f32⟩
  | 82 => ⟨S3x16x1x1x1, .f32⟩
  | 83 => ⟨S3x16, .f32⟩
  | 84 => ⟨S3x2x64x64x64, .f32⟩
  | 85 => ⟨S2x3x64x64x64, .f32⟩
  | 86 => ⟨S2x3x64x64x64, .f32⟩
  | 87 => ⟨S2x16x64x64x64, .f32⟩
  | 88 => ⟨S3x16x1x1x1, .f32⟩
  | 89 => ⟨S3x16, .f32⟩
  | 90 => ⟨S3x2x64x64x64, .f32⟩
  | 91 => ⟨S2x3x64x64x64, .f32⟩
  | 92 => ⟨S2x3x64x64x64, .f32⟩
  | 93 => ⟨S2x16x64x64x64, .f32⟩
  | 94 => ⟨S3x16x1x1x1, .f32⟩
  | 95 => ⟨S3x16, .f32⟩
  | 96 => ⟨S3x2x64x64x64, .f32⟩
  | 97 => ⟨S2x3x64x64x64, .f32⟩
  | 98 => ⟨S2x3x64x64x64, .f32⟩
  | 99 => ⟨S2x16x64x64x64, .f32⟩
  | 100 => ⟨S3x16x1x1x1, .f32⟩
  | 101 => ⟨S3x16, .f32⟩
  | 102 => ⟨S3x2x64x64x64, .f32⟩
  | 103 => ⟨S2x3x64x64x64, .f32⟩
  | 104 => ⟨S2x3x64x64x64, .f32⟩
  | 105 => ⟨S2x16x64x64x64, .f32⟩
  | 106 => ⟨S3x16x1x1x1, .f32⟩
  | 107 => ⟨S3x16, .f32⟩
  | 108 => ⟨S3x2x64x64x64, .f32⟩
  | 109 => ⟨S2x3x64x64x64, .f32⟩
  | 110 => ⟨S2x3x64x64x64, .f32⟩
  | 111 => ⟨S2x16x64x64x64, .f32⟩
  | 112 => ⟨S3x16x1x1x1, .f32⟩
  | 113 => ⟨S3x16, .f32⟩
  | 114 => ⟨S3x2x64x64x64, .f32⟩
  | 115 => ⟨S2x3x64x64x64, .f32⟩
  | 116 => ⟨S2x3x64x64x64, .f32⟩
  | 117 => ⟨S2x16x64x64x64, .f32⟩
  | 118 => ⟨S3x16x1x1x1, .f32⟩
  | 119 => ⟨S3x16, .f32⟩
  | 120 => ⟨S3x2x64x64x64, .f32⟩
  | 121 => ⟨S2x3x64x64x64, .f32⟩
  | 122 => ⟨S2x3x64x64x64, .f32⟩
  | 123 => ⟨S2x16x64x64x64, .f32⟩
  | 124 => ⟨S3x16x1x1x1, .f32⟩
  | 125 => ⟨S3x16, .f32⟩
  | 126 => ⟨S3x2x64x64x64, .f32⟩
  | 127 => ⟨S2x3x64x64x64, .f32⟩
  | _ => ⟨S2x8x64x64x64, .f32⟩

abbrev hbmTy0_3 (i : Nat) : BufTy := match i % 128 with
  | 0 => ⟨S2x3x64x64x64, .f32⟩
  | 1 => ⟨S2x16x64x64x64, .f32⟩
  | 2 => ⟨S3x16x1x1x1, .f32⟩
  | 3 => ⟨S3x16, .f32⟩
  | 4 => ⟨S3x2x64x64x64, .f32⟩
  | 5 => ⟨S2x3x64x64x64, .f32⟩
  | 6 => ⟨S2x3x64x64x64, .f32⟩
  | 7 => ⟨S2x16x64x64x64, .f32⟩
  | 8 => ⟨S3x16x1x1x1, .f32⟩
  | 9 => ⟨S3x16, .f32⟩
  | 10 => ⟨S3x2x64x64x64, .f32⟩
  | 11 => ⟨S2x3x64x64x64, .f32⟩
  | 12 => ⟨S2x3x64x64x64, .f32⟩
  | 13 => ⟨S2x16x64x64x64, .f32⟩
  | 14 => ⟨S3x16x1x1x1, .f32⟩
  | 15 => ⟨S3x16, .f32⟩
  | 16 => ⟨S3x2x64x64x64, .f32⟩
  | 17 => ⟨S2x3x64x64x64, .f32⟩
  | 18 => ⟨S2x3x64x64x64, .f32⟩
  | 19 => ⟨S2x16x64x64x64, .f32⟩
  | 20 => ⟨S3x16x1x1x1, .f32⟩
  | 21 => ⟨S3x16, .f32⟩
  | 22 => ⟨S3x2x64x64x64, .f32⟩
  | 23 => ⟨S2x3x64x64x64, .f32⟩
  | 24 => ⟨S2x3x64x64x64, .f32⟩
  | 25 => ⟨S2x16x64x64x64, .f32⟩
  | 26 => ⟨S3x16x1x1x1, .f32⟩
  | 27 => ⟨S3x16, .f32⟩
  | 28 => ⟨S3x2x64x64x64, .f32⟩
  | 29 => ⟨S2x3x64x64x64, .f32⟩
  | 30 => ⟨S2x3x64x64x64, .f32⟩
  | 31 => ⟨S2x16x64x64x64, .f32⟩
  | 32 => ⟨S3x16x1x1x1, .f32⟩
  | 33 => ⟨S3x16, .f32⟩
  | 34 => ⟨S3x2x64x64x64, .f32⟩
  | 35 => ⟨S2x3x64x64x64, .f32⟩
  | 36 => ⟨S2x3x64x64x64, .f32⟩
  | 37 => ⟨S2x16x64x64x64, .f32⟩
  | 38 => ⟨S3x16x1x1x1, .f32⟩
  | 39 => ⟨S3x16, .f32⟩
  | 40 => ⟨S3x2x64x64x64, .f32⟩
  | 41 => ⟨S2x3x64x64x64, .f32⟩
  | 42 => ⟨S2x3x64x64x64, .f32⟩
  | 43 => ⟨S2x16x64x64x64, .f32⟩
  | 44 => ⟨S3x16x1x1x1, .f32⟩
  | 45 => ⟨S3x16, .f32⟩
  | 46 => ⟨S3x2x64x64x64, .f32⟩
  | 47 => ⟨S2x3x64x64x64, .f32⟩
  | 48 => ⟨S2x3x64x64x64, .f32⟩
  | 49 => ⟨S2x16x64x64x64, .f32⟩
  | 50 => ⟨S3x16x1x1x1, .f32⟩
  | 51 => ⟨S3x16, .f32⟩
  | 52 => ⟨S3x2x64x64x64, .f32⟩
  | 53 => ⟨S2x3x64x64x64, .f32⟩
  | 54 => ⟨S2x3x64x64x64, .f32⟩
  | 55 => ⟨S2x16x64x64x64, .f32⟩
  | 56 => ⟨S3x16x1x1x1, .f32⟩
  | 57 => ⟨S3x16, .f32⟩
  | 58 => ⟨S3x2x64x64x64, .f32⟩
  | 59 => ⟨S2x3x64x64x64, .f32⟩
  | 60 => ⟨S2x3x64x64x64, .f32⟩
  | 61 => ⟨S2x16x64x64x64, .f32⟩
  | 62 => ⟨S3x16x1x1x1, .f32⟩
  | 63 => ⟨S3x16, .f32⟩
  | 64 => ⟨S3x2x64x64x64, .f32⟩
  | 65 => ⟨S2x3x64x64x64, .f32⟩
  | 66 => ⟨S2x3x64x64x64, .f32⟩
  | 67 => ⟨S2x16x64x64x64, .f32⟩
  | 68 => ⟨S3x16x1x1x1, .f32⟩
  | 69 => ⟨S3x16, .f32⟩
  | 70 => ⟨S3x2x64x64x64, .f32⟩
  | 71 => ⟨S2x3x64x64x64, .f32⟩
  | 72 => ⟨S2x3x64x64x64, .f32⟩
  | 73 => ⟨S2x16x64x64x64, .f32⟩
  | 74 => ⟨S3x16x1x1x1, .f32⟩
  | 75 => ⟨S3x16, .f32⟩
  | 76 => ⟨S3x2x64x64x64, .f32⟩
  | 77 => ⟨S2x3x64x64x64, .f32⟩
  | 78 => ⟨S2x3x64x64x64, .f32⟩
  | 79 => ⟨S2x16x64x64x64, .f32⟩
  | 80 => ⟨S3x16x1x1x1, .f32⟩
  | 81 => ⟨S3x16, .f32⟩
  | 82 => ⟨S3x2x64x64x64, .f32⟩
  | 83 => ⟨S2x3x64x64x64, .f32⟩
  | 84 => ⟨S2x3x64x64x64, .f32⟩
  | 85 => ⟨S1x3x1x1x1, .f32⟩
  | 86 => ⟨S2x3x64x64x64, .f32⟩
  | 87 => ⟨S2x3x64x64x64, .f32⟩
  | 88 => ⟨S_, .f32⟩
  | 89 => ⟨S2x64x64x64, .f32⟩
  | 90 => ⟨S_, .f32⟩
  | 91 => ⟨S2x64x64x64, .f32⟩
  | 92 => ⟨S2x64x64x64, .f32⟩
  | 93 => ⟨S2x1x64x64x64, .f32⟩
  | 94 => ⟨S2x3x64x64x64, .f32⟩
  | 95 => ⟨S2x3x64x64x64, .f32⟩
  | 96 => ⟨S2x3x64x64x64, .f32⟩
  | 97 => ⟨S_, .f32⟩
  | 98 => ⟨S2x64x64x64, .f32⟩
  | 99 => ⟨S2x1x64x64x64, .f32⟩
  | 100 => ⟨S2x3x64x64x64, .f32⟩
  | 101 => ⟨S2x3x64x64x64, .f32⟩
  | 102 => ⟨S2x64x64x64x3, .f32⟩
  | 103 => ⟨S2x64x64x64x1, .f32⟩
  | 104 => ⟨S2x64x64x64x3, .f32⟩
  | 105 => ⟨S2x64x64x64x3, .f32⟩
  | 106 => ⟨S_, .f32⟩
  | 107 => ⟨S2x64x64x64x3, .f32⟩
  | 108 => ⟨S2x64x64x64x3, .f32⟩
  | 109 => ⟨S_, .i32⟩
  | 110 => ⟨S_, .i32⟩
  | 111 => ⟨S_, .f32⟩
  | 112 => ⟨S2x64x64x64x3, .f32⟩
  | 113 => ⟨S2x64x64x64x3, .f32⟩
  | 114 => ⟨S_, .f32⟩
  | 115 => ⟨S2x64x64x64x3, .f32⟩
  | 116 => ⟨S2x64x64x64x3, .f32⟩
  | 117 => ⟨S2x64x64x64x3, .f32⟩
  | 118 => ⟨S2x64x64x64x1, .f32⟩
  | 119 => ⟨S2x64x64x64x3, .f32⟩
  | 120 => ⟨S2x64x64x64x3, .f32⟩
  | 121 => ⟨S_, .f32⟩
  | 122 => ⟨S2x64x64x64x3, .f32⟩
  | 123 => ⟨S2x64x64x64x3, .f32⟩
  | 124 => ⟨S_, .i32⟩
  | 125 => ⟨S_, .i32⟩
  | 126 => ⟨S_, .f32⟩
  | 127 => ⟨S2x64x64x64x3, .f32⟩
  | _ => ⟨S2x8x64x64x64, .f32⟩

abbrev hbmTy0_4 (i : Nat) : BufTy := match i % 128 with
  | 0 => ⟨S2x64x64x64x3, .f32⟩
  | 1 => ⟨S_, .f32⟩
  | 2 => ⟨S2x64x64x64x3, .f32⟩
  | 3 => ⟨S2x64x64x64x3, .f32⟩
  | 4 => ⟨S2x64x64x64x3, .f32⟩
  | 5 => ⟨S_, .i32⟩
  | 6 => ⟨S_, .i32⟩
  | 7 => ⟨S_, .f32⟩
  | 8 => ⟨S2x64x64x64x3, .f32⟩
  | 9 => ⟨S2x64x64x64x3, .f32⟩
  | 10 => ⟨S_, .f32⟩
  | 11 => ⟨S2x64x64x64x3, .f32⟩
  | 12 => ⟨S2x64x64x64x3, .f32⟩
  | 13 => ⟨S2x64x64x64x3, .i32⟩
  | 14 => ⟨S2x64x64x64x3, .f32⟩
  | 15 => ⟨S_, .f32⟩
  | 16 => ⟨S2x64x64x64x3, .f32⟩
  | 17 => ⟨S2x64x64x64x3, .f32⟩
  | 18 => ⟨S_, .i32⟩
  | 19 => ⟨S_, .i32⟩
  | 20 => ⟨S_, .f32⟩
  | 21 => ⟨S2x64x64x64x3, .f32⟩
  | 22 => ⟨S2x64x64x64x3, .f32⟩
  | 23 => ⟨S_, .f32⟩
  | 24 => ⟨S2x64x64x64x3, .f32⟩
  | 25 => ⟨S2x64x64x64x3, .f32⟩
  | 26 => ⟨S2x64x64x64x3, .i32⟩
  | 27 => ⟨S2x64x64x64x3, .f32⟩
  | 28 => ⟨S_, .i32⟩
  | 29 => ⟨S_, .i32⟩
  | 30 => ⟨S_, .f32⟩
  | 31 => ⟨S2x64x64x64x3, .f32⟩
  | 32 => ⟨S2x64x64x64x3, .f32⟩
  | 33 => ⟨S_, .f32⟩
  | 34 => ⟨S2x64x64x64x3, .f32⟩
  | 35 => ⟨S2x64x64x64x3, .f32⟩
  | 36 => ⟨S2x64x64x64x3, .i32⟩
  | 37 => ⟨S2x64x64x64x3, .f32⟩
  | 38 => ⟨S_, .f32⟩
  | 39 => ⟨S2x64x64x64x3, .f32⟩
  | 40 => ⟨S2x64x64x64x3, .f32⟩
  | 41 => ⟨S_, .i32⟩
  | 42 => ⟨S_, .i32⟩
  | 43 => ⟨S_, .f32⟩
  | 44 => ⟨S2x64x64x64x3, .f32⟩
  | 45 => ⟨S2x64x64x64x3, .f32⟩
  | 46 => ⟨S_, .f32⟩
  | 47 => ⟨S2x64x64x64x3, .f32⟩
  | 48 => ⟨S2x64x64x64x3, .f32⟩
  | 49 => ⟨S2x64x64x64x3, .i32⟩
  | 50 => ⟨S2x64x64x64x3, .f32⟩
  | 51 => ⟨S2x64x64x64x3, .f32⟩
  | 52 => ⟨S_, .f32⟩
  | 53 => ⟨S2x64x64x64x3, .f32⟩
  | 54 => ⟨S2x64x64x64x3, .f32⟩
  | 55 => ⟨S2x64x64x64x3, .f32⟩
  | 56 => ⟨S2x64x64x64x3, .f32⟩
  | 57 => ⟨S_, .f32⟩
  | 58 => ⟨S2x64x64x64x3, .f32⟩
  | 59 => ⟨S2x64x64x64x3, .f32⟩
  | 60 => ⟨S2x64x64x64x3, .f32⟩
  | 61 => ⟨S2x64x64x64x3, .f32⟩
  | 62 => ⟨S_, .f32⟩
  | 63 => ⟨S2x64x64x64x3, .f32⟩
  | 64 => ⟨S2x64x64x64x3, .f32⟩
  | 65 => ⟨S2x64x64x64x3, .f32⟩
  | 66 => ⟨S2x64x64x64x3, .f32⟩
  | 67 => ⟨S_, .f32⟩
  | 68 => ⟨S2x64x64x64x3, .f32⟩
  | 69 => ⟨S2x64x64x64x3, .f32⟩
  | 70 => ⟨S2x64x64x64x3, .f32⟩
  | 71 => ⟨S2x1x64x64x64x3, .f32⟩
  | 72 => ⟨S_, .i32⟩
  | 73 => ⟨S2x64x64x64x3, .i32⟩
  | 74 => ⟨S2x64x64x64x3, .i32⟩
  | 75 => ⟨S2x64x64x64x3, .i32⟩
  | 76 => ⟨S2x786432, .i32⟩
  | 77 => ⟨S2x8x66564, .f32⟩
  | 78 => ⟨S2x786432x1, .i32⟩
  | 79 => ⟨S2x8x786432, .f32⟩
  | 80 => ⟨S2x8x64x64x64x3, .f32⟩
  | 81 => ⟨S2x8x64x64x64x3, .f32⟩
  | 82 => ⟨S2x8x64x64x64x3, .f32⟩
  | 83 => ⟨S2x64x64x64x3, .f32⟩
  | 84 => ⟨S2x1x64x64x64x3, .f32⟩
  | 85 => ⟨S_, .i32⟩
  | 86 => ⟨S2x64x64x64x3, .i32⟩
  | 87 => ⟨S2x64x64x64x3, .i32⟩
  | 88 => ⟨S2x64x64x64x3, .i32⟩
  | 89 => ⟨S2x786432, .i32⟩
  | 90 => ⟨S2x8x66564, .f32⟩
  | 91 => ⟨S2x786432x1, .i32⟩
  | 92 => ⟨S2x8x786432, .f32⟩
  | 93 => ⟨S2x8x64x64x64x3, .f32⟩
  | 94 => ⟨S2x8x64x64x64x3, .f32⟩
  | 95 => ⟨S2x8x64x64x64x3, .f32⟩
  | 96 => ⟨S2x8x64x64x64x3, .f32⟩
  | 97 => ⟨S2x64x64x64x3, .f32⟩
  | 98 => ⟨S2x1x64x64x64x3, .f32⟩
  | 99 => ⟨S_, .i32⟩
  | 100 => ⟨S2x64x64x64x3, .i32⟩
  | 101 => ⟨S2x64x64x64x3, .i32⟩
  | 102 => ⟨S2x64x64x64x3, .i32⟩
  | 103 => ⟨S2x786432, .i32⟩
  | 104 => ⟨S2x8x66564, .f32⟩
  | 105 => ⟨S2x786432x1, .i32⟩
  | 106 => ⟨S2x8x786432, .f32⟩
  | 107 => ⟨S2x8x64x64x64x3, .f32⟩
  | 108 => ⟨S2x8x64x64x64x3, .f32⟩
  | 109 => ⟨S2x8x64x64x64x3, .f32⟩
  | 110 => ⟨S2x8x64x64x64x3, .f32⟩
  | 111 => ⟨S2x64x64x64x3, .f32⟩
  | 112 => ⟨S2x1x64x64x64x3, .f32⟩
  | 113 => ⟨S_, .i32⟩
  | 114 => ⟨S2x64x64x64x3, .i32⟩
  | 115 => ⟨S2x64x64x64x3, .i32⟩
  | 116 => ⟨S2x64x64x64x3, .i32⟩
  | 117 => ⟨S2x786432, .i32⟩
  | 118 => ⟨S2x8x66564, .f32⟩
  | 119 => ⟨S2x786432x1, .i32⟩
  | 120 => ⟨S2x8x786432, .f32⟩
  | 121 => ⟨S2x8x64x64x64x3, .f32⟩
  | 122 => ⟨S2x8x64x64x64x3, .f32⟩
  | 123 => ⟨S2x8x64x64x64x3, .f32⟩
  | 124 => ⟨S2x8x64x64x64x3, .f32⟩
  | 125 => ⟨S2x64x64x64x3, .f32⟩
  | 126 => ⟨S2x1x64x64x64x3, .f32⟩
  | 127 => ⟨S2x8x64x64x64x3, .f32⟩
  | _ => ⟨S2x8x64x64x64, .f32⟩

abbrev hbmTy0_5 (i : Nat) : BufTy := match i % 128 with
  | 0 => ⟨S2x8x64x64x64x3, .f32⟩
  | 1 => ⟨S_, .f32⟩
  | 2 => ⟨S2x8x64x64x64, .f32⟩
  | 3 => ⟨S2x64x8x64x64, .f32⟩
  | 4 => ⟨S2x64x64x64x6, .f32⟩
  | 5 => ⟨S2x64x6x64x64, .f32⟩
  | _ => ⟨S2x8x64x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2x8x64x64x64, .f32⟩

abbrev bufTy : (tb : Table) → Fin (tcTables nBuf tb) → BufTy
  | .hbm, ⟨i, _⟩ => hbmTy i
  | _, _ => ⟨S2x8x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_c_1 : Ref sig .tc := ⟨.hbm, 26, rfl⟩
abbrev main_c_2 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c_3 : Ref sig .tc := ⟨.hbm, 36, rfl⟩
abbrev main_c_4 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_5 : Ref sig .tc := ⟨.hbm, 46, rfl⟩
abbrev main_v16 : Ref sig .tc := ⟨.hbm, 47, rfl⟩
abbrev main_v17 : Ref sig .tc := ⟨.hbm, 48, rfl⟩
abbrev main_c_6 : Ref sig .tc := ⟨.hbm, 49, rfl⟩
abbrev main_c_7 : Ref sig .tc := ⟨.hbm, 50, rfl⟩
abbrev main_call3_v0 : Ref sig .tc := ⟨.hbm, 51, rfl⟩
abbrev main_call3_v1 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_cst_8 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_cst_9 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_cst_10 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_cst_11 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_c_12 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_call4_v0 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_c_13 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_call5_v0 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_c_14 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_call6_v0 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_c_15 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_call7_v0 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_c_16 : Ref sig .tc := ⟨.hbm, 134, rfl⟩
abbrev main_call8_v0 : Ref sig .tc := ⟨.hbm, 135, rfl⟩
abbrev main_v84 : Ref sig .tc := ⟨.hbm, 136, rfl⟩
abbrev main_c_17 : Ref sig .tc := ⟨.hbm, 137, rfl⟩
abbrev main_call9_v0 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_v227 : Ref sig .tc := ⟨.hbm, 281, rfl⟩
abbrev main_v228 : Ref sig .tc := ⟨.hbm, 282, rfl⟩
abbrev main_v229 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩
abbrev main_v239 : Ref sig .tc := ⟨.hbm, 293, rfl⟩
abbrev main_v240 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_v244 : Ref sig .tc := ⟨.hbm, 298, rfl⟩
abbrev main_v245 : Ref sig .tc := ⟨.hbm, 299, rfl⟩
abbrev main_v246 : Ref sig .tc := ⟨.hbm, 300, rfl⟩
abbrev main_v247 : Ref sig .tc := ⟨.hbm, 301, rfl⟩
abbrev main_v248 : Ref sig .tc := ⟨.hbm, 302, rfl⟩
abbrev main_v249 : Ref sig .tc := ⟨.hbm, 303, rfl⟩
abbrev main_v250 : Ref sig .tc := ⟨.hbm, 304, rfl⟩
abbrev main_c_18 : Ref sig .tc := ⟨.hbm, 305, rfl⟩
abbrev main_call10_v0 : Ref sig .tc := ⟨.hbm, 306, rfl⟩
abbrev main_v251 : Ref sig .tc := ⟨.hbm, 307, rfl⟩
abbrev main_v252 : Ref sig .tc := ⟨.hbm, 308, rfl⟩
abbrev main_v253 : Ref sig .tc := ⟨.hbm, 309, rfl⟩
abbrev main_v254 : Ref sig .tc := ⟨.hbm, 310, rfl⟩
abbrev main_v255 : Ref sig .tc := ⟨.hbm, 311, rfl⟩
abbrev main_v256 : Ref sig .tc := ⟨.hbm, 312, rfl⟩
abbrev main_v257 : Ref sig .tc := ⟨.hbm, 313, rfl⟩
abbrev main_v258 : Ref sig .tc := ⟨.hbm, 314, rfl⟩
abbrev main_v259 : Ref sig .tc := ⟨.hbm, 315, rfl⟩
abbrev main_v260 : Ref sig .tc := ⟨.hbm, 316, rfl⟩
abbrev main_v261 : Ref sig .tc := ⟨.hbm, 317, rfl⟩
abbrev main_v262 : Ref sig .tc := ⟨.hbm, 318, rfl⟩
abbrev main_v263 : Ref sig .tc := ⟨.hbm, 319, rfl⟩
abbrev main_v264 : Ref sig .tc := ⟨.hbm, 320, rfl⟩
abbrev main_v265 : Ref sig .tc := ⟨.hbm, 321, rfl⟩
abbrev main_v266 : Ref sig .tc := ⟨.hbm, 322, rfl⟩
abbrev main_v267 : Ref sig .tc := ⟨.hbm, 323, rfl⟩
abbrev main_v268 : Ref sig .tc := ⟨.hbm, 324, rfl⟩
abbrev main_v269 : Ref sig .tc := ⟨.hbm, 325, rfl⟩
abbrev main_v270 : Ref sig .tc := ⟨.hbm, 326, rfl⟩
abbrev main_v271 : Ref sig .tc := ⟨.hbm, 327, rfl⟩
abbrev main_v272 : Ref sig .tc := ⟨.hbm, 328, rfl⟩
abbrev main_v273 : Ref sig .tc := ⟨.hbm, 329, rfl⟩
abbrev main_v274 : Ref sig .tc := ⟨.hbm, 330, rfl⟩
abbrev main_v275 : Ref sig .tc := ⟨.hbm, 331, rfl⟩
abbrev main_v276 : Ref sig .tc := ⟨.hbm, 332, rfl⟩
abbrev main_v277 : Ref sig .tc := ⟨.hbm, 333, rfl⟩
abbrev main_v278 : Ref sig .tc := ⟨.hbm, 334, rfl⟩
abbrev main_v279 : Ref sig .tc := ⟨.hbm, 335, rfl⟩
abbrev main_v280 : Ref sig .tc := ⟨.hbm, 336, rfl⟩
abbrev main_v281 : Ref sig .tc := ⟨.hbm, 337, rfl⟩
abbrev main_v282 : Ref sig .tc := ⟨.hbm, 338, rfl⟩
abbrev main_v283 : Ref sig .tc := ⟨.hbm, 339, rfl⟩
abbrev main_v284 : Ref sig .tc := ⟨.hbm, 340, rfl⟩
abbrev main_v285 : Ref sig .tc := ⟨.hbm, 341, rfl⟩
abbrev main_v286 : Ref sig .tc := ⟨.hbm, 342, rfl⟩
abbrev main_v287 : Ref sig .tc := ⟨.hbm, 343, rfl⟩
abbrev main_v288 : Ref sig .tc := ⟨.hbm, 344, rfl⟩
abbrev main_v289 : Ref sig .tc := ⟨.hbm, 345, rfl⟩
abbrev main_v290 : Ref sig .tc := ⟨.hbm, 346, rfl⟩
abbrev main_v291 : Ref sig .tc := ⟨.hbm, 347, rfl⟩
abbrev main_v292 : Ref sig .tc := ⟨.hbm, 348, rfl⟩
abbrev main_v293 : Ref sig .tc := ⟨.hbm, 349, rfl⟩
abbrev main_v294 : Ref sig .tc := ⟨.hbm, 350, rfl⟩
abbrev main_v295 : Ref sig .tc := ⟨.hbm, 351, rfl⟩
abbrev main_v296 : Ref sig .tc := ⟨.hbm, 352, rfl⟩
abbrev main_v297 : Ref sig .tc := ⟨.hbm, 353, rfl⟩
abbrev main_v298 : Ref sig .tc := ⟨.hbm, 354, rfl⟩
abbrev main_v299 : Ref sig .tc := ⟨.hbm, 355, rfl⟩
abbrev main_v300 : Ref sig .tc := ⟨.hbm, 356, rfl⟩
abbrev main_v301 : Ref sig .tc := ⟨.hbm, 357, rfl⟩
abbrev main_v302 : Ref sig .tc := ⟨.hbm, 358, rfl⟩
abbrev main_v303 : Ref sig .tc := ⟨.hbm, 359, rfl⟩
abbrev main_v304 : Ref sig .tc := ⟨.hbm, 360, rfl⟩
abbrev main_v305 : Ref sig .tc := ⟨.hbm, 361, rfl⟩
abbrev main_v306 : Ref sig .tc := ⟨.hbm, 362, rfl⟩
abbrev main_v307 : Ref sig .tc := ⟨.hbm, 363, rfl⟩
abbrev main_v308 : Ref sig .tc := ⟨.hbm, 364, rfl⟩
abbrev main_v309 : Ref sig .tc := ⟨.hbm, 365, rfl⟩
abbrev main_v310 : Ref sig .tc := ⟨.hbm, 366, rfl⟩
abbrev main_v311 : Ref sig .tc := ⟨.hbm, 367, rfl⟩
abbrev main_v312 : Ref sig .tc := ⟨.hbm, 368, rfl⟩
abbrev main_v313 : Ref sig .tc := ⟨.hbm, 369, rfl⟩
abbrev main_v314 : Ref sig .tc := ⟨.hbm, 370, rfl⟩
abbrev main_v315 : Ref sig .tc := ⟨.hbm, 371, rfl⟩
abbrev main_v316 : Ref sig .tc := ⟨.hbm, 372, rfl⟩
abbrev main_v317 : Ref sig .tc := ⟨.hbm, 373, rfl⟩
abbrev main_v318 : Ref sig .tc := ⟨.hbm, 374, rfl⟩
abbrev main_v319 : Ref sig .tc := ⟨.hbm, 375, rfl⟩
abbrev main_v320 : Ref sig .tc := ⟨.hbm, 376, rfl⟩
abbrev main_v321 : Ref sig .tc := ⟨.hbm, 377, rfl⟩
abbrev main_v322 : Ref sig .tc := ⟨.hbm, 378, rfl⟩
abbrev main_v323 : Ref sig .tc := ⟨.hbm, 379, rfl⟩
abbrev main_v324 : Ref sig .tc := ⟨.hbm, 380, rfl⟩
abbrev main_v325 : Ref sig .tc := ⟨.hbm, 381, rfl⟩
abbrev main_v326 : Ref sig .tc := ⟨.hbm, 382, rfl⟩
abbrev main_v327 : Ref sig .tc := ⟨.hbm, 383, rfl⟩
abbrev main_v328 : Ref sig .tc := ⟨.hbm, 384, rfl⟩
abbrev main_v329 : Ref sig .tc := ⟨.hbm, 385, rfl⟩
abbrev main_v330 : Ref sig .tc := ⟨.hbm, 386, rfl⟩
abbrev main_v331 : Ref sig .tc := ⟨.hbm, 387, rfl⟩
abbrev main_v332 : Ref sig .tc := ⟨.hbm, 388, rfl⟩
abbrev main_v333 : Ref sig .tc := ⟨.hbm, 389, rfl⟩
abbrev main_v334 : Ref sig .tc := ⟨.hbm, 390, rfl⟩
abbrev main_v335 : Ref sig .tc := ⟨.hbm, 391, rfl⟩
abbrev main_v336 : Ref sig .tc := ⟨.hbm, 392, rfl⟩
abbrev main_v337 : Ref sig .tc := ⟨.hbm, 393, rfl⟩
abbrev main_v338 : Ref sig .tc := ⟨.hbm, 394, rfl⟩
abbrev main_v339 : Ref sig .tc := ⟨.hbm, 395, rfl⟩
abbrev main_v340 : Ref sig .tc := ⟨.hbm, 396, rfl⟩
abbrev main_v341 : Ref sig .tc := ⟨.hbm, 397, rfl⟩
abbrev main_v342 : Ref sig .tc := ⟨.hbm, 398, rfl⟩
abbrev main_v343 : Ref sig .tc := ⟨.hbm, 399, rfl⟩
abbrev main_v344 : Ref sig .tc := ⟨.hbm, 400, rfl⟩
abbrev main_v345 : Ref sig .tc := ⟨.hbm, 401, rfl⟩
abbrev main_v346 : Ref sig .tc := ⟨.hbm, 402, rfl⟩
abbrev main_v347 : Ref sig .tc := ⟨.hbm, 403, rfl⟩
abbrev main_v348 : Ref sig .tc := ⟨.hbm, 404, rfl⟩
abbrev main_v349 : Ref sig .tc := ⟨.hbm, 405, rfl⟩
abbrev main_v350 : Ref sig .tc := ⟨.hbm, 406, rfl⟩
abbrev main_v351 : Ref sig .tc := ⟨.hbm, 407, rfl⟩
abbrev main_v352 : Ref sig .tc := ⟨.hbm, 408, rfl⟩
abbrev main_v353 : Ref sig .tc := ⟨.hbm, 409, rfl⟩
abbrev main_v354 : Ref sig .tc := ⟨.hbm, 410, rfl⟩
abbrev main_v355 : Ref sig .tc := ⟨.hbm, 411, rfl⟩
abbrev main_v356 : Ref sig .tc := ⟨.hbm, 412, rfl⟩
abbrev main_v357 : Ref sig .tc := ⟨.hbm, 413, rfl⟩
abbrev main_v358 : Ref sig .tc := ⟨.hbm, 414, rfl⟩
abbrev main_v359 : Ref sig .tc := ⟨.hbm, 415, rfl⟩
abbrev main_v360 : Ref sig .tc := ⟨.hbm, 416, rfl⟩
abbrev main_v361 : Ref sig .tc := ⟨.hbm, 417, rfl⟩
abbrev main_v362 : Ref sig .tc := ⟨.hbm, 418, rfl⟩
abbrev main_v363 : Ref sig .tc := ⟨.hbm, 419, rfl⟩
abbrev main_v364 : Ref sig .tc := ⟨.hbm, 420, rfl⟩
abbrev main_v365 : Ref sig .tc := ⟨.hbm, 421, rfl⟩
abbrev main_v366 : Ref sig .tc := ⟨.hbm, 422, rfl⟩
abbrev main_v367 : Ref sig .tc := ⟨.hbm, 423, rfl⟩
abbrev main_v368 : Ref sig .tc := ⟨.hbm, 424, rfl⟩
abbrev main_v369 : Ref sig .tc := ⟨.hbm, 425, rfl⟩
abbrev main_v370 : Ref sig .tc := ⟨.hbm, 426, rfl⟩
abbrev main_v371 : Ref sig .tc := ⟨.hbm, 427, rfl⟩
abbrev main_v372 : Ref sig .tc := ⟨.hbm, 428, rfl⟩
abbrev main_v373 : Ref sig .tc := ⟨.hbm, 429, rfl⟩
abbrev main_v374 : Ref sig .tc := ⟨.hbm, 430, rfl⟩
abbrev main_v375 : Ref sig .tc := ⟨.hbm, 431, rfl⟩
abbrev main_v376 : Ref sig .tc := ⟨.hbm, 432, rfl⟩
abbrev main_v377 : Ref sig .tc := ⟨.hbm, 433, rfl⟩
abbrev main_v378 : Ref sig .tc := ⟨.hbm, 434, rfl⟩
abbrev main_v379 : Ref sig .tc := ⟨.hbm, 435, rfl⟩
abbrev main_v380 : Ref sig .tc := ⟨.hbm, 436, rfl⟩
abbrev main_v381 : Ref sig .tc := ⟨.hbm, 437, rfl⟩
abbrev main_v382 : Ref sig .tc := ⟨.hbm, 438, rfl⟩
abbrev main_v383 : Ref sig .tc := ⟨.hbm, 439, rfl⟩
abbrev main_v384 : Ref sig .tc := ⟨.hbm, 440, rfl⟩
abbrev main_v385 : Ref sig .tc := ⟨.hbm, 441, rfl⟩
abbrev main_v386 : Ref sig .tc := ⟨.hbm, 442, rfl⟩
abbrev main_v387 : Ref sig .tc := ⟨.hbm, 443, rfl⟩
abbrev main_v388 : Ref sig .tc := ⟨.hbm, 444, rfl⟩
abbrev main_v389 : Ref sig .tc := ⟨.hbm, 445, rfl⟩
abbrev main_v390 : Ref sig .tc := ⟨.hbm, 446, rfl⟩
abbrev main_v391 : Ref sig .tc := ⟨.hbm, 447, rfl⟩
abbrev main_v392 : Ref sig .tc := ⟨.hbm, 448, rfl⟩
abbrev main_v393 : Ref sig .tc := ⟨.hbm, 449, rfl⟩
abbrev main_v394 : Ref sig .tc := ⟨.hbm, 450, rfl⟩
abbrev main_v395 : Ref sig .tc := ⟨.hbm, 451, rfl⟩
abbrev main_v396 : Ref sig .tc := ⟨.hbm, 452, rfl⟩
abbrev main_v397 : Ref sig .tc := ⟨.hbm, 453, rfl⟩
abbrev main_v398 : Ref sig .tc := ⟨.hbm, 454, rfl⟩
abbrev main_v399 : Ref sig .tc := ⟨.hbm, 455, rfl⟩
abbrev main_v400 : Ref sig .tc := ⟨.hbm, 456, rfl⟩
abbrev main_v401 : Ref sig .tc := ⟨.hbm, 457, rfl⟩
abbrev main_v402 : Ref sig .tc := ⟨.hbm, 458, rfl⟩
abbrev main_v403 : Ref sig .tc := ⟨.hbm, 459, rfl⟩
abbrev main_v404 : Ref sig .tc := ⟨.hbm, 460, rfl⟩
abbrev main_v405 : Ref sig .tc := ⟨.hbm, 461, rfl⟩
abbrev main_v406 : Ref sig .tc := ⟨.hbm, 462, rfl⟩
abbrev main_v407 : Ref sig .tc := ⟨.hbm, 463, rfl⟩
abbrev main_v408 : Ref sig .tc := ⟨.hbm, 464, rfl⟩
abbrev main_v409 : Ref sig .tc := ⟨.hbm, 465, rfl⟩
abbrev main_v410 : Ref sig .tc := ⟨.hbm, 466, rfl⟩
abbrev main_v411 : Ref sig .tc := ⟨.hbm, 467, rfl⟩
abbrev main_v412 : Ref sig .tc := ⟨.hbm, 468, rfl⟩
abbrev main_v413 : Ref sig .tc := ⟨.hbm, 469, rfl⟩
abbrev main_v414 : Ref sig .tc := ⟨.hbm, 470, rfl⟩
abbrev main_v415 : Ref sig .tc := ⟨.hbm, 471, rfl⟩
abbrev main_cst_19 : Ref sig .tc := ⟨.hbm, 472, rfl⟩
abbrev main_v416 : Ref sig .tc := ⟨.hbm, 473, rfl⟩
abbrev main_cst_20 : Ref sig .tc := ⟨.hbm, 474, rfl⟩
abbrev main_v417 : Ref sig .tc := ⟨.hbm, 475, rfl⟩
abbrev main_v418 : Ref sig .tc := ⟨.hbm, 476, rfl⟩
abbrev main_v419 : Ref sig .tc := ⟨.hbm, 477, rfl⟩
abbrev main_v420 : Ref sig .tc := ⟨.hbm, 478, rfl⟩
abbrev main_v421 : Ref sig .tc := ⟨.hbm, 479, rfl⟩
abbrev main_v422 : Ref sig .tc := ⟨.hbm, 480, rfl⟩
abbrev main_cst_21 : Ref sig .tc := ⟨.hbm, 481, rfl⟩
abbrev main_v423 : Ref sig .tc := ⟨.hbm, 482, rfl⟩
abbrev main_v424 : Ref sig .tc := ⟨.hbm, 483, rfl⟩
abbrev main_v425 : Ref sig .tc := ⟨.hbm, 484, rfl⟩
abbrev main_v426 : Ref sig .tc := ⟨.hbm, 485, rfl⟩
abbrev main_v427 : Ref sig .tc := ⟨.hbm, 486, rfl⟩
abbrev main_v428 : Ref sig .tc := ⟨.hbm, 487, rfl⟩
abbrev main_v429 : Ref sig .tc := ⟨.hbm, 488, rfl⟩
abbrev main_v430 : Ref sig .tc := ⟨.hbm, 489, rfl⟩
abbrev main_cst_22 : Ref sig .tc := ⟨.hbm, 490, rfl⟩
abbrev main_v431 : Ref sig .tc := ⟨.hbm, 491, rfl⟩
abbrev main_v432 : Ref sig .tc := ⟨.hbm, 492, rfl⟩
abbrev main_c_23 : Ref sig .tc := ⟨.hbm, 493, rfl⟩
abbrev main_c_24 : Ref sig .tc := ⟨.hbm, 494, rfl⟩
abbrev main_call11_v0 : Ref sig .tc := ⟨.hbm, 495, rfl⟩
abbrev main_call11_v1 : Ref sig .tc := ⟨.hbm, 496, rfl⟩
abbrev main_call11_v2 : Ref sig .tc := ⟨.hbm, 497, rfl⟩
abbrev main_call11_v3 : Ref sig .tc := ⟨.hbm, 498, rfl⟩
abbrev main_call11_v4 : Ref sig .tc := ⟨.hbm, 499, rfl⟩
abbrev main_v433 : Ref sig .tc := ⟨.hbm, 500, rfl⟩
abbrev main_v434 : Ref sig .tc := ⟨.hbm, 501, rfl⟩
abbrev main_v435 : Ref sig .tc := ⟨.hbm, 502, rfl⟩
abbrev main_v436 : Ref sig .tc := ⟨.hbm, 503, rfl⟩
abbrev main_v437 : Ref sig .tc := ⟨.hbm, 504, rfl⟩
abbrev main_cst_25 : Ref sig .tc := ⟨.hbm, 505, rfl⟩
abbrev main_v438 : Ref sig .tc := ⟨.hbm, 506, rfl⟩
abbrev main_v439 : Ref sig .tc := ⟨.hbm, 507, rfl⟩
abbrev main_c_26 : Ref sig .tc := ⟨.hbm, 508, rfl⟩
abbrev main_c_27 : Ref sig .tc := ⟨.hbm, 509, rfl⟩
abbrev main_call12_v0 : Ref sig .tc := ⟨.hbm, 510, rfl⟩
abbrev main_call12_v1 : Ref sig .tc := ⟨.hbm, 511, rfl⟩
abbrev main_call12_v2 : Ref sig .tc := ⟨.hbm, 512, rfl⟩
abbrev main_call12_v3 : Ref sig .tc := ⟨.hbm, 513, rfl⟩
abbrev main_call12_v4 : Ref sig .tc := ⟨.hbm, 514, rfl⟩
abbrev main_v440 : Ref sig .tc := ⟨.hbm, 515, rfl⟩
abbrev main_v441 : Ref sig .tc := ⟨.hbm, 516, rfl⟩
abbrev main_c_28 : Ref sig .tc := ⟨.hbm, 517, rfl⟩
abbrev main_c_29 : Ref sig .tc := ⟨.hbm, 518, rfl⟩
abbrev main_call13_v0 : Ref sig .tc := ⟨.hbm, 519, rfl⟩
abbrev main_call13_v1 : Ref sig .tc := ⟨.hbm, 520, rfl⟩
abbrev main_call13_v2 : Ref sig .tc := ⟨.hbm, 521, rfl⟩
abbrev main_call13_v3 : Ref sig .tc := ⟨.hbm, 522, rfl⟩
abbrev main_call13_v4 : Ref sig .tc := ⟨.hbm, 523, rfl⟩
abbrev main_v442 : Ref sig .tc := ⟨.hbm, 524, rfl⟩
abbrev main_v443 : Ref sig .tc := ⟨.hbm, 525, rfl⟩
abbrev main_v444 : Ref sig .tc := ⟨.hbm, 526, rfl⟩
abbrev main_cst_30 : Ref sig .tc := ⟨.hbm, 527, rfl⟩
abbrev main_v445 : Ref sig .tc := ⟨.hbm, 528, rfl⟩
abbrev main_v446 : Ref sig .tc := ⟨.hbm, 529, rfl⟩
abbrev main_c_31 : Ref sig .tc := ⟨.hbm, 530, rfl⟩
abbrev main_c_32 : Ref sig .tc := ⟨.hbm, 531, rfl⟩
abbrev main_call14_v0 : Ref sig .tc := ⟨.hbm, 532, rfl⟩
abbrev main_call14_v1 : Ref sig .tc := ⟨.hbm, 533, rfl⟩
abbrev main_call14_v2 : Ref sig .tc := ⟨.hbm, 534, rfl⟩
abbrev main_call14_v3 : Ref sig .tc := ⟨.hbm, 535, rfl⟩
abbrev main_call14_v4 : Ref sig .tc := ⟨.hbm, 536, rfl⟩
abbrev main_v447 : Ref sig .tc := ⟨.hbm, 537, rfl⟩
abbrev main_v448 : Ref sig .tc := ⟨.hbm, 538, rfl⟩
abbrev main_v449 : Ref sig .tc := ⟨.hbm, 539, rfl⟩
abbrev main_c_33 : Ref sig .tc := ⟨.hbm, 540, rfl⟩
abbrev main_c_34 : Ref sig .tc := ⟨.hbm, 541, rfl⟩
abbrev main_call15_v0 : Ref sig .tc := ⟨.hbm, 542, rfl⟩
abbrev main_call15_v1 : Ref sig .tc := ⟨.hbm, 543, rfl⟩
abbrev main_call15_v2 : Ref sig .tc := ⟨.hbm, 544, rfl⟩
abbrev main_call15_v3 : Ref sig .tc := ⟨.hbm, 545, rfl⟩
abbrev main_call15_v4 : Ref sig .tc := ⟨.hbm, 546, rfl⟩
abbrev main_v450 : Ref sig .tc := ⟨.hbm, 547, rfl⟩
abbrev main_v451 : Ref sig .tc := ⟨.hbm, 548, rfl⟩
abbrev main_v452 : Ref sig .tc := ⟨.hbm, 549, rfl⟩
abbrev main_cst_35 : Ref sig .tc := ⟨.hbm, 550, rfl⟩
abbrev main_v453 : Ref sig .tc := ⟨.hbm, 551, rfl⟩
abbrev main_v454 : Ref sig .tc := ⟨.hbm, 552, rfl⟩
abbrev main_c_36 : Ref sig .tc := ⟨.hbm, 553, rfl⟩
abbrev main_c_37 : Ref sig .tc := ⟨.hbm, 554, rfl⟩
abbrev main_call16_v0 : Ref sig .tc := ⟨.hbm, 555, rfl⟩
abbrev main_call16_v1 : Ref sig .tc := ⟨.hbm, 556, rfl⟩
abbrev main_call16_v2 : Ref sig .tc := ⟨.hbm, 557, rfl⟩
abbrev main_call16_v3 : Ref sig .tc := ⟨.hbm, 558, rfl⟩
abbrev main_call16_v4 : Ref sig .tc := ⟨.hbm, 559, rfl⟩
abbrev main_v455 : Ref sig .tc := ⟨.hbm, 560, rfl⟩
abbrev main_v456 : Ref sig .tc := ⟨.hbm, 561, rfl⟩
abbrev main_v457 : Ref sig .tc := ⟨.hbm, 562, rfl⟩
abbrev main_v458 : Ref sig .tc := ⟨.hbm, 563, rfl⟩
abbrev main_cst_38 : Ref sig .tc := ⟨.hbm, 564, rfl⟩
abbrev main_v459 : Ref sig .tc := ⟨.hbm, 565, rfl⟩
abbrev main_v460 : Ref sig .tc := ⟨.hbm, 566, rfl⟩
abbrev main_v461 : Ref sig .tc := ⟨.hbm, 567, rfl⟩
abbrev main_v462 : Ref sig .tc := ⟨.hbm, 568, rfl⟩
abbrev main_cst_39 : Ref sig .tc := ⟨.hbm, 569, rfl⟩
abbrev main_v463 : Ref sig .tc := ⟨.hbm, 570, rfl⟩
abbrev main_v464 : Ref sig .tc := ⟨.hbm, 571, rfl⟩
abbrev main_v465 : Ref sig .tc := ⟨.hbm, 572, rfl⟩
abbrev main_v466 : Ref sig .tc := ⟨.hbm, 573, rfl⟩
abbrev main_cst_40 : Ref sig .tc := ⟨.hbm, 574, rfl⟩
abbrev main_v467 : Ref sig .tc := ⟨.hbm, 575, rfl⟩
abbrev main_v468 : Ref sig .tc := ⟨.hbm, 576, rfl⟩
abbrev main_v469 : Ref sig .tc := ⟨.hbm, 577, rfl⟩
abbrev main_v470 : Ref sig .tc := ⟨.hbm, 578, rfl⟩
abbrev main_cst_41 : Ref sig .tc := ⟨.hbm, 579, rfl⟩
abbrev main_v471 : Ref sig .tc := ⟨.hbm, 580, rfl⟩
abbrev main_v472 : Ref sig .tc := ⟨.hbm, 581, rfl⟩
abbrev main_v473 : Ref sig .tc := ⟨.hbm, 582, rfl⟩
abbrev main_v474 : Ref sig .tc := ⟨.hbm, 583, rfl⟩
abbrev main_c_42 : Ref sig .tc := ⟨.hbm, 584, rfl⟩
abbrev main_v475 : Ref sig .tc := ⟨.hbm, 585, rfl⟩
abbrev main_v476 : Ref sig .tc := ⟨.hbm, 586, rfl⟩
abbrev main_v477 : Ref sig .tc := ⟨.hbm, 587, rfl⟩
abbrev main_v478 : Ref sig .tc := ⟨.hbm, 588, rfl⟩
abbrev main_v479 : Ref sig .tc := ⟨.hbm, 589, rfl⟩
abbrev main_call17_v0 : Ref sig .tc := ⟨.hbm, 590, rfl⟩
abbrev main_v480 : Ref sig .tc := ⟨.hbm, 591, rfl⟩
abbrev main_v481 : Ref sig .tc := ⟨.hbm, 592, rfl⟩
abbrev main_v482 : Ref sig .tc := ⟨.hbm, 593, rfl⟩
abbrev main_v483 : Ref sig .tc := ⟨.hbm, 594, rfl⟩
abbrev main_v484 : Ref sig .tc := ⟨.hbm, 595, rfl⟩
abbrev main_v485 : Ref sig .tc := ⟨.hbm, 596, rfl⟩
abbrev main_c_43 : Ref sig .tc := ⟨.hbm, 597, rfl⟩
abbrev main_v486 : Ref sig .tc := ⟨.hbm, 598, rfl⟩
abbrev main_v487 : Ref sig .tc := ⟨.hbm, 599, rfl⟩
abbrev main_v488 : Ref sig .tc := ⟨.hbm, 600, rfl⟩
abbrev main_v489 : Ref sig .tc := ⟨.hbm, 601, rfl⟩
abbrev main_v490 : Ref sig .tc := ⟨.hbm, 602, rfl⟩
abbrev main_call18_v0 : Ref sig .tc := ⟨.hbm, 603, rfl⟩
abbrev main_v491 : Ref sig .tc := ⟨.hbm, 604, rfl⟩
abbrev main_v492 : Ref sig .tc := ⟨.hbm, 605, rfl⟩
abbrev main_v493 : Ref sig .tc := ⟨.hbm, 606, rfl⟩
abbrev main_v494 : Ref sig .tc := ⟨.hbm, 607, rfl⟩
abbrev main_v495 : Ref sig .tc := ⟨.hbm, 608, rfl⟩
abbrev main_v496 : Ref sig .tc := ⟨.hbm, 609, rfl⟩
abbrev main_v497 : Ref sig .tc := ⟨.hbm, 610, rfl⟩
abbrev main_c_44 : Ref sig .tc := ⟨.hbm, 611, rfl⟩
abbrev main_v498 : Ref sig .tc := ⟨.hbm, 612, rfl⟩
abbrev main_v499 : Ref sig .tc := ⟨.hbm, 613, rfl⟩
abbrev main_v500 : Ref sig .tc := ⟨.hbm, 614, rfl⟩
abbrev main_v501 : Ref sig .tc := ⟨.hbm, 615, rfl⟩
abbrev main_v502 : Ref sig .tc := ⟨.hbm, 616, rfl⟩
abbrev main_call19_v0 : Ref sig .tc := ⟨.hbm, 617, rfl⟩
abbrev main_v503 : Ref sig .tc := ⟨.hbm, 618, rfl⟩
abbrev main_v504 : Ref sig .tc := ⟨.hbm, 619, rfl⟩
abbrev main_v505 : Ref sig .tc := ⟨.hbm, 620, rfl⟩
abbrev main_v506 : Ref sig .tc := ⟨.hbm, 621, rfl⟩
abbrev main_v507 : Ref sig .tc := ⟨.hbm, 622, rfl⟩
abbrev main_v508 : Ref sig .tc := ⟨.hbm, 623, rfl⟩
abbrev main_v509 : Ref sig .tc := ⟨.hbm, 624, rfl⟩
abbrev main_c_45 : Ref sig .tc := ⟨.hbm, 625, rfl⟩
abbrev main_v510 : Ref sig .tc := ⟨.hbm, 626, rfl⟩
abbrev main_v511 : Ref sig .tc := ⟨.hbm, 627, rfl⟩
abbrev main_v512 : Ref sig .tc := ⟨.hbm, 628, rfl⟩
abbrev main_v513 : Ref sig .tc := ⟨.hbm, 629, rfl⟩
abbrev main_v514 : Ref sig .tc := ⟨.hbm, 630, rfl⟩
abbrev main_call20_v0 : Ref sig .tc := ⟨.hbm, 631, rfl⟩
abbrev main_v515 : Ref sig .tc := ⟨.hbm, 632, rfl⟩
abbrev main_v516 : Ref sig .tc := ⟨.hbm, 633, rfl⟩
abbrev main_v517 : Ref sig .tc := ⟨.hbm, 634, rfl⟩
abbrev main_v518 : Ref sig .tc := ⟨.hbm, 635, rfl⟩
abbrev main_v519 : Ref sig .tc := ⟨.hbm, 636, rfl⟩
abbrev main_v520 : Ref sig .tc := ⟨.hbm, 637, rfl⟩
abbrev main_v521 : Ref sig .tc := ⟨.hbm, 638, rfl⟩
abbrev main_v522 : Ref sig .tc := ⟨.hbm, 639, rfl⟩
abbrev main_v523 : Ref sig .tc := ⟨.hbm, 640, rfl⟩
abbrev main_cst_46 : Ref sig .tc := ⟨.hbm, 641, rfl⟩
abbrev main_v524 : Ref sig .tc := ⟨.hbm, 642, rfl⟩
abbrev main_v525 : Ref sig .tc := ⟨.hbm, 643, rfl⟩
abbrev main_v526 : Ref sig .tc := ⟨.hbm, 644, rfl⟩
abbrev main_v527 : Ref sig .tc := ⟨.hbm, 645, rfl⟩

abbrev nD : Nat := 1
abbrev τ : Topo := Topo.v7x

variable {F : FTy → Type} [FloatOps F]
-- ==== Proof.Ideal.ConvLoop.lean ====
module

public import proofs.«01_k».proof.Proof.Gen.KernelIdeal.Loops
public import Idealize.ShloMosaic.Lib.Pointwise
public import Idealize.ShloMosaic.Lib.WritesUnit

/-! The two convolution loops of the program, by invariants that say what the accumulator holds. Trip `k` of either loop
multiplies the weights by the shifted copies of depth row `k` and adds the three 8-row thirds of the product to the depth
rows `k + 1`, `k` and `k - 1` of the accumulator, where those rows exist. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the runs. -/
local notation "𝕄" => MT nD τ sig Unit (Elt F) ℕ (UR sig nD τ) ℕ

/-- The element of the 24-row product `P` in output row `8 * t + o`, column `p`. -/
def third (P : FVec F S24x4096 .f32) (t : Fin 3) (o : Fin 8) (p : Fin 4096) : F .f32 :=
  P (ix2 (n0 := 24) (n1 := 4096) ⟨8 * t.val + o.val, by omega⟩ p)

/-- The accumulator after one trip at depth row `k` with product `P`: the thirds of `P` added to rows `k + 1`, `k`, `k - 1`. -/
def hstep (P : FVec F S24x4096 .f32) (k : ℕ) (h : Vec F S1x64x8x4096 .f32) : Vec F S1x64x8x4096 .f32 := fun j =>
  if (j 1).val = k + 1 then FloatOps.addf (h j) (third P 0 (j 2) (j 3))
  else if (j 1).val = k then FloatOps.addf (h j) (third P 1 (j 2) (j 3))
  else if (j 1).val + 1 = k then FloatOps.addf (h j) (third P 2 (j 2) (j 3))
  else h j

/-- The accumulator before trip `k`, from contents `h0`, `P t` the product of trip `t`. -/
def hacc (P : ℕ → FVec F S24x4096 .f32) (h0 : Vec F S1x64x8x4096 .f32) : ℕ → Vec F S1x64x8x4096 .f32
  | 0 => h0
  | k + 1 => hstep (P k) k (hacc P h0 k)

/-! ### Offsets and conditions of the first loop -/

/-- The third store's row is the row before `k`. -/
theorem k0_off4_eq : ∀ k : Fin k0_t1_loop.trips, k0_off4 k = ![0, k.val - 1, 0, 0] := by decide +kernel
instance (k : Fin k0_t1_loop.trips) : ClosedOff (k0_off4 k) := ⟨_, k0_off4_eq k⟩

theorem k0_cond1_iff : ∀ k : Fin k0_t1_loop.trips, k0_cond1 k = 1#1 ↔ k.val + 1 < 64 := by decide +kernel
theorem k0_cond2_true : ∀ k : Fin k0_t1_loop.trips, k0_cond2 k = 1#1 := by decide +kernel
theorem k0_cond3_iff : ∀ k : Fin k0_t1_loop.trips, k0_cond3 k = 1#1 ↔ 1 ≤ k.val := by decide +kernel

/-- The third store's row of the second loop is the row before `k`. -/
theorem k1_off6_eq : ∀ k : Fin k1_t2_loop.trips, k1_off6 k = ![0, k.val - 1, 0, 0] := by decide +kernel
instance (k : Fin k1_t2_loop.trips) : ClosedOff (k1_off6 k) := ⟨_, k1_off6_eq k⟩

theorem k1_cond1_iff : ∀ k : Fin k1_t2_loop.trips, k1_cond1 k = 1#1 ↔ k.val + 1 < 64 := by decide +kernel
theorem k1_cond2_true : ∀ k : Fin k1_t2_loop.trips, k1_cond2 k = 1#1 := by decide +kernel
theorem k1_cond3_iff : ∀ k : Fin k1_t2_loop.trips, k1_cond3 k = 1#1 ↔ 1 ≤ k.val := by decide +kernel

/-! ### The payloads at an index -/

theorem addRow_apply (t : Fin 3) (v67 : FVec F S24x4096 .f32) (v96 : Vec F S1x1x8x4096 .f32) (j0 j1 : Fin 1) (o : Fin 8) (p : Fin 4096)
    (off : Fin 2 → ℕ) (hoff : off = ![8 * t.val, 0]) (hs : S24x4096.Slices off S8x4096) :
    shapeCast S1x1x8x4096 (addf (φ := .f32) (shapeCast S8x4096 v96 shapeCasts_S1x1x8x4096_S8x4096)
        (extractStridedSlice S8x4096 off v67 hs)) shapeCasts_S8x4096_S1x1x8x4096 (ix4 j0 j1 o p)
      = FloatOps.addf (v96 (ix4 j0 j1 o p)) (third v67 t o p) := by
  subst hoff
  unfold third
  obtain rfl : j0 = 0 := Subsingleton.elim _ _
  obtain rfl : j1 = 0 := Subsingleton.elim _ _
  pointwise []

/-- Depth row `r` of a block. -/
def row (r : ℕ) (x : Vec F S1x64x8x4096 .f32) : Vec F S1x1x8x4096 .f32 := fun y =>
  x (ix4 (n0 := 1) (n1 := 64) (n2 := 8) (n3 := 4096) 0 ⟨r % 64, Nat.mod_lt _ (by decide)⟩ (y 2) (y 3))

/-- Depth row `r` of the scratch. -/
def srow (r : ℕ) (x : Vec F S64x8x4096 .f32) : Vec F S1x8x4096 .f32 := fun y =>
  x (ix3 (n0 := 64) (n1 := 8) (n2 := 4096) ⟨r % 64, Nat.mod_lt _ (by decide)⟩ (y 1) (y 2))

section Rows

variable (v : View sig .tc .vmem S1x64x8x4096 .f32) (f : v.ty.Contents (Elt F))

/-- A load of depth row `k` reads row `k` of the contents. -/
theorem readAt_row {k : ℕ} (hk : k < 64) {off : Fin 4 → ℕ} (hoff : off = ![0, k, 0, 0])
    (inb : ∀ a, off a + S1x1x8x4096.size a ≤ S1x64x8x4096.size a) :
    v.readAt (Elt F) (Rect.unit (s := S1x64x8x4096) off S1x1x8x4096.size inb).toLoadRect f = row k (v.read (Elt F) f) := by
  subst hoff
  funext y
  rw [View.readAt_apply]
  unfold row
  refine congrArg _ (funext fun a => Fin.ext ?_)
  have h0 : (y 0).val = 0 := by have := (y 0).isLt; change _ < 1 at this; omega
  have h1 : (y 1).val = 0 := by have := (y 1).isLt; change _ < 1 at this; omega
  match a with
  | ⟨0, _⟩ => show 0 + 1 * (y 0).val = 0; omega
  | ⟨1, _⟩ => show k + 1 * (y 1).val = k % 64; omega
  | ⟨2, _⟩ => show 0 + 1 * (y 2).val = (y 2).val; omega
  | ⟨3, _⟩ => show 0 + 1 * (y 3).val = (y 3).val; omega

/-- A write of a whole depth row `k`, read back: the payload in row `k`, the rest elsewhere. -/
theorem read_write_row {k : ℕ} {off : Fin 4 → ℕ} (hoff : off = ![0, k, 0, 0])
    (inb : ∀ a, off a + S1x1x8x4096.size a ≤ S1x64x8x4096.size a) (w : Vec F S1x1x8x4096 .f32)
    (L : List (View.Piece (Elt F) S1x64x8x4096 .f32)) (j : S1x64x8x4096.Idx) :
    v.read (Elt F) (v.writes (Elt F) f ((⟨Rect.unit (s := S1x64x8x4096) off S1x1x8x4096.size inb, w⟩ : View.Piece (Elt F) S1x64x8x4096 .f32) :: L)) j
      = if (j 1).val = k then w (ix4 0 0 (j 2) (j 3)) else v.read (Elt F) (v.writes (Elt F) f L) j := by
  have h0 : (j 0).val = 0 := by have := (j 0).isLt; change _ < 1 at this; omega
  by_cases h : (j 1).val = k
  · rw [if_pos h]
    refine View.read_writes_cons_unit_of_mem v f inb w L j (ix4 (n0 := 1) (n1 := 1) (n2 := 8) (n3 := 4096) 0 0 (j 2) (j 3)) hoff ?_
    intro a
    match a with
    | ⟨0, _⟩ => exact h0
    | ⟨1, _⟩ => exact h
    | ⟨2, _⟩ => exact (Nat.zero_add _).symm
    | ⟨3, _⟩ => exact (Nat.zero_add _).symm
  · rw [if_neg h]
    refine View.read_writes_cons_unit_of_not_mem v f inb w L j hoff (1 : Fin 4) ?_
    show (j 1).val < k ∨ k + 1 ≤ (j 1).val
    omega

/-- The pieces after a read-modify-write by `pay` of the depth row at offsets `off`, the pieces before being `L`. -/
abbrev rmw (off : Fin 4 → ℕ) (inb : ∀ a, off a + S1x1x8x4096.size a ≤ S1x64x8x4096.size a)
    (pay : Vec F S1x1x8x4096 .f32 → Vec F S1x1x8x4096 .f32) (L : List (View.Piece (Elt F) S1x64x8x4096 .f32)) :
    List (View.Piece (Elt F) S1x64x8x4096 .f32) :=
  (⟨Rect.unit (s := S1x64x8x4096) off S1x1x8x4096.size inb,
    pay (v.readAt (Elt F) (Rect.unit (s := S1x64x8x4096) off S1x1x8x4096.size inb).toLoadRect (v.writes (Elt F) f L))⟩ :
    View.Piece (Elt F) S1x64x8x4096 .f32) :: L

/-- `pay` adds third `t` of the product `P`. -/
abbrev Adds (P : FVec F S24x4096 .f32) (t : Fin 3) (pay : Vec F S1x1x8x4096 .f32 → Vec F S1x1x8x4096 .f32) : Prop :=
  ∀ w a b o p, pay w (ix4 a b o p) = FloatOps.addf (w (ix4 a b o p)) (third P t o p)

/-- A read-modify-write of depth row `r` that adds third `t` of a product: what the accumulator reads afterwards. -/
theorem read_addRow {r : ℕ} (hr : r < 64) {off : Fin 4 → ℕ} (hoff : off = ![0, r, 0, 0])
    (inb : ∀ a, off a + S1x1x8x4096.size a ≤ S1x64x8x4096.size a) (t : Fin 3) (P : FVec F S24x4096 .f32)
    (pay : Vec F S1x1x8x4096 .f32 → Vec F S1x1x8x4096 .f32) (hpay : Adds P t pay)
    (L : List (View.Piece (Elt F) S1x64x8x4096 .f32)) (j : S1x64x8x4096.Idx) :
    v.read (Elt F) (v.writes (Elt F) f (rmw v f off inb pay L)) j
      = if (j 1).val = r then FloatOps.addf (v.read (Elt F) (v.writes (Elt F) f L) j) (third P t (j 2) (j 3))
        else v.read (Elt F) (v.writes (Elt F) f L) j := by
  rw [read_write_row v f hoff inb]
  by_cases h : (j 1).val = r
  · rw [if_pos h, if_pos h]
    refine (hpay _ 0 0 (j 2) (j 3)).trans ?_
    rw [readAt_row v _ hr hoff inb]
    congr 1
    unfold row
    refine congrArg _ (funext fun a => Fin.ext ?_)
    have h0 : (j 0).val = 0 := by have := (j 0).isLt; change _ < 1 at this; omega
    match a with
    | ⟨0, _⟩ => exact h0.symm
    | ⟨1, _⟩ => show r % 64 = (j 1).val; omega
    | ⟨2, _⟩ => rfl
    | ⟨3, _⟩ => rfl
  · rw [if_neg h, if_neg h]

variable {k : ℕ} (P : FVec F S24x4096 .f32) {o1 o2 o3 : Fin 4 → ℕ} (hk : k < 64)
  (ho1 : o1 = ![0, min 63 (k + 1), 0, 0]) (ho2 : o2 = ![0, k, 0, 0]) (ho3 : o3 = ![0, k - 1, 0, 0])
  (inb1 : ∀ a, o1 a + S1x1x8x4096.size a ≤ S1x64x8x4096.size a) (inb2 : ∀ a, o2 a + S1x1x8x4096.size a ≤ S1x64x8x4096.size a)
  (inb3 : ∀ a, o3 a + S1x1x8x4096.size a ≤ S1x64x8x4096.size a)
  {pay1 pay2 pay3 : Vec F S1x1x8x4096 .f32 → Vec F S1x1x8x4096 .f32} (hp1 : Adds P 0 pay1) (hp2 : Adds P 1 pay2) (hp3 : Adds P 2 pay3)

include hk ho1 ho2 ho3 hp1 hp2 hp3

/-- A trip in the middle: all three rows exist. -/
theorem read_trip_mid (h1 : k + 1 < 64) (h3 : 1 ≤ k) :
    v.read (Elt F) (v.writes (Elt F) f (rmw v f o3 inb3 pay3 (rmw v f o2 inb2 pay2 (rmw v f o1 inb1 pay1 []))))
      = hstep P k (v.read (Elt F) f) := by
  have ho1' : o1 = ![0, k + 1, 0, 0] := by rw [ho1, Nat.min_eq_right (by omega)]
  funext j
  rw [read_addRow v f (by omega) ho3 inb3 2 P pay3 hp3, read_addRow v f hk ho2 inb2 1 P pay2 hp2,
    read_addRow v f h1 ho1' inb1 0 P pay1 hp1]
  unfold hstep
  simp only [View.writes_nil]
  split_ifs <;> first | rfl | (exfalso; omega)

omit hp3 ho3 in
/-- The first trip: there is no row before. -/
theorem read_trip_first (h1 : k + 1 < 64) (h3 : ¬ 1 ≤ k) :
    v.read (Elt F) (v.writes (Elt F) f (rmw v f o2 inb2 pay2 (rmw v f o1 inb1 pay1 []))) = hstep P k (v.read (Elt F) f) := by
  have ho1' : o1 = ![0, k + 1, 0, 0] := by rw [ho1, Nat.min_eq_right (by omega)]
  funext j
  rw [read_addRow v f hk ho2 inb2 1 P pay2 hp2, read_addRow v f h1 ho1' inb1 0 P pay1 hp1]
  unfold hstep
  simp only [View.writes_nil]
  split_ifs <;> first | rfl | (exfalso; omega)

omit hp1 ho1 in
/-- The last trip: there is no row after. -/
theorem read_trip_last (h1 : ¬ k + 1 < 64) (h3 : 1 ≤ k) :
    v.read (Elt F) (v.writes (Elt F) f (rmw v f o3 inb3 pay3 (rmw v f o2 inb2 pay2 []))) = hstep P k (v.read (Elt F) f) := by
  funext j
  have hj : (j 1).val < 64 := (j 1).isLt
  rw [read_addRow v f (by omega) ho3 inb3 2 P pay3 hp3, read_addRow v f hk ho2 inb2 1 P pay2 hp2]
  unfold hstep
  simp only [View.writes_nil]
  split_ifs <;> first | rfl | (exfalso; omega)

end Rows

/-- The product of trip `k` of the first loop: weights `w`, inputs `x1` and `x2`. -/
def prod0 (w : Vec F S144x24 .f32) (x1 x2 : Vec F S1x64x8x4096 .f32) (k : ℕ) : FVec F S24x4096 .f32 :=
  k0_pay2 (k0_pay5 w) (k0_pay7 (F := F)) (k0_pay8 (F := F)) (row k x1) (row k x2)

section Loop0

variable (c : Dev nD) (i : grid0.Coords) (arg1 : Memref sig .tc .vmem S1x64x8x4096 .f32) (harg1 : arg1.IsWhole) (arg2 : Memref sig .tc .vmem S1x64x8x4096 .f32) (harg2 : arg2.IsWhole) (arg3 : Memref sig .tc .vmem S144x24 .f32) (harg3 : arg3.IsWhole) (arg4 : Memref sig .tc .vmem S1x64x8x4096 .f32) (harg4 : arg4.IsWhole) (arg5 : Memref sig .tc .vmem S1x8x2 .f32) (harg5 : arg5.IsWhole) (v2 : Vec F S144x24 .f32)
  (X1 : BufTy.Contents (Elt F) arg1.view.ty) (X2 : BufTy.Contents (Elt F) arg2.view.ty)

/-- What the first loop holds before trip `k`: the inputs, and the accumulator at `hacc` of the trips before. -/
abbrev inv0 (h0 : Vec F S1x64x8x4096 .f32) (k : ℕ) : sProp 𝕄 :=
  iprop((arg1.view.loc (c : Thread nD τ) ↦[arg1.view.set]{fullShare} X1) ∗ (arg2.view.loc (c : Thread nD τ) ↦[arg2.view.set]{fullShare} X2)
    ∗ ∃ f, (arg4.view.loc (c : Thread nD τ) ↦[arg4.view.set]{fullShare} f)
      ∗ ⌜arg4.view.read (Elt F) f = hacc (prod0 v2 (arg1.view.read (Elt F) X1) (arg2.view.read (Elt F) X2)) h0 k⌝)

set_option maxHeartbeats 2000000 in
/-- One trip of the first loop. -/
theorem trip0 (E : Set ℕ) (h0 : Vec F S1x64x8x4096 .f32) (k : Fin k0_t1_loop.trips) :
    inv0 c arg1 arg2 arg4 v2 X1 X2 h0 k.val
      ⊢ wp frame (wpE (defs₀ (F := F)) Variants.none (c : Thread nD τ) none) E (k0_t1_body (F := F) i arg1 harg1 arg2 harg2 arg3 harg3 arg4 harg4 arg5 harg5 v2 k ())
          (fun _ => inv0 c arg1 arg2 arg4 v2 X1 X2 h0 (k.val + 1)) := by
  have hk : k.val < 64 := Nat.lt_of_lt_of_le k.isLt k0_t1_abs.2.1
  have hc2 := k0_cond2_true k
  have eP : prod0 v2 (arg1.view.read (Elt F) X1) (arg2.view.read (Elt F) X2) k.val = k0_pay2 (k0_pay5 v2) (k0_pay7 (F := F)) (k0_pay8 (F := F))
      (arg1.view.readAt (Elt F) (Rect.unit (s := S1x64x8x4096) (k0_off1 k) S1x1x8x4096.size (k0_off1_inb k)).toLoadRect X1)
      (arg2.view.readAt (Elt F) (Rect.unit (s := S1x64x8x4096) (k0_off1 k) S1x1x8x4096.size (k0_off1_inb k)).toLoadRect X2) := by
    rw [readAt_row arg1.view X1 hk (k0_off1_eq k) (k0_off1_inb k), readAt_row arg2.view X2 hk (k0_off1_eq k) (k0_off1_inb k)]
    rfl
  unfold inv0 k0_t1_body
  simp only [k0_part1_eq_skeleton]
  unfold k0_part1_skel
  show _ ⊢ wp _ _ _ _ (fun _ => iprop(_ ∗ _ ∗ ∃ f, _ ∗ ⌜_ = hstep _ k.val (hacc _ h0 k.val)⌝))
  by_cases hc1 : k0_cond1 k = 1#1 <;> by_cases hc3 : k0_cond3 k = 1#1
  · iintro ⟨H1, H2, ⟨%f, H4, %hf⟩⟩
    sl_exec
    sl_step
    isplitl [H1]; · iexact H1
    isplitl [H2]; · iexact H2
    iexists _
    isplitl [H4]; · iexact H4
    ipureintro
    rw [← hf, eP]
    exact read_trip_mid arg4.view f _ hk (k0_off2_eq k) (k0_off3_eq k) (k0_off4_eq k) (k0_off2_inb k hc1) (k0_off3_inb k hc2) (k0_off4_inb k hc3)
      (pay1 := k0_pay3 _ _ _ _ _) (pay2 := k0_pay9 _) (pay3 := k0_pay10 _)
      (fun w a b o p => addRow_apply 0 _ w a b o p _ rfl _) (fun w a b o p => addRow_apply 1 _ w a b o p _ rfl _) (fun w a b o p => addRow_apply 2 _ w a b o p _ rfl _)
      ((k0_cond1_iff k).mp hc1) ((k0_cond3_iff k).mp hc3)
  · iintro ⟨H1, H2, ⟨%f, H4, %hf⟩⟩
    sl_exec
    sl_step
    isplitl [H1]; · iexact H1
    isplitl [H2]; · iexact H2
    iexists _
    isplitl [H4]; · iexact H4
    ipureintro
    rw [← hf, eP]
    exact read_trip_first arg4.view f _ hk (k0_off2_eq k) (k0_off3_eq k) (k0_off2_inb k hc1) (k0_off3_inb k hc2)
      (pay1 := k0_pay3 _ _ _ _ _) (pay2 := k0_pay9 _)
      (fun w a b o p => addRow_apply 0 _ w a b o p _ rfl _) (fun w a b o p => addRow_apply 1 _ w a b o p _ rfl _)
      ((k0_cond1_iff k).mp hc1) (fun h => hc3 ((k0_cond3_iff k).mpr h))
  · iintro ⟨H1, H2, ⟨%f, H4, %hf⟩⟩
    sl_exec
    sl_step
    isplitl [H1]; · iexact H1
    isplitl [H2]; · iexact H2
    iexists _
    isplitl [H4]; · iexact H4
    ipureintro
    rw [← hf, eP]
    exact read_trip_last arg4.view f _ hk (k0_off3_eq k) (k0_off4_eq k) (k0_off3_inb k hc2) (k0_off4_inb k hc3)
      (pay2 := k0_pay9 _) (pay3 := k0_pay10 _)
      (fun w a b o p => addRow_apply 1 _ w a b o p _ rfl _) (fun w a b o p => addRow_apply 2 _ w a b o p _ rfl _)
      (fun h => hc1 ((k0_cond1_iff k).mpr h)) ((k0_cond3_iff k).mp hc3)
  · exfalso
    have h1 : ¬ k.val + 1 < 64 := fun h => hc1 ((k0_cond1_iff k).mpr h)
    have h3 : ¬ 1 ≤ k.val := fun h => hc3 ((k0_cond3_iff k).mpr h)
    omega

set_option warn.classDefReducibility false in
/-- The first loop by its invariant. -/
@[sl_loop] def loopInv0 (E : Set ℕ) (h0 : Vec F S1x64x8x4096 .f32) :
    LoopInvTy_k0_t1 (F := F) Unit ℕ (UR sig nD τ) ℕ Variants.none c none E i arg1 harg1 arg2 harg2 arg3 harg3 arg4 harg4 arg5 harg5 v2 where
  inv := fun k _ => inv0 c arg1 arg2 arg4 v2 X1 X2 h0 k
  step := fun k _ => trip0 c i arg1 harg1 arg2 harg2 arg3 harg3 arg4 harg4 arg5 harg5 v2 X1 X2 E h0 k

end Loop0

/-- The product of trip `k` of the second loop: weights `w` (as cast), the lane counter's parameters, and the scratch `x`. -/
def prod1 (w : FVec F S72x24 .f32) (v33 : IVec S1x4096 32) (c64 c0 : BitVec 32) (x : Vec F S64x8x4096 .f32) (k : ℕ) : FVec F S24x4096 .f32 :=
  k1_pay7 w (k1_pay2 (F := F) v33 c64 c0) (k1_pay3 (F := F) v33 c64 c0) (srow k x)

/-- A load of row `k` of the scratch reads that row of its contents. -/
theorem readAt_srow (v : View sig .tc .vmem S64x8x4096 .f32) (f : v.ty.Contents (Elt F)) {k : ℕ} (hk : k < 64) {off : Fin 3 → ℕ} (hoff : off = ![k, 0, 0])
    (inb : ∀ a, off a + S1x8x4096.size a ≤ S64x8x4096.size a) :
    v.readAt (Elt F) (Rect.unit (s := S64x8x4096) off S1x8x4096.size inb).toLoadRect f = srow k (v.read (Elt F) f) := by
  subst hoff
  funext y
  rw [View.readAt_apply]
  unfold srow
  refine congrArg _ (funext fun a => Fin.ext ?_)
  have h0 : (y 0).val = 0 := by have := (y 0).isLt; change _ < 1 at this; omega
  match a with
  | ⟨0, _⟩ => show k + 1 * (y 0).val = k % 64; omega
  | ⟨1, _⟩ => show 0 + 1 * (y 1).val = (y 1).val; omega
  | ⟨2, _⟩ => show 0 + 1 * (y 2).val = (y 2).val; omega

section Loop1

variable (c : Dev nD) (i : grid1.Coords) (arg1 : Memref sig .tc .vmem S1x64x8x4096 .f32) (harg1 : arg1.IsWhole) (arg2 : Memref sig .tc .vmem S2x8x2 .f32) (harg2 : arg2.IsWhole) (arg3 : Memref sig .tc .vmem S8x1 .f32) (harg3 : arg3.IsWhole) (arg4 : Memref sig .tc .vmem S8x1 .f32) (harg4 : arg4.IsWhole) (arg5 : Memref sig .tc .vmem S72x24 .f32) (harg5 : arg5.IsWhole) (arg6 : Memref sig .tc .vmem S8x1 .f32) (harg6 : arg6.IsWhole) (arg7 : Memref sig .tc .vmem S1x64x8x4096 .f32) (harg7 : arg7.IsWhole) (arg8 : Memref sig .tc .vmem S64x8x4096 .f32) (harg8 : arg8.IsWhole)

/-- The scratch before trip `k` of the normalising loop: the first `k` rows normalised, the rest as `g0`. -/
def nacc (v0 : Vec F S2x8x2 .f32) (v21 v24 : Vec F S8x1 .f32) (x : Vec F S1x64x8x4096 .f32) (g0 : Vec F S64x8x4096 .f32) (k : ℕ) : Vec F S64x8x4096 .f32 := fun j =>
  if (j 0).val < k then k1_pay9 v0 v21 v24 (row (j 0).val x) (ix3 (n0 := 1) (n1 := 8) (n2 := 4096) 0 (j 1) (j 2)) else g0 j

/-- What the normalising loop holds before trip `k`. -/
abbrev invN (v0 : Vec F S2x8x2 .f32) (v21 v24 : Vec F S8x1 .f32) (X1 : BufTy.Contents (Elt F) arg1.view.ty) (g0 : Vec F S64x8x4096 .f32) (k : ℕ) : sProp 𝕄 :=
  iprop((arg1.view.loc (c : Thread nD τ) ↦[arg1.view.set]{fullShare} X1)
    ∗ ∃ f, (arg8.view.loc (c : Thread nD τ) ↦[arg8.view.set]{fullShare} f)
      ∗ ⌜arg8.view.read (Elt F) f = nacc v0 v21 v24 (arg1.view.read (Elt F) X1) g0 k⌝)

/-- One trip of the normalising loop. -/
theorem tripN (v0 : Vec F S2x8x2 .f32) (v21 v24 : Vec F S8x1 .f32) (X1 : BufTy.Contents (Elt F) arg1.view.ty) (E : Set ℕ) (g0 : Vec F S64x8x4096 .f32) (k : Fin k1_t1_loop.trips) :
    invN c arg1 arg8 v0 v21 v24 X1 g0 k.val
      ⊢ wp frame (wpE (defs₀ (F := F)) Variants.none (c : Thread nD τ) none) E (k1_t1_body (F := F) i arg1 harg1 arg2 harg2 arg3 harg3 arg4 harg4 arg5 harg5 arg6 harg6 arg7 harg7 arg8 harg8 v0 v21 v24 k ())
          (fun _ => invN c arg1 arg8 v0 v21 v24 X1 g0 (k.val + 1)) := by
  have hk : k.val < 64 := Nat.lt_of_lt_of_le k.isLt k1_t1_abs.2.1
  unfold invN k1_t1_body
  iintro ⟨H1, ⟨%f, H8, %hf⟩⟩
  sl_exec
  sl_step
  isplitl [H1]; · iexact H1
  iexists _
  isplitl [H8]; · iexact H8
  ipureintro
  rw [readAt_row arg1.view X1 hk (k1_off1_eq k) (k1_off1_inb k)]
  funext j
  by_cases h : (j 0).val = k.val
  · refine (View.read_writes_cons_unit_of_mem arg8.view f (k1_off2_inb k) _ [] j (ix3 (n0 := 1) (n1 := 8) (n2 := 4096) 0 (j 1) (j 2)) (k1_off2_eq k) ?_).trans ?_
    · intro a
      match a with
      | ⟨0, _⟩ => exact h
      | ⟨1, _⟩ => exact (Nat.zero_add _).symm
      | ⟨2, _⟩ => exact (Nat.zero_add _).symm
    · unfold nacc
      rw [if_pos (by omega), h]
  · refine (View.read_writes_cons_unit_of_not_mem arg8.view f (k1_off2_inb k) _ [] j (k1_off2_eq k) (0 : Fin 3) ?_).trans ?_
    · show (j 0).val < k.val ∨ k.val + 1 ≤ (j 0).val
      omega
    · rw [View.writes_nil, hf]
      unfold nacc
      by_cases h' : (j 0).val < k.val
      · rw [if_pos h', if_pos (by omega)]
      · rw [if_neg h', if_neg (by omega)]

set_option warn.classDefReducibility false in
/-- The normalising loop by its invariant. -/
@[sl_loop] def loopInvN (E : Set ℕ) (v0 : Vec F S2x8x2 .f32) (v21 v24 : Vec F S8x1 .f32) (X1 : BufTy.Contents (Elt F) arg1.view.ty) (g0 : Vec F S64x8x4096 .f32) :
    LoopInvTy_k1_t1 (F := F) Unit ℕ (UR sig nD τ) ℕ Variants.none c none E i arg1 harg1 arg2 harg2 arg3 harg3 arg4 harg4 arg5 harg5 arg6 harg6 arg7 harg7 arg8 harg8 v0 v21 v24 where
  inv := fun k _ => invN c arg1 arg8 v0 v21 v24 X1 g0 k
  step := fun k _ => tripN c i arg1 harg1 arg2 harg2 arg3 harg3 arg4 harg4 arg5 harg5 arg6 harg6 arg7 harg7 arg8 harg8 v0 v21 v24 X1 E g0 k

variable (v32 : FVec F S72x24 .f32) (v33 : IVec S1x4096 32) (c64_i32_16 c0_i32_17 : BitVec 32) (X8 : BufTy.Contents (Elt F) arg8.view.ty)

/-- What the second convolution loop holds before trip `k`: the scratch, and the accumulator at `hacc` of the trips before. -/
abbrev inv1 (h0 : Vec F S1x64x8x4096 .f32) (k : ℕ) : sProp 𝕄 :=
  iprop((arg8.view.loc (c : Thread nD τ) ↦[arg8.view.set]{fullShare} X8)
    ∗ ∃ f, (arg7.view.loc (c : Thread nD τ) ↦[arg7.view.set]{fullShare} f)
      ∗ ⌜arg7.view.read (Elt F) f = hacc (prod1 v32 v33 c64_i32_16 c0_i32_17 (arg8.view.read (Elt F) X8)) h0 k⌝)

set_option maxHeartbeats 2000000 in
/-- One trip of the second convolution loop. -/
theorem trip1 (E : Set ℕ) (h0 : Vec F S1x64x8x4096 .f32) (k : Fin k1_t2_loop.trips) :
    inv1 c arg7 arg8 v32 v33 c64_i32_16 c0_i32_17 X8 h0 k.val
      ⊢ wp frame (wpE (defs₀ (F := F)) Variants.none (c : Thread nD τ) none) E (k1_t2_body (F := F) i arg1 harg1 arg2 harg2 arg3 harg3 arg4 harg4 arg5 harg5 arg6 harg6 arg7 harg7 arg8 harg8 v32 v33 c64_i32_16 c0_i32_17 k ())
          (fun _ => inv1 c arg7 arg8 v32 v33 c64_i32_16 c0_i32_17 X8 h0 (k.val + 1)) := by
  have hk : k.val < 64 := Nat.lt_of_lt_of_le k.isLt k1_t2_abs.2.1
  have hc2 := k1_cond2_true k
  have eP : prod1 v32 v33 c64_i32_16 c0_i32_17 (arg8.view.read (Elt F) X8) k.val = k1_pay7 v32 (k1_pay2 (F := F) v33 c64_i32_16 c0_i32_17) (k1_pay3 (F := F) v33 c64_i32_16 c0_i32_17)
      (arg8.view.readAt (Elt F) (Rect.unit (s := S64x8x4096) (k1_off3 k) S1x8x4096.size (k1_off3_inb k)).toLoadRect X8) := by
    rw [readAt_srow arg8.view X8 hk (k1_off3_eq k) (k1_off3_inb k)]
    rfl
  unfold inv1 k1_t2_body
  simp only [k1_part1_eq_skeleton]
  unfold k1_part1_skel
  show _ ⊢ wp _ _ _ _ (fun _ => iprop(_ ∗ ∃ f, _ ∗ ⌜_ = hstep _ k.val (hacc _ h0 k.val)⌝))
  by_cases hc1 : k1_cond1 k = 1#1 <;> by_cases hc3 : k1_cond3 k = 1#1
  · iintro ⟨H8, ⟨%f, H7, %hf⟩⟩
    sl_exec
    sl_step
    isplitl [H8]; · iexact H8
    iexists _
    isplitl [H7]; · iexact H7
    ipureintro
    rw [← hf, eP]
    exact read_trip_mid arg7.view f _ hk (k1_off4_eq k) (k1_off5_eq k) (k1_off6_eq k) (k1_off4_inb k hc1) (k1_off5_inb k hc2) (k1_off6_inb k hc3)
      (pay1 := k1_pay8 _ _ _ _) (pay2 := k1_pay4 _) (pay3 := k1_pay5 _)
      (fun w a b o p => addRow_apply 0 _ w a b o p _ rfl _) (fun w a b o p => addRow_apply 1 _ w a b o p _ rfl _) (fun w a b o p => addRow_apply 2 _ w a b o p _ rfl _)
      ((k1_cond1_iff k).mp hc1) ((k1_cond3_iff k).mp hc3)
  · iintro ⟨H8, ⟨%f, H7, %hf⟩⟩
    sl_exec
    sl_step
    isplitl [H8]; · iexact H8
    iexists _
    isplitl [H7]; · iexact H7
    ipureintro
    rw [← hf, eP]
    exact read_trip_first arg7.view f _ hk (k1_off4_eq k) (k1_off5_eq k) (k1_off4_inb k hc1) (k1_off5_inb k hc2)
      (pay1 := k1_pay8 _ _ _ _) (pay2 := k1_pay4 _)
      (fun w a b o p => addRow_apply 0 _ w a b o p _ rfl _) (fun w a b o p => addRow_apply 1 _ w a b o p _ rfl _)
      ((k1_cond1_iff k).mp hc1) (fun h => hc3 ((k1_cond3_iff k).mpr h))
  · iintro ⟨H8, ⟨%f, H7, %hf⟩⟩
    sl_exec
    sl_step
    isplitl [H8]; · iexact H8
    iexists _
    isplitl [H7]; · iexact H7
    ipureintro
    rw [← hf, eP]
    exact read_trip_last arg7.view f _ hk (k1_off5_eq k) (k1_off6_eq k) (k1_off5_inb k hc2) (k1_off6_inb k hc3)
      (pay2 := k1_pay4 _) (pay3 := k1_pay5 _)
      (fun w a b o p => addRow_apply 1 _ w a b o p _ rfl _) (fun w a b o p => addRow_apply 2 _ w a b o p _ rfl _)
      (fun h => hc1 ((k1_cond1_iff k).mpr h)) ((k1_cond3_iff k).mp hc3)
  · exfalso
    have h1 : ¬ k.val + 1 < 64 := fun h => hc1 ((k1_cond1_iff k).mpr h)
    have h3 : ¬ 1 ≤ k.val := fun h => hc3 ((k1_cond3_iff k).mpr h)
    omega

set_option warn.classDefReducibility false in
/-- The second convolution loop by its invariant. -/
@[sl_loop] def loopInv1 (E : Set ℕ) (h0 : Vec F S1x64x8x4096 .f32) :
    LoopInvTy_k1_t2 (F := F) Unit ℕ (UR sig nD τ) ℕ Variants.none c none E i arg1 harg1 arg2 harg2 arg3 harg3 arg4 harg4 arg5 harg5 arg6 harg6 arg7 harg7 arg8 harg8 v32 v33 c64_i32_16 c0_i32_17 where
  inv := fun k _ => inv1 c arg7 arg8 v32 v33 c64_i32_16 c0_i32_17 X8 h0 k
  step := fun k _ => trip1 c i arg1 harg1 arg2 harg2 arg3 harg3 arg4 harg4 arg5 harg5 arg6 harg6 arg7 harg7 arg8 harg8 v32 v33 c64_i32_16 c0_i32_17 X8 E h0 k

end Loop1

end Cert.KernelIdeal.Hand

end
-- ==== Proof.Ideal.Bodies.lean ====
module

public import proofs.«01_k».proof.Proof.Ideal.ConvLoop

/-! The two kernel bodies: what each leaves in its output blocks, as a function of its input blocks. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the runs. -/
local notation "𝕄" => MT nD τ sig Unit (Elt F) ℕ (UR sig nD τ) ℕ

/-- The first kernel's feature block: the sum of the shifted products over the 64 depth rows. -/
def out0_3 (x0 x1 : Vec F S1x64x8x4096 .f32) (x2 : Vec F S144x24 .f32) : Vec F S1x64x8x4096 .f32 :=
  hacc (prod0 x2 x0 x1) (k0_pay4 (F := F)) 64

/-- The first kernel's sums block: per channel the sum of the features and the sum of their squares. -/
def out0_4 (x0 x1 : Vec F S1x64x8x4096 .f32) (x2 : Vec F S144x24 .f32) : Vec F S1x8x2 .f32 :=
  k0_pay1 (k0_pay11 (out0_3 x0 x1 x2)) (k0_pay12 (out0_3 x0 x1 x2))

/-- The scratch after the normalising loop: every row normalised. -/
def nfull (v0 : Vec F S2x8x2 .f32) (v21 v24 : Vec F S8x1 .f32) (x : Vec F S1x64x8x4096 .f32) : Vec F S64x8x4096 .f32 := fun j =>
  k1_pay9 v0 v21 v24 (row (j 0).val x) (ix3 (n0 := 1) (n1 := 8) (n2 := 4096) 0 (j 1) (j 2))

/-- The second kernel's output block. -/
def out1_6 (x0 : Vec F S1x64x8x4096 .f32) (x1 : Vec F S2x8x2 .f32) (x2 x3 : Vec F S8x1 .f32) (x4 : Vec F S72x24 .f32) (x5 : Vec F S8x1 .f32) : Vec F S1x64x8x4096 .f32 :=
  k1_pay6 (hacc (prod1 (k1_pay11 x4) (iota .tc S1x4096 32 [1] iota_S1x4096_d1_w32) 64#32 0#32 (nfull x1 x2 x3 x0)) (k1_pay10 (F := F)) 64) x5

theorem trips0 : k0_t1_loop.trips = 64 := by decide +kernel
theorem tripsN : k1_t1_loop.trips = 64 := by decide +kernel
theorem trips1 : k1_t2_loop.trips = 64 := by decide +kernel

theorem nacc_full (v0 : Vec F S2x8x2 .f32) (v21 v24 : Vec F S8x1 .f32) (x : Vec F S1x64x8x4096 .f32) (g0 : Vec F S64x8x4096 .f32) :
    nacc v0 v21 v24 x g0 64 = nfull v0 v21 v24 x := by
  funext j
  exact if_pos (j 0).isLt

/-- A load of a whole block reads its contents. -/
theorem readAt_full {s : Shape} (v : View sig .tc .vmem s .f32) (f : v.ty.Contents (Elt F)) {off : Fin s.rank → ℕ} (hoff : ∀ a, off a = 0)
    (inb : ∀ a, off a + s.size a ≤ s.size a) :
    v.readAt (Elt F) (Rect.unit (s := s) off s.size inb).toLoadRect f = v.read (Elt F) f := by
  funext y
  rw [View.readAt_apply]
  refine congrArg _ (funext fun a => Fin.ext ?_)
  show off a + 1 * (y a).val = (y a).val
  rw [hoff a]; omega

/-- A whole-block store, read back. -/
theorem read_write_full {s : Shape} (v : View sig .tc .vmem s .f32) (f : v.ty.Contents (Elt F)) {off : Fin s.rank → ℕ} (hoff : ∀ a, off a = 0)
    (inb : ∀ a, off a + s.size a ≤ s.size a) (w : Vec F s .f32) (L : List (View.Piece (Elt F) s .f32)) :
    v.read (Elt F) (v.writes (Elt F) f ((⟨Rect.unit (s := s) off s.size inb, w⟩ : View.Piece (Elt F) s .f32) :: L)) = w := by
  funext y
  exact View.read_writes_cons_unit_of_mem v f inb w L y y rfl (fun a => by rw [hoff a, Nat.zero_add])

set_option maxHeartbeats 2000000 in
/-- The first kernel's body, from its input blocks to its output blocks. -/
theorem sound_kernel0 (c : Dev nD) (E : Set ℕ) (i : grid0.Coords) (arg1 : Memref sig .tc .vmem S1x64x8x4096 .f32) (harg1 : arg1.IsWhole) (arg2 : Memref sig .tc .vmem S1x64x8x4096 .f32) (harg2 : arg2.IsWhole) (arg3 : Memref sig .tc .vmem S144x24 .f32) (harg3 : arg3.IsWhole) (arg4 : Memref sig .tc .vmem S1x64x8x4096 .f32) (harg4 : arg4.IsWhole) (arg5 : Memref sig .tc .vmem S1x8x2 .f32) (harg5 : arg5.IsWhole)
    (x0 : Vec F S1x64x8x4096 .f32) (x1 : Vec F S1x64x8x4096 .f32) (x2 : Vec F S144x24 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0_k2 i arg1 harg1 arg2 harg2 arg3 harg3 arg4 harg4 arg5 harg5) K := by
  simp only [cc0_k2_eq_skeleton, k0_part2_eq_skeleton]; unfold cc0_k2_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  have e0 : arg4.view.read (Elt F) fL0 = out0_3 (arg1.view.read (Elt F) f0) (arg2.view.read (Elt F) f1) (arg3.view.read (Elt F) f2) := by
    refine hL3.trans ?_
    unfold out0_3
    rw [readAt_full arg3.view f2 (off := ![0, 0]) (by decide) inb_S144x24_S144x24_0_0]
    exact congr (congrArg (hacc _) (read_write_full arg4.view _ (by decide) _ _ [])) trips0
  have e1 : arg4.view.readAt (Elt F) (Rect.unit (s := S1x64x8x4096) ![0, 0, 0, 0] S1x64x8x4096.size inb_S1x64x8x4096_S1x64x8x4096_0_0_0_0).toLoadRect fL0
      = out0_3 (arg1.view.read (Elt F) f0) (arg2.view.read (Elt F) f1) (arg3.view.read (Elt F) f2) :=
    (readAt_full arg4.view fL0 (by decide) _).trans e0
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; exact e0
  iexists _; isplitr; swap; · iexact H4
  ipureintro
  refine (read_write_full arg5.view f4 (by decide) inb_S1x8x2_S1x8x2_0_0_0 _ []).trans ?_
  exact congrArg (fun z => k0_pay1 (k0_pay11 z) (k0_pay12 z)) e1

set_option maxHeartbeats 2000000 in
/-- The second kernel's body, from its input blocks to its output block; the scratch is left with some contents. -/
theorem sound_kernel1 (c : Dev nD) (E : Set ℕ) (i : grid1.Coords) (arg1 : Memref sig .tc .vmem S1x64x8x4096 .f32) (harg1 : arg1.IsWhole) (arg2 : Memref sig .tc .vmem S2x8x2 .f32) (harg2 : arg2.IsWhole) (arg3 : Memref sig .tc .vmem S8x1 .f32) (harg3 : arg3.IsWhole) (arg4 : Memref sig .tc .vmem S8x1 .f32) (harg4 : arg4.IsWhole) (arg5 : Memref sig .tc .vmem S72x24 .f32) (harg5 : arg5.IsWhole) (arg6 : Memref sig .tc .vmem S8x1 .f32) (harg6 : arg6.IsWhole) (arg7 : Memref sig .tc .vmem S1x64x8x4096 .f32) (harg7 : arg7.IsWhole) (arg8 : Memref sig .tc .vmem S64x8x4096 .f32) (harg8 : arg8.IsWhole)
    (x0 : Vec F S1x64x8x4096 .f32) (x1 : Vec F S2x8x2 .f32) (x2 x3 : Vec F S8x1 .f32) (x4 : Vec F S72x24 .f32) (x5 : Vec F S8x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5) ∗ (∃ d, owns (c : Thread nD τ) arg8 fullShare d)) -∗ K ⟨⟩))
      ⊢ wp frame (wpE (defs₀ (F := F)) Variants.none c none) E (cc1_k3 i arg1 harg1 arg2 harg2 arg3 harg3 arg4 harg4 arg5 harg5 arg6 harg6 arg7 harg7 arg8 harg8) K := by
  simp only [cc1_k3_eq_skeleton, k1_part2_eq_skeleton]; unfold cc1_k3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  have e8 : arg8.view.read (Elt F) fL0 = nfull (arg2.view.read (Elt F) f1) (arg3.view.read (Elt F) f2) (arg4.view.read (Elt F) f3) (arg1.view.read (Elt F) f0) := by
    refine hL2.trans ?_
    rw [readAt_full arg2.view f1 (off := ![0, 0, 0]) (by decide) inb_S2x8x2_S2x8x2_0_0_0,
      readAt_full arg3.view f2 (off := ![0, 0]) (by decide) inb_S8x1_S8x1_0_0,
      readAt_full arg4.view f3 (off := ![0, 0]) (by decide) inb_S8x1_S8x1_0_0]
    exact (congrArg (nacc _ _ _ _ _) tripsN).trans (nacc_full _ _ _ _ _)
  have e7 : arg7.view.read (Elt F) fL1 = hacc (prod1 (k1_pay11 (arg5.view.read (Elt F) f4)) (iota .tc S1x4096 32 [1] iota_S1x4096_d1_w32) 64#32 0#32
      (nfull (arg2.view.read (Elt F) f1) (arg3.view.read (Elt F) f2) (arg4.view.read (Elt F) f3) (arg1.view.read (Elt F) f0))) (k1_pay10 (F := F)) 64 := by
    refine hL5.trans ?_
    rw [e8]
    refine (congrArg (hacc _ _) trips1).trans ?_
    refine congrArg₂ (fun w h => hacc (prod1 (k1_pay11 w) (iota .tc S1x4096 32 [1] iota_S1x4096_d1_w32) 64#32 0#32 _) h 64)
      (readAt_full arg5.view f4 (off := ![0, 0]) (by decide) inb_S72x24_S72x24_0_0) (read_write_full arg7.view _ (by decide) _ _ [])
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro
    refine (read_write_full arg7.view fL1 (by decide) inb_S1x64x8x4096_S1x64x8x4096_0_0_0_0 _ []).trans ?_
    exact congrArg₂ k1_pay6 ((readAt_full arg7.view fL1 (by decide) _).trans e7) (readAt_full arg6.view f5 (off := ![0, 0]) (by decide) inb_S8x1_S8x1_0_0)
  iexists _; iexists _; isplitr; swap; · iexact H7
  ipureintro; rfl

end Cert.KernelIdeal.Hand

end
-- ==== Proof.Ideal.Patches.lean ====
module

public import proofs.«01_k».proof.Proof.Ideal.Bodies
public import Idealize.ShloMosaic.Lib.Pointwise

/-! The products of the two convolution loops, entry by entry: the patch matrix is the padded image read at the nine
shifts of a plane, so each product is a sum over the nine shifts and the channels. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- A plane of 64 × 64, stored flat, with a border of zeros: read at `(a, b)`, counted from the border. -/
def img (f : Fin 4096 → EReal) (a b : ℕ) : EReal :=
  if h : (1 ≤ a ∧ a ≤ 64) ∧ (1 ≤ b ∧ b ≤ 64) then f ⟨(a - 1) * 64 + (b - 1), by omega⟩ else 0

/-- The column of a lane. -/
theorem pay6_at : ∀ p : Fin 4096, k0_pay6 (ix2 (n0 := 1) (n1 := 4096) 0 p) = BitVec.ofNat 32 (p.val % 64) := by
  decide +kernel

/-- A truth value as a float is 0 or 1. -/
theorem flag (n k : ℕ) (hn : n < 64) (hk : k < 64) : (FloatOps.sitofp FTy.f32 (BitVec.setWidth 32 (IntOp.cmpi CmpIPredicate.ne (BitVec.ofNat 32 n) (BitVec.ofNat 32 k))) : Ideal .f32)
    = if n = k then (0 : EReal) else 1 := by
  have e : IntOp.cmpi CmpIPredicate.ne (BitVec.ofNat 32 n) (BitVec.ofNat 32 k) = if n = k then 0#1 else 1#1 := by
    exact (by decide +kernel : ∀ n k : Fin 64, IntOp.cmpi CmpIPredicate.ne (BitVec.ofNat 32 n.val) (BitVec.ofNat 32 k.val) = if n.val = k.val then 0#1 else 1#1) ⟨n, hn⟩ ⟨k, hk⟩
  rw [e]
  split_ifs
  · show ((((BitVec.setWidth 32 0#1).toInt : ℝ)) : EReal) = 0
    norm_num
  · show ((((BitVec.setWidth 32 1#1).toInt : ℝ)) : EReal) = 1
    norm_num

/-- The first kernel's left mask: 0 in column 0, 1 elsewhere. -/
theorem mask_l (p : Fin 4096) : k0_pay7 (F := Ideal) (ix2 (n0 := 1) (n1 := 4096) 0 p) = if p.val % 64 = 0 then (0 : EReal) else 1 := by
  pointwise [k0_pay7, pay6_at]
  exact flag _ 0 (Nat.mod_lt _ (by norm_num)) (by norm_num)

/-- The first kernel's right mask: 0 in column 63, 1 elsewhere. -/
theorem mask_r (p : Fin 4096) : k0_pay8 (F := Ideal) (ix2 (n0 := 1) (n1 := 4096) 0 p) = if p.val % 64 = 63 then (0 : EReal) else 1 := by
  pointwise [k0_pay8, pay6_at]
  exact flag _ 63 (Nat.mod_lt _ (by norm_num)) (by norm_num)

/-- The channels of the two staged rows, one after the other. -/
def cat16 (x1 x2 : FVec Ideal S1x1x8x4096 .f32) (c : Fin 16) (p : Fin 4096) : EReal :=
  if h : c.val < 8 then x1 (ix4 0 0 ⟨c.val, h⟩ p) else x2 (ix4 0 0 ⟨c.val - 8, by omega⟩ p)

/-- The left neighbour of a lane, masked: the padded plane one column to the left. -/
theorem colL (f : Fin 4096 → EReal) (q : ℕ) (hq : q < 4096) :
    (if h : q < 1 then 0 else f ⟨q - 1, by omega⟩) * (if q % 64 = 0 then (0 : EReal) else 1) = img f (q / 64 + 1) (q % 64 + 0) := by
  unfold img
  by_cases h0 : q % 64 = 0
  · rw [if_pos h0, mul_zero, dif_neg (by omega)]
  · rw [if_neg h0, mul_one, dif_neg (by omega), dif_pos (by omega)]
    exact congrArg f (Fin.ext (by show q - 1 = (q / 64 + 1 - 1) * 64 + (q % 64 + 0 - 1); omega))

/-- The lane itself. -/
theorem colM (f : Fin 4096 → EReal) (q : ℕ) (hq : q < 4096) : f ⟨q, hq⟩ = img f (q / 64 + 1) (q % 64 + 1) := by
  unfold img
  rw [dif_pos (by omega)]
  exact congrArg f (Fin.ext (by show q = (q / 64 + 1 - 1) * 64 + (q % 64 + 1 - 1); omega))

/-- The right neighbour of a lane, masked: the padded plane one column to the right. -/
theorem colR (f : Fin 4096 → EReal) (q : ℕ) (hq : q < 4096) :
    (if h : q < 4095 then f ⟨1 + q, by omega⟩ else 0) * (if q % 64 = 63 then (0 : EReal) else 1) = img f (q / 64 + 1) (q % 64 + 2) := by
  unfold img
  by_cases h0 : q % 64 = 63
  · rw [if_pos h0, mul_zero, dif_neg (by omega)]
  · rw [if_neg h0, mul_one, dif_pos (by omega), dif_pos (by omega)]
    exact congrArg f (Fin.ext (by show 1 + q = (q / 64 + 1 - 1) * 64 + (q % 64 + 2 - 1); omega))

/-- Above and below the plane there is the border. -/
theorem img_zero (f : Fin 4096 → EReal) (a b : ℕ) (ha : a = 0 ∨ 65 ≤ a) : img f a b = 0 := dif_neg (by omega)

/-- The padded plane at equal places. -/
theorem img_eq (f : Fin 4096 → EReal) {a a' b b' : ℕ} (ha : a = a') (hb : b = b') : img f a b = img f a' b' := by rw [ha, hb]

theorem row_none {p : ℕ} (h : p < 64) : p / 64 + 0 = 0 ∨ 65 ≤ p / 64 + 0 := by omega
theorem row_up {p : ℕ} (h : ¬ p < 64) : (p - 64) / 64 + 1 = p / 64 + 0 := by omega
theorem col_up {p : ℕ} (h : ¬ p < 64) (k : ℕ) : (p - 64) % 64 + k = p % 64 + k := by omega
theorem row_over {p : ℕ} (h : ¬ p < 4032) : p / 64 + 2 = 0 ∨ 65 ≤ p / 64 + 2 := by omega
theorem row_down (p : ℕ) : (64 + p) / 64 + 1 = p / 64 + 2 := by omega
theorem col_down (p k : ℕ) : (64 + p) % 64 + k = p % 64 + k := by omega

/-- A channel of the two rows, its number given by an expression. -/
theorem cat_at (x1 x2 : FVec Ideal S1x1x8x4096 .f32) (c : Fin 16) (y : ℕ) (p : Fin 4096) (hy' : y < 16) (hy : y = c.val) :
    (if h : y < 8 then x1 (ix4 0 0 (⟨y, h⟩ : Fin 8) p) else x2 (ix4 0 0 (⟨y - 8, by omega⟩ : Fin 8) p)) = cat16 x1 x2 c p := by
  subst hy; rfl

set_option maxHeartbeats 2000000 in
/-- The first kernel's product, entry by entry: over the nine shifts and the sixteen channels. -/
theorem pay2_at (w : FVec Ideal S144x24 .f32) (ml mr : FVec Ideal S1x4096 .f32) (x1 x2 : FVec Ideal S1x1x8x4096 .f32)
    (hl : ∀ p : Fin 4096, ml (ix2 (n0 := 1) (n1 := 4096) 0 p) = if p.val % 64 = 0 then (0 : EReal) else 1)
    (hr : ∀ p : Fin 4096, mr (ix2 (n0 := 1) (n1 := 4096) 0 p) = if p.val % 64 = 63 then (0 : EReal) else 1) (r : Fin 24) (p : Fin 4096) :
    k0_pay2 w ml mr x1 x2 (ix2 r p) = ∑ j : Fin 9, ∑ c : Fin 16, w (ix2 (⟨j.val * 16 + c.val, by omega⟩ : Fin 144) r) * img (cat16 x1 x2 c) (p.val / 64 + j.val / 3) (p.val % 64 + j.val % 3) := by
  pointwise [k0_pay2, hl, hr]
  rw [Fin.sum_univ_tiles 9 16 rfl]
  refine Finset.sum_congr rfl fun j _ => Finset.sum_congr rfl fun c _ => congrArg (w _ * ·) ?_
  have hp := p.isLt
  have hc := c.isLt
  match j with
  | ⟨0, _⟩ =>
    simp only [Nat.reduceDiv, Nat.reduceMod, Nat.reduceMul]
    rw [dif_pos (by omega)]
    by_cases h64 : p.val < 64
    · rw [dif_pos h64]
      exact (img_zero _ _ _ (row_none h64)).symm
    rw [dif_neg h64]
    rw [dif_pos (by omega)]
    refine Eq.trans (congrArg (· * _) (dite_congr rfl (fun _ => rfl) fun h => cat_at _ _ c _ (⟨p.val - 64 - 1, by omega⟩ : Fin 4096) (by omega) ?_)) ((colL (cat16 x1 x2 c) (p.val - 64) (by omega)).trans (img_eq _ (row_up h64) (col_up h64 _)))
    omega
  | ⟨1, _⟩ =>
    simp only [Nat.reduceDiv, Nat.reduceMod, Nat.reduceMul]
    rw [dif_pos (by omega)]
    by_cases h64 : p.val < 64
    · rw [dif_pos h64]
      exact (img_zero _ _ _ (row_none h64)).symm
    rw [dif_neg h64]
    rw [dif_neg (by omega)]
    rw [dif_pos (by omega)]
    refine Eq.trans (cat_at _ _ c _ (⟨p.val - 64, by omega⟩ : Fin 4096) (by omega) ?_) ((colM (cat16 x1 x2 c) (p.val - 64) (by omega)).trans (img_eq _ (row_up h64) (col_up h64 _)))
    omega
  | ⟨2, _⟩ =>
    simp only [Nat.reduceDiv, Nat.reduceMod, Nat.reduceMul]
    rw [dif_pos (by omega)]
    by_cases h64 : p.val < 64
    · rw [dif_pos h64]
      exact (img_zero _ _ _ (row_none h64)).symm
    rw [dif_neg h64]
    rw [dif_neg (by omega)]
    rw [dif_neg (by omega)]
    refine Eq.trans (congrArg (· * _) (dite_congr rfl (fun h => cat_at _ _ c _ (⟨1 + (p.val - 64), by omega⟩ : Fin 4096) (by omega) ?_) fun _ => rfl)) ((colR (cat16 x1 x2 c) (p.val - 64) (by omega)).trans (img_eq _ (row_up h64) (col_up h64 _)))
    omega
  | ⟨3, _⟩ =>
    simp only [Nat.reduceDiv, Nat.reduceMod, Nat.reduceMul]
    rw [dif_neg (by omega)]
    rw [dif_pos (by omega)]
    rw [dif_pos (by omega)]
    refine Eq.trans (congrArg (· * _) (dite_congr rfl (fun _ => rfl) fun h => cat_at _ _ c _ (⟨p.val - 1, by omega⟩ : Fin 4096) (by omega) ?_)) ((colL (cat16 x1 x2 c) (p.val) (by omega)).trans (img_eq _ rfl rfl))
    omega
  | ⟨4, _⟩ =>
    simp only [Nat.reduceDiv, Nat.reduceMod, Nat.reduceMul]
    rw [dif_neg (by omega)]
    rw [dif_pos (by omega)]
    rw [dif_neg (by omega)]
    rw [dif_pos (by omega)]
    refine Eq.trans (cat_at _ _ c _ (⟨p.val, by omega⟩ : Fin 4096) (by omega) ?_) ((colM (cat16 x1 x2 c) (p.val) (by omega)).trans (img_eq _ rfl rfl))
    omega
  | ⟨5, _⟩ =>
    simp only [Nat.reduceDiv, Nat.reduceMod, Nat.reduceMul]
    rw [dif_neg (by omega)]
    rw [dif_pos (by omega)]
    rw [dif_neg (by omega)]
    rw [dif_neg (by omega)]
    refine Eq.trans (congrArg (· * _) (dite_congr rfl (fun h => cat_at _ _ c _ (⟨1 + p.val, by omega⟩ : Fin 4096) (by omega) ?_) fun _ => rfl)) ((colR (cat16 x1 x2 c) (p.val) (by omega)).trans (img_eq _ rfl rfl))
    omega
  | ⟨6, _⟩ =>
    simp only [Nat.reduceDiv, Nat.reduceMod, Nat.reduceMul]
    rw [dif_neg (by omega)]
    rw [dif_neg (by omega)]
    by_cases h4032 : p.val < 4032
    swap
    · rw [dif_neg h4032]
      exact (img_zero _ _ _ (row_over h4032)).symm
    rw [dif_pos h4032]
    rw [dif_pos (by omega)]
    refine Eq.trans (congrArg (· * _) (dite_congr rfl (fun _ => rfl) fun h => cat_at _ _ c _ (⟨64 + p.val - 1, by omega⟩ : Fin 4096) (by omega) ?_)) ((colL (cat16 x1 x2 c) (64 + p.val) (by omega)).trans (img_eq _ (row_down _) (col_down _ _)))
    omega
  | ⟨7, _⟩ =>
    simp only [Nat.reduceDiv, Nat.reduceMod, Nat.reduceMul]
    rw [dif_neg (by omega)]
    rw [dif_neg (by omega)]
    by_cases h4032 : p.val < 4032
    swap
    · rw [dif_neg h4032]
      exact (img_zero _ _ _ (row_over h4032)).symm
    rw [dif_pos h4032]
    rw [dif_neg (by omega)]
    rw [dif_pos (by omega)]
    refine Eq.trans (cat_at _ _ c _ (⟨64 + p.val, by omega⟩ : Fin 4096) (by omega) ?_) ((colM (cat16 x1 x2 c) (64 + p.val) (by omega)).trans (img_eq _ (row_down _) (col_down _ _)))
    omega
  | ⟨8, _⟩ =>
    simp only [Nat.reduceDiv, Nat.reduceMod, Nat.reduceMul]
    rw [dif_neg (by omega)]
    rw [dif_neg (by omega)]
    by_cases h4032 : p.val < 4032
    swap
    · rw [dif_neg h4032]
      exact (img_zero _ _ _ (row_over h4032)).symm
    rw [dif_pos h4032]
    rw [dif_neg (by omega)]
    rw [dif_neg (by omega)]
    refine Eq.trans (congrArg (· * _) (dite_congr rfl (fun h => cat_at _ _ c _ (⟨1 + (64 + p.val), by omega⟩ : Fin 4096) (by omega) ?_) fun _ => rfl)) ((colR (cat16 x1 x2 c) (64 + p.val) (by omega)).trans (img_eq _ (row_down _) (col_down _ _)))
    omega

end Cert.KernelIdeal.Hand

end
-- ==== Proof.Ideal.Patches2.lean ====
module

public import proofs.«01_k».proof.Proof.Ideal.Patches
public import Idealize.ShloMosaic.Lib.Pointwise

/-! The products of the two convolution loops, entry by entry: the patch matrix is the padded image read at the nine
shifts of a plane, so each product is a sum over the nine shifts and the channels. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The second kernel's column of a lane. -/
theorem pay1_at : ∀ p : Fin 4096, k1_pay1 (iota .tc S1x4096 32 [1] iota_S1x4096_d1_w32) 64#32 0#32 (ix2 (n0 := 1) (n1 := 4096) 0 p) = BitVec.ofNat 32 (p.val % 64) := by
  decide +kernel

/-- The second kernel's left mask. -/
theorem mask_l' (p : Fin 4096) : k1_pay2 (F := Ideal) (iota .tc S1x4096 32 [1] iota_S1x4096_d1_w32) 64#32 0#32 (ix2 (n0 := 1) (n1 := 4096) 0 p) = if p.val % 64 = 0 then (0 : EReal) else 1 := by
  pointwise [k1_pay2]
  rw [pay1_at]
  exact flag _ 0 (Nat.mod_lt _ (by norm_num)) (by norm_num)

/-- The second kernel's right mask. -/
theorem mask_r' (p : Fin 4096) : k1_pay3 (F := Ideal) (iota .tc S1x4096 32 [1] iota_S1x4096_d1_w32) 64#32 0#32 (ix2 (n0 := 1) (n1 := 4096) 0 p) = if p.val % 64 = 63 then (0 : EReal) else 1 := by
  pointwise [k1_pay3]
  rw [pay1_at]
  exact flag _ 63 (Nat.mod_lt _ (by norm_num)) (by norm_num)

/-- The channels of a scratch row. -/
def chan8 (x : FVec Ideal S1x8x4096 .f32) (c : Fin 8) (p : Fin 4096) : EReal := x (ix3 0 c p)

/-- A channel of the row, its number given by an expression. -/
theorem chan_at (x : FVec Ideal S1x8x4096 .f32) (c : Fin 8) (y : ℕ) (p : Fin 4096) (hy' : y < 8) (hy : y = c.val) :
    x (ix3 0 (⟨y, hy'⟩ : Fin 8) p) = chan8 x c p := by
  subst hy; rfl

set_option maxHeartbeats 2000000 in
/-- The second kernel's product, entry by entry: over the nine shifts and the eight channels. -/
theorem pay7_at (w : FVec Ideal S72x24 .f32) (ml mr : FVec Ideal S1x4096 .f32) (x : FVec Ideal S1x8x4096 .f32)
    (hl : ∀ p : Fin 4096, ml (ix2 (n0 := 1) (n1 := 4096) 0 p) = if p.val % 64 = 0 then (0 : EReal) else 1)
    (hr : ∀ p : Fin 4096, mr (ix2 (n0 := 1) (n1 := 4096) 0 p) = if p.val % 64 = 63 then (0 : EReal) else 1) (r : Fin 24) (p : Fin 4096) :
    k1_pay7 w ml mr x (ix2 r p) = ∑ j : Fin 9, ∑ c : Fin 8, w (ix2 (⟨j.val * 8 + c.val, by omega⟩ : Fin 72) r) * img (chan8 x c) (p.val / 64 + j.val / 3) (p.val % 64 + j.val % 3) := by
  pointwise [k1_pay7, hl, hr]
  rw [Fin.sum_univ_tiles 9 8 rfl]
  refine Finset.sum_congr rfl fun j _ => Finset.sum_congr rfl fun c _ => congrArg (w _ * ·) ?_
  have hp := p.isLt
  have hc := c.isLt
  match j with
  | ⟨0, _⟩ =>
    simp only [Nat.reduceDiv, Nat.reduceMod, Nat.reduceMul]
    rw [dif_pos (by omega)]
    by_cases h64 : p.val < 64
    · rw [dif_pos h64]
      exact (img_zero _ _ _ (row_none h64)).symm
    rw [dif_neg h64]
    rw [dif_pos (by omega)]
    refine Eq.trans (congrArg (· * _) (dite_congr rfl (fun _ => rfl) fun h => chan_at _ c _ (⟨p.val - 64 - 1, by omega⟩ : Fin 4096) (by omega) ?_)) ((colL (chan8 x c) (p.val - 64) (by omega)).trans (img_eq _ (row_up h64) (col_up h64 _)))
    omega
  | ⟨1, _⟩ =>
    simp only [Nat.reduceDiv, Nat.reduceMod, Nat.reduceMul]
    rw [dif_pos (by omega)]
    by_cases h64 : p.val < 64
    · rw [dif_pos h64]
      exact (img_zero _ _ _ (row_none h64)).symm
    rw [dif_neg h64]
    rw [dif_neg (by omega)]
    rw [dif_pos (by omega)]
    refine Eq.trans (chan_at _ c _ (⟨p.val - 64, by omega⟩ : Fin 4096) (by omega) ?_) ((colM (chan8 x c) (p.val - 64) (by omega)).trans (img_eq _ (row_up h64) (col_up h64 _)))
    omega
  | ⟨2, _⟩ =>
    simp only [Nat.reduceDiv, Nat.reduceMod, Nat.reduceMul]
    rw [dif_pos (by omega)]
    by_cases h64 : p.val < 64
    · rw [dif_pos h64]
      exact (img_zero _ _ _ (row_none h64)).symm
    rw [dif_neg h64]
    rw [dif_neg (by omega)]
    rw [dif_neg (by omega)]
    refine Eq.trans (congrArg (· * _) (dite_congr rfl (fun h => chan_at _ c _ (⟨1 + (p.val - 64), by omega⟩ : Fin 4096) (by omega) ?_) fun _ => rfl)) ((colR (chan8 x c) (p.val - 64) (by omega)).trans (img_eq _ (row_up h64) (col_up h64 _)))
    omega
  | ⟨3, _⟩ =>
    simp only [Nat.reduceDiv, Nat.reduceMod, Nat.reduceMul]
    rw [dif_neg (by omega)]
    rw [dif_pos (by omega)]
    rw [dif_pos (by omega)]
    refine Eq.trans (congrArg (· * _) (dite_congr rfl (fun _ => rfl) fun h => chan_at _ c _ (⟨p.val - 1, by omega⟩ : Fin 4096) (by omega) ?_)) ((colL (chan8 x c) (p.val) (by omega)).trans (img_eq _ rfl rfl))
    omega
  | ⟨4, _⟩ =>
    simp only [Nat.reduceDiv, Nat.reduceMod, Nat.reduceMul]
    rw [dif_neg (by omega)]
    rw [dif_pos (by omega)]
    rw [dif_neg (by omega)]
    rw [dif_pos (by omega)]
    refine Eq.trans (chan_at _ c _ (⟨p.val, by omega⟩ : Fin 4096) (by omega) ?_) ((colM (chan8 x c) (p.val) (by omega)).trans (img_eq _ rfl rfl))
    omega
  | ⟨5, _⟩ =>
    simp only [Nat.reduceDiv, Nat.reduceMod, Nat.reduceMul]
    rw [dif_neg (by omega)]
    rw [dif_pos (by omega)]
    rw [dif_neg (by omega)]
    rw [dif_neg (by omega)]
    refine Eq.trans (congrArg (· * _) (dite_congr rfl (fun h => chan_at _ c _ (⟨1 + p.val, by omega⟩ : Fin 4096) (by omega) ?_) fun _ => rfl)) ((colR (chan8 x c) (p.val) (by omega)).trans (img_eq _ rfl rfl))
    omega
  | ⟨6, _⟩ =>
    simp only [Nat.reduceDiv, Nat.reduceMod, Nat.reduceMul]
    rw [dif_neg (by omega)]
    rw [dif_neg (by omega)]
    by_cases h4032 : p.val < 4032
    swap
    · rw [dif_neg h4032]
      exact (img_zero _ _ _ (row_over h4032)).symm
    rw [dif_pos h4032]
    rw [dif_pos (by omega)]
    refine Eq.trans (congrArg (· * _) (dite_congr rfl (fun _ => rfl) fun h => chan_at _ c _ (⟨64 + p.val - 1, by omega⟩ : Fin 4096) (by omega) ?_)) ((colL (chan8 x c) (64 + p.val) (by omega)).trans (img_eq _ (row_down _) (col_down _ _)))
    omega
  | ⟨7, _⟩ =>
    simp only [Nat.reduceDiv, Nat.reduceMod, Nat.reduceMul]
    rw [dif_neg (by omega)]
    rw [dif_neg (by omega)]
    by_cases h4032 : p.val < 4032
    swap
    · rw [dif_neg h4032]
      exact (img_zero _ _ _ (row_over h4032)).symm
    rw [dif_pos h4032]
    rw [dif_neg (by omega)]
    rw [dif_pos (by omega)]
    refine Eq.trans (chan_at _ c _ (⟨64 + p.val, by omega⟩ : Fin 4096) (by omega) ?_) ((colM (chan8 x c) (64 + p.val) (by omega)).trans (img_eq _ (row_down _) (col_down _ _)))
    omega
  | ⟨8, _⟩ =>
    simp only [Nat.reduceDiv, Nat.reduceMod, Nat.reduceMul]
    rw [dif_neg (by omega)]
    rw [dif_neg (by omega)]
    by_cases h4032 : p.val < 4032
    swap
    · rw [dif_neg h4032]
      exact (img_zero _ _ _ (row_over h4032)).symm
    rw [dif_pos h4032]
    rw [dif_neg (by omega)]
    rw [dif_neg (by omega)]
    refine Eq.trans (congrArg (· * _) (dite_congr rfl (fun h => chan_at _ c _ (⟨1 + (64 + p.val), by omega⟩ : Fin 4096) (by omega) ?_) fun _ => rfl)) ((colR (chan8 x c) (64 + p.val) (by omega)).trans (img_eq _ (row_down _) (col_down _ _)))
    omega

end Cert.KernelIdeal.Hand

end
-- ==== Proof.Ideal.Conv.lean ====
module

public import proofs.«01_k».proof.Proof.Ideal.Patches2

/-! The two convolution loops in closed form: after the 64 trips the accumulator holds, at each place, the sum over the
three depth shifts, the nine plane shifts and the channels of weight times padded volume. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- A volume of 64 planes with a border of zeros all round, read at `(a, b, e)` counted from the border. -/
def vol (f : Fin 64 → Fin 4096 → EReal) (a b e : ℕ) : EReal :=
  if h : 1 ≤ a ∧ a ≤ 64 then img (f ⟨a - 1, by omega⟩) b e else 0

/-- The 3 × 3 × 3 convolution of `C` channels at depth `d`, lane `p`: weights by channel, depth shift and plane shift. -/
def conv {C : ℕ} (W : Fin C → Fin 3 → Fin 9 → EReal) (X : Fin C → Fin 64 → Fin 4096 → EReal) (d : Fin 64) (p : Fin 4096) : EReal :=
  ∑ kd : Fin 3, ∑ j : Fin 9, ∑ c : Fin C, W c kd j * vol (X c) (d.val + kd.val) (p.val / 64 + j.val / 3) (p.val % 64 + j.val % 3)

/-- The accumulator after `n` trips, from zero: at depth `d` the thirds of the trips `d - 1`, `d` and `d + 1` so far. -/
theorem hacc_at (P : ℕ → FVec Ideal S24x4096 .f32) (h0 : Vec Ideal S1x64x8x4096 .f32) (hz : ∀ i, h0 i = (0 : EReal)) (d : Fin 64) (o : Fin 8) (p : Fin 4096) (n : ℕ) :
    hacc P h0 n (ix4 (n0 := 1) (n1 := 64) (n2 := 8) (n3 := 4096) 0 d o p)
      = (if 1 ≤ d.val ∧ d.val ≤ n then (third (P (d.val - 1)) 0 o p : EReal) else 0)
        + (if d.val + 1 ≤ n then (third (P d.val) 1 o p : EReal) else 0)
        + (if d.val + 2 ≤ n then (third (P (d.val + 1)) 2 o p : EReal) else 0) := by
  induction n with
  | zero =>
    rw [if_neg (by omega), if_neg (by omega), if_neg (by omega), add_zero, add_zero]
    exact hz _
  | succ n ih =>
    have e : hacc P h0 (n + 1) (ix4 (n0 := 1) (n1 := 64) (n2 := 8) (n3 := 4096) 0 d o p)
        = if d.val = n + 1 then (hacc P h0 n (ix4 (n0 := 1) (n1 := 64) (n2 := 8) (n3 := 4096) 0 d o p) : EReal) + third (P n) 0 o p
          else if d.val = n then (hacc P h0 n (ix4 (n0 := 1) (n1 := 64) (n2 := 8) (n3 := 4096) 0 d o p) : EReal) + third (P n) 1 o p
          else if d.val + 1 = n then (hacc P h0 n (ix4 (n0 := 1) (n1 := 64) (n2 := 8) (n3 := 4096) 0 d o p) : EReal) + third (P n) 2 o p
          else hacc P h0 n (ix4 (n0 := 1) (n1 := 64) (n2 := 8) (n3 := 4096) 0 d o p) := rfl
    rw [e, ih]
    by_cases c1 : d.val = n + 1
    · have c1' : d.val - 1 = n := by omega
      rw [if_pos c1, if_neg (by omega), if_neg (by omega), if_neg (by omega), if_pos (by omega), if_neg (by omega), if_neg (by omega), c1']
      simp
    rw [if_neg c1]
    by_cases c2 : d.val = n
    · rw [if_pos c2, if_neg (by omega : ¬ d.val + 1 ≤ n), if_neg (by omega : ¬ d.val + 2 ≤ n), if_pos (by omega : d.val + 1 ≤ n + 1),
        if_neg (by omega : ¬ d.val + 2 ≤ n + 1), ← c2]
      have : (1 ≤ d.val ∧ d.val ≤ d.val) ↔ (1 ≤ d.val ∧ d.val ≤ d.val + 1) := by omega
      simp only [this, add_zero]
    rw [if_neg c2]
    have k1 : (1 ≤ d.val ∧ d.val ≤ n) ↔ (1 ≤ d.val ∧ d.val ≤ n + 1) := by omega
    have k2 : d.val + 1 ≤ n ↔ d.val + 1 ≤ n + 1 := by omega
    by_cases c3 : d.val + 1 = n
    · rw [if_pos c3, if_neg (by omega : ¬ d.val + 2 ≤ n), if_pos (by omega : d.val + 2 ≤ n + 1), ← c3]
      rw [← c3] at k1 k2
      simp only [k1, k2, add_zero]
    rw [if_neg c3]
    have k3 : d.val + 2 ≤ n ↔ d.val + 2 ≤ n + 1 := by omega
    simp only [k1, k2, k3]

/-- The accumulator after all trips is the convolution, when each trip's product is the sum over the plane shifts and
channels of weights times the padded plane. -/
theorem hacc_conv {C : ℕ} (P : ℕ → FVec Ideal S24x4096 .f32) (h0 : Vec Ideal S1x64x8x4096 .f32) (hz : ∀ i, h0 i = (0 : EReal))
    (W : Fin 8 → Fin C → Fin 3 → Fin 9 → EReal) (X : Fin C → Fin 64 → Fin 4096 → EReal)
    (hP : ∀ (k : Fin 64) (t : Fin 3) (o : Fin 8) (p : Fin 4096), (third (P k.val) t o p : EReal)
      = ∑ j : Fin 9, ∑ c : Fin C, W o c t j * img (X c k) (p.val / 64 + j.val / 3) (p.val % 64 + j.val % 3))
    (d : Fin 64) (o : Fin 8) (p : Fin 4096) :
    hacc P h0 64 (ix4 (n0 := 1) (n1 := 64) (n2 := 8) (n3 := 4096) 0 d o p) = conv (W o) X d p := by
  have hd := d.isLt
  have key : ∀ (t : Fin 3) (k : ℕ), d.val + t.val = k + 1 → (hk : k < 64) → (third (P k) t o p : EReal)
      = ∑ j : Fin 9, ∑ c : Fin C, W o c t j * vol (X c) (d.val + t.val) (p.val / 64 + j.val / 3) (p.val % 64 + j.val % 3) := by
    intro t k hk1 hk
    rw [hP ⟨k, hk⟩ t o p, hk1]
    refine Finset.sum_congr rfl fun j _ => Finset.sum_congr rfl fun c _ => congrArg (W o c t j * ·) ?_
    unfold vol
    rw [dif_pos (by omega : 1 ≤ k + 1 ∧ k + 1 ≤ 64)]
    rfl
  have key0 : ∀ (t : Fin 3), (¬ (1 ≤ d.val + t.val ∧ d.val + t.val ≤ 64)) → (0 : EReal)
      = ∑ j : Fin 9, ∑ c : Fin C, W o c t j * vol (X c) (d.val + t.val) (p.val / 64 + j.val / 3) (p.val % 64 + j.val % 3) := by
    intro t ht
    unfold vol
    simp only [dif_neg ht, mul_zero, Finset.sum_const_zero]
  rw [hacc_at P h0 hz]
  unfold conv
  rw [Fin.sum_univ_three]
  refine congrArg₂ (· + ·) (congrArg₂ (· + ·) ?_ ?_) ?_
  · split_ifs with h
    · exact key 0 _ (by simp; omega) (by omega)
    · exact key0 0 (by simpa using by omega)
  · rw [if_pos (by omega)]
    exact key 1 _ rfl hd
  · split_ifs with h
    · exact key 2 _ rfl (by omega)
    · exact key0 2 (by show ¬ (1 ≤ d.val + 2 ∧ d.val + 2 ≤ 64); omega)

/-- The first kernel's input volume of a channel: the first eight channels from the first block, the rest from the second. -/
def inp (x0 x1 : Vec Ideal S1x64x8x4096 .f32) (c : Fin 16) (d : Fin 64) (p : Fin 4096) : EReal :=
  if h : c.val < 8 then x0 (ix4 (n0 := 1) (n1 := 64) (n2 := 8) (n3 := 4096) 0 d ⟨c.val, h⟩ p)
  else x1 (ix4 (n0 := 1) (n1 := 64) (n2 := 8) (n3 := 4096) 0 d ⟨c.val - 8, by omega⟩ p)

/-- The first kernel's feature block is the convolution of its input. -/
theorem out0_3_at (x0 x1 : Vec Ideal S1x64x8x4096 .f32) (x2 : Vec Ideal S144x24 .f32) (d : Fin 64) (o : Fin 8) (p : Fin 4096) :
    out0_3 x0 x1 x2 (ix4 (n0 := 1) (n1 := 64) (n2 := 8) (n3 := 4096) 0 d o p)
      = conv (fun c kd j => x2 (ix2 (n0 := 144) (n1 := 24) ⟨j.val * 16 + c.val, by omega⟩ ⟨8 * kd.val + o.val, by omega⟩)) (inp x0 x1) d p := by
  unfold out0_3
  refine hacc_conv _ _ (fun i => ?_) (fun o c kd j => x2 (ix2 (n0 := 144) (n1 := 24) ⟨j.val * 16 + c.val, by omega⟩ ⟨8 * kd.val + o.val, by omega⟩)) (inp x0 x1) (fun k t o p => ?_) d o p
  · pointwise [k0_pay4]
  · refine (pay2_at _ _ _ _ _ mask_l mask_r _ p).trans ?_
    refine Finset.sum_congr rfl fun j _ => Finset.sum_congr rfl fun c _ => ?_
    have e : cat16 (row k.val x0) (row k.val x1) c = inp x0 x1 c k := by
      have hk : k.val % 64 = k.val := Nat.mod_eq_of_lt k.isLt
      have hk' : (⟨k.val % 64, Nat.mod_lt _ (by decide)⟩ : Fin 64) = k := Fin.ext hk
      funext q
      unfold cat16 inp row
      simp only [hk']
      rfl
    rw [e]
    refine congrArg (· * _) ?_
    pointwise [k0_pay5]

/-- The second kernel's accumulator is the convolution of the scratch. -/
theorem acc1_at (x4 : Vec Ideal S72x24 .f32) (s : Vec Ideal S64x8x4096 .f32) (d : Fin 64) (o : Fin 8) (p : Fin 4096) :
    hacc (prod1 (k1_pay11 x4) (iota .tc S1x4096 32 [1] iota_S1x4096_d1_w32) 64#32 0#32 s) (k1_pay10 (F := Ideal)) 64 (ix4 (n0 := 1) (n1 := 64) (n2 := 8) (n3 := 4096) 0 d o p)
      = conv (fun c kd j => x4 (ix2 (n0 := 72) (n1 := 24) ⟨j.val * 8 + c.val, by omega⟩ ⟨8 * kd.val + o.val, by omega⟩))
        (fun (c : Fin 8) d p => s (ix3 (n0 := 64) (n1 := 8) (n2 := 4096) d c p)) d p := by
  refine hacc_conv _ _ (fun i => ?_) (fun o c kd j => x4 (ix2 (n0 := 72) (n1 := 24) ⟨j.val * 8 + c.val, by omega⟩ ⟨8 * kd.val + o.val, by omega⟩))
    (fun (c : Fin 8) d p => s (ix3 (n0 := 64) (n1 := 8) (n2 := 4096) d c p)) (fun k t o p => ?_) d o p
  · pointwise [k1_pay10]
  · refine (pay7_at _ _ _ _ mask_l' mask_r' _ p).trans ?_
    refine Finset.sum_congr rfl fun j _ => Finset.sum_congr rfl fun c _ => ?_
    have e : chan8 (srow k.val s) c = fun p => s (ix3 (n0 := 64) (n1 := 8) (n2 := 4096) k c p) := by
      have hk : k.val % 64 = k.val := Nat.mod_eq_of_lt k.isLt
      have hk' : (⟨k.val % 64, Nat.mod_lt _ (by decide)⟩ : Fin 64) = k := Fin.ext hk
      funext q
      unfold chan8 srow
      simp only [hk']
      rfl
    rw [e]
    refine congrArg (· * _) ?_
    pointwise [k1_pay11]

end Cert.KernelIdeal.Hand

end
-- ==== Proof.Ideal.Norm.lean ====
module

public import proofs.«01_k».proof.Proof.Ideal.Conv

/-! The sums block and the normalising step, read at an index. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- A sum over depth and lanes, at a channel. -/
theorem total_at (h : S64x8x4096.Reduces [0, 2] S8) (x : S64x8x4096.Idx → EReal) (o : Fin 8) :
    Ideal.reduceAdd h x (ix1 (n0 := 8) o) = ∑ d : Fin 64, ∑ p : Fin 4096, x (ix3 (n0 := 64) (n1 := 8) (n2 := 4096) d o p) := by
  unfold Ideal.reduceAdd
  rw [← Fintype.sum_prod_type' (fun (d : Fin 64) (p : Fin 4096) => x (ix3 (n0 := 64) (n1 := 8) (n2 := 4096) d o p))]
  have hv : ∀ i : S64x8x4096.Idx, (h.drop i 0).val = (i 1).val := fun i => rfl
  refine Finset.sum_nbij' (fun i => ((i 0 : Fin 64), (i 2 : Fin 4096))) (fun q => ix3 (n0 := 64) (n1 := 8) (n2 := 4096) q.1 o q.2)
    (fun _ _ => Finset.mem_univ _) (fun q _ => ?_) (fun i hi => ?_) (fun _ _ => rfl) (fun i hi => ?_)
  · refine Finset.mem_filter.mpr ⟨Finset.mem_univ _, ?_⟩
    funext b
    obtain rfl : b = 0 := Subsingleton.elim _ _
    exact Fin.ext (hv _)
  · have e : (i 1).val = o.val := (hv i).symm.trans (congrArg (fun j : S8.Idx => (j 0).val) (Finset.mem_filter.mp hi).2)
    funext b
    match b with
    | ⟨0, _⟩ => rfl
    | ⟨1, _⟩ => exact Fin.ext e.symm
    | ⟨2, _⟩ => rfl
  · have e : (i 1).val = o.val := (hv i).symm.trans (congrArg (fun j : S8.Idx => (j 0).val) (Finset.mem_filter.mp hi).2)
    refine congrArg x (funext fun b => ?_)
    match b with
    | ⟨0, _⟩ => rfl
    | ⟨1, _⟩ => exact Fin.ext e
    | ⟨2, _⟩ => rfl

/-- The first column of the sums block. -/
theorem sum_at (h : Vec Ideal S1x64x8x4096 .f32) (o : Fin 8) :
    k0_pay1 (k0_pay11 h) (k0_pay12 h) (ix3 (n0 := 1) (n1 := 8) (n2 := 2) 0 o 0)
      = ∑ d : Fin 64, ∑ p : Fin 4096, (h (ix4 (n0 := 1) (n1 := 64) (n2 := 8) (n3 := 4096) 0 d o p) : EReal) := by
  pointwise [k0_pay1, k0_pay11]
  unfold k0_pay12
  refine (total_at _ _ o).trans (Finset.sum_congr rfl fun d _ => Finset.sum_congr rfl fun p _ => ?_)
  pointwise [k0_pay11]

/-- The second column. -/
theorem sumsq_at (h : Vec Ideal S1x64x8x4096 .f32) (o : Fin 8) :
    k0_pay1 (k0_pay11 h) (k0_pay12 h) (ix3 (n0 := 1) (n1 := 8) (n2 := 2) 0 o 1)
      = ∑ d : Fin 64, ∑ p : Fin 4096, (h (ix4 (n0 := 1) (n1 := 64) (n2 := 8) (n3 := 4096) 0 d o p) : EReal) * h (ix4 (n0 := 1) (n1 := 64) (n2 := 8) (n3 := 4096) 0 d o p) := by
  pointwise [k0_pay1, k0_pay12]
  refine (total_at _ _ o).trans (Finset.sum_congr rfl fun d _ => Finset.sum_congr rfl fun p _ => ?_)
  pointwise [k0_pay11]

/-- The number of elements each channel is averaged over. -/
abbrev cN : EReal := Ideal.ofBits .f32 0x49000000#32
/-- The small number added to the variance. -/
abbrev cEps : EReal := Ideal.ofBits .f32 0x3727C5AC#32
/-- The slope of the negative side. -/
abbrev cSlope : EReal := Ideal.ofBits .f32 0x3E4CCCCD#32

/-- The rectifier with a slope on the negative side. -/
def leaky (x : EReal) : EReal := if 0 ≤ x then x else cSlope * x

/-- The second kernel's normalised value from the sum `S`, the sum of squares `Q`, the weight, the offset and the feature. -/
def normK (S Q g b x : EReal) : EReal :=
  x * (g * Ideal.rsqrt (Ideal.div Q cN - Ideal.div S cN * Ideal.div S cN + cEps))
    + (b - Ideal.div S cN * (g * Ideal.rsqrt (Ideal.div Q cN - Ideal.div S cN * Ideal.div S cN + cEps)))

/-- The normalising step, read at a place. -/
theorem norm_at (s : Vec Ideal S2x8x2 .f32) (g b : Vec Ideal S8x1 .f32) (r : Vec Ideal S1x1x8x4096 .f32) (o : Fin 8) (p : Fin 4096) :
    k1_pay9 s g b r (ix3 (n0 := 1) (n1 := 8) (n2 := 4096) 0 o p)
      = leaky (normK ((s (ix3 (n0 := 2) (n1 := 8) (n2 := 2) 0 o 0) : EReal) + s (ix3 (n0 := 2) (n1 := 8) (n2 := 2) 1 o 0))
          ((s (ix3 (n0 := 2) (n1 := 8) (n2 := 2) 0 o 1) : EReal) + s (ix3 (n0 := 2) (n1 := 8) (n2 := 2) 1 o 1))
          (g (ix2 (n0 := 8) (n1 := 1) o 0)) (b (ix2 (n0 := 8) (n1 := 1) o 0)) (r (ix4 (n0 := 1) (n1 := 1) (n2 := 8) (n3 := 4096) 0 0 o p))) := by
  unfold leaky normK
  pointwise [k1_pay9]

/-- The last step adds the bias of the channel. -/
theorem bias_at (a : Vec Ideal S1x64x8x4096 .f32) (b : Vec Ideal S8x1 .f32) (d : Fin 64) (o : Fin 8) (p : Fin 4096) :
    k1_pay6 a b (ix4 (n0 := 1) (n1 := 64) (n2 := 8) (n3 := 4096) 0 d o p) = a (ix4 (n0 := 1) (n1 := 64) (n2 := 8) (n3 := 4096) 0 d o p) + (b (ix2 (n0 := 8) (n1 := 1) o 0) : EReal) := by
  pointwise [k1_pay6]

end Cert.KernelIdeal.Hand

end
-- ==== Proof.Maths.lean ====
module

public import proofs.«01_k».proof.Proof.Ideal.Norm

/-! The batch normalisation over the reals: the variance as mean square minus squared mean, and a bias that the mean
takes out again. -/

@[expose] public section

noncomputable section

namespace Cert.Maths

open Idealize.ShloMosaic
open Cert.KernelIdeal.Hand (normK cN cEps cSlope vol img conv)

/-! ## Values that are real numbers -/

/-- The value is a real number: neither infinity. -/
def IsReal (x : EReal) : Prop := ∃ r : ℝ, x = (r : EReal)

theorem IsReal.zero : IsReal 0 := ⟨0, rfl⟩
theorem IsReal.add {x y : EReal} : IsReal x → IsReal y → IsReal (x + y) := by
  rintro ⟨a, rfl⟩ ⟨b, rfl⟩
  exact ⟨a + b, (EReal.coe_add a b).symm⟩
theorem IsReal.mul {x y : EReal} : IsReal x → IsReal y → IsReal (x * y) := by
  rintro ⟨a, rfl⟩ ⟨b, rfl⟩
  exact ⟨a * b, (EReal.coe_mul a b).symm⟩
theorem IsReal.sum {ι : Type} (s : Finset ι) (f : ι → EReal) (h : ∀ i, IsReal (f i)) : IsReal (∑ i ∈ s, f i) := by
  classical
  induction s using Finset.induction_on with
  | empty => exact IsReal.zero
  | insert a s ha ih => rw [Finset.sum_insert ha]; exact (h a).add ih

/-- A number whose absolute value is below infinity is real. -/
theorem IsReal.of_lt {x : EReal} (h1 : x < ⊤) (h2 : ⊥ < x) : IsReal x :=
  ⟨x.toReal, (EReal.coe_toReal h1.ne h2.ne').symm⟩

theorem IsReal.conv {C : ℕ} {W : Fin C → Fin 3 → Fin 9 → EReal} {X : Fin C → Fin 64 → Fin 4096 → EReal}
    (hW : ∀ c kd j, IsReal (W c kd j)) (hX : ∀ c d p, IsReal (X c d p)) (d : Fin 64) (p : Fin 4096) : IsReal (conv W X d p) := by
  unfold Cert.KernelIdeal.Hand.conv
  refine IsReal.sum _ _ fun kd => IsReal.sum _ _ fun j => IsReal.sum _ _ fun c => (hW c kd j).mul ?_
  unfold vol img
  split_ifs
  · exact hX _ _ _
  · exact IsReal.zero
  · exact IsReal.zero

theorem coe_sum {ι : Type} (s : Finset ι) (f : ι → ℝ) : (∑ i ∈ s, (f i : EReal)) = ((∑ i ∈ s, f i : ℝ) : EReal) := by
  classical
  induction s using Finset.induction_on with
  | empty => rfl
  | insert a s ha ih => rw [Finset.sum_insert ha, Finset.sum_insert ha, ih, EReal.coe_add]

/-! ## The constants -/

theorem cN_eq : cN = ((524288 : ℝ) : EReal) := by
  simp [cN, Ideal.ofBits, Ideal.ieee, -EReal.coe_mul]
  norm_num

theorem cN_pos : 0 < cN := by
  rw [cN_eq]
  exact EReal.coe_pos.mpr (by norm_num)

theorem cEps_eq : ∃ ε : ℝ, 0 < ε ∧ cEps = (ε : EReal) := by
  refine ⟨10995116 * 2 ^ (-40 : ℤ), by positivity, ?_⟩
  simp [cEps, Ideal.ofBits, Ideal.ieee, -EReal.coe_mul]

theorem inf_eq : Ideal.ofBits .f32 0x7F800000#32 = ⊤ := by
  simp [Ideal.ofBits, Ideal.ieee]

/-! ## The normalisation -/

/-- Mean of squared deviations is mean square minus squared mean. -/
theorem var_eq {ι : Type} [Fintype ι] (N : ℝ) (hc : (Fintype.card ι : ℝ) = N) (hN : N ≠ 0) (f : ι → ℝ) :
    (∑ i, (f i - (∑ j, f j) / N) * (f i - (∑ j, f j) / N)) / N = (∑ i, f i * f i) / N - (∑ j, f j) / N * ((∑ j, f j) / N) := by
  have h : ∀ i, (f i - (∑ j, f j) / N) * (f i - (∑ j, f j) / N) = f i * f i - 2 * ((∑ j, f j) / N) * f i + (∑ j, f j) / N * ((∑ j, f j) / N) := fun i => by ring
  simp only [h, Finset.sum_add_distrib, Finset.sum_sub_distrib, ← Finset.mul_sum, Finset.sum_const, Finset.card_univ, nsmul_eq_mul, hc]
  field_simp
  ring

/-- The reference's normalised value from the sum `S`, the sum of squared deviations `D`, the weight, the offset and the feature. -/
def normR (S D g b x : EReal) : EReal := Ideal.div (x - Ideal.div S cN) (Ideal.sqrt (Ideal.div D cN + cEps)) * g + b

theorem div_N (x : ℝ) : Ideal.div (x : EReal) cN = ((x / 524288 : ℝ) : EReal) := by
  rw [cN_eq, Ideal.div_coe (by norm_num), ← EReal.coe_mul]
  congr 1
  ring

/-- The two normalisations agree on real features, real bias and real weight, whatever the offset. -/
theorem norm_agree {ι : Type} [Fintype ι] (hc : (Fintype.card ι : ℝ) = 524288) (f : ι → ℝ) (β γ : ℝ) (b : EReal) (i : ι) :
    normK (∑ j, (f j : EReal)) (∑ j, (f j : EReal) * (f j : EReal)) γ b (f i)
      = normR (0 + ∑ j, ((f j : EReal) + (β : EReal)))
          (0 + ∑ j, ((f j : EReal) + (β : EReal) - Ideal.div (0 + ∑ j, ((f j : EReal) + (β : EReal))) cN)
            * ((f j : EReal) + (β : EReal) - Ideal.div (0 + ∑ j, ((f j : EReal) + (β : EReal))) cN)) γ b ((f i : EReal) + (β : EReal)) := by
  obtain ⟨ε, hε, he⟩ := cEps_eq
  set S : ℝ := ∑ j, f j with hS
  set v : ℝ := (∑ j, f j * f j) / 524288 - S / 524288 * (S / 524288) with hv
  have hS' : (∑ j, (f j + β)) / 524288 = S / 524288 + β := by
    rw [Finset.sum_add_distrib, Finset.sum_const, Finset.card_univ, nsmul_eq_mul, hc]
    ring
  have hvar : (∑ j, (f j - S / 524288) * (f j - S / 524288)) / 524288 = v := var_eq 524288 hc (by norm_num) f
  have hv0 : 0 ≤ v := by
    rw [← hvar]
    exact div_nonneg (Finset.sum_nonneg fun j _ => mul_self_nonneg _) (by norm_num)
  have hd : ∀ j, (f j + β) - (S / 524288 + β) = f j - S / 524288 := fun j => by ring
  have hpos : 0 < v + ε := by linarith
  have hsq : Real.sqrt (v + ε) ≠ 0 := (Real.sqrt_pos.mpr hpos).ne'
  unfold normK normR
  rw [he]
  simp only [zero_add, ← EReal.coe_add, ← EReal.coe_mul, coe_sum, div_N, ← EReal.coe_sub, hS', hd, hvar, ← hS, ← hv,
    Ideal.rsqrt_coe, Ideal.sqrt_coe, if_neg hpos.not_gt, if_neg hpos.ne', Ideal.div_coe hsq]
  rw [sub_eq_add_neg, add_left_comm, ← EReal.coe_neg, ← EReal.coe_add, add_comm]
  congr 2
  field_simp
  ring

end Cert.Maths

end
-- ==== Proof.Finite.lean ====
module

public import proofs.«01_k».proof.Defs
public import proofs.«01_k».proof.Proof.Maths
public import Idealize.ShloMosaic.Lib.ReduceAll

/-! What the precondition says: five of the arguments hold real numbers only. -/

@[expose] public section

noncomputable section

namespace Cert.Pre_finite.Hand

open Idealize.ShloMosaic
open Cert.Maths

theorem facts : Cert.Pre_finite.Facts where
  bcast_S_S2x8x64x64x64 := by decide
  reducesTo_S2x8x64x64x64_S_d0_1_2_3_4 := by decide
  h_S_ := by decide
  bcast_S_S2x64x8x64x64 := by decide
  reducesTo_S2x64x8x64x64_S_d0_1_2_3_4 := by decide
  bcast_S_S8x16x3x3x3 := by decide
  reducesTo_S8x16x3x3x3_S_d0_1_2_3_4 := by decide
  bcast_S_S8 := by decide
  reducesTo_S8_S_d0 := by decide

/-- One-bit `and`: both sides are set. -/
theorem and_one : ∀ {a b : BitVec 1}, a &&& b = 1#1 → a = 1#1 ∧ b = 1#1 := by decide

/-- A value whose absolute value passes the test against infinity is real. -/
theorem real_of_test (x : EReal) (h : Ideal.cmp .olt (max x (-x)) (Ideal.ofBits .f32 0x7F800000#32) = 1#1) : IsReal x := by
  rw [inf_eq] at h
  have hlt : max x (-x) < ⊤ := by
    by_contra hn
    refine absurd h ?_
    simp only [Ideal.cmp, decide_eq_false hn]
    decide
  refine IsReal.of_lt (lt_of_le_of_lt (le_max_left _ _) hlt) (bot_lt_iff_ne_bot.mpr fun hb => ?_)
  have := lt_of_le_of_lt (le_max_right x (-x)) hlt
  rw [hb, EReal.neg_bot] at this
  exact lt_irrefl _ this

instance : Subsingleton Cert.Pre_finite.S_.Idx := ⟨fun a b => funext fun k => k.elim0⟩

/-- An array all of whose elements pass the test is real everywhere. -/
theorem real_of_all {s : Shape} {axes : List (Fin s.rank)} (x : FVec Ideal s .f32) (hb : S_.BroadcastsInDim s (![] : Fin 0 → Fin s.rank))
    (hr : s.ReducesTo axes S_) (hu : 0 < S_.numel) (i0 : S_.Idx)
    (h : Host.reduce IntOp.andi (cmpf .olt (Host.absf x) (broadcastInDim s ![] hb (constant (F := Ideal) S_ .f32 0x7F800000#32))) (constantI S_ 1 1#1) hr hu i0 = 1#1)
    (i : s.Idx) : IsReal (x i) :=
  real_of_test (x i) (Host.reduce_andi_all _ _ _ _ i0 h i)

/-- The precondition, unpacked. -/
theorem reals [Cert.Pre_finite.Facts] (x0 : FVec Ideal S2x8x64x64x64 .f32) (x1 : FVec Ideal S2x64x8x64x64 .f32) (x2 : FVec Ideal S8x16x3x3x3 .f32) (x3 : FVec Ideal S8 .f32)
    (x4 : FVec Ideal S8x8x3x3x3 .f32) (x5 x6 x7 : FVec Ideal S8 .f32) (h : Cert.Pre_finite.fn (F := Ideal) x0 x1 x2 x3 x4 x5 x6 x7 = fun _ => 1#1) :
    (∀ i, IsReal (x0 i)) ∧ (∀ i, IsReal (x1 i)) ∧ (∀ i, IsReal (x2 i)) ∧ (∀ i, IsReal (x3 i)) ∧ (∀ i, IsReal (x6 i)) := by
  have i0 : S_.Idx := fun k => k.elim0
  obtain ⟨h, h6⟩ := and_one (congrFun h i0)
  obtain ⟨h, h3⟩ := and_one h
  obtain ⟨h, h2⟩ := and_one h
  obtain ⟨h0, h1⟩ := and_one h
  exact ⟨real_of_all x0 _ _ _ i0 h0, real_of_all x1 _ _ _ i0 h1, real_of_all x2 _ _ _ i0 h2, real_of_all x3 _ _ _ i0 h3, real_of_all x6 _ _ _ i0 h6⟩

end Cert.Pre_finite.Hand

end
-- ==== Proof.Sample.Tile.lean ====
module

public import proofs.«01_k».proof.Proof.Gen.SampleIdeal.Value
public import Idealize.ShloMosaic.Lib.Pointwise
public import Idealize.ShloMosaic.Lib.Pipeline.ValueKit

/-! The sampling kernel's body: what it leaves in its two output blocks, read at an index. -/

@[expose] public section

set_option maxRecDepth 16384

noncomputable section

namespace Cert.SampleIdeal.Hand

open Cert.SampleIdeal Cert.SampleIdeal.Gen
open Idealize.ShloMosaic Idealize.ShloMosaic.TcCoe Idealize.ShloMosaic.Tactic

/-- The weight of the window's row or column `r` for the coordinate `p`. -/
def tent (r : ℕ) (p : EReal) : EReal :=
  max 0 (1 - FloatOps.absf (F := Ideal) (φ := .f32) ((FloatOps.sitofp (F := Ideal) .f32 (BitVec.ofNat 32 r) : EReal) + Ideal.ofBits .f32 0x42400000#32 - p))

/-- The window of the image against the column weights, at the window's row `a` and the output column `w`. -/
def colSum (x0 : Vec Ideal S1x1280x160 .f32) (x2 : Vec Ideal S1x64x3 .f32) (i : Fin 3) (s : EReal) (a : Fin 1280) (w : Fin 64) : EReal :=
  ∑ k : Fin 160, x0 (ix3 0 a k) * (tent k.val (x2 (ix3 0 w i)) * s)

theorem pay7_at (x1 : Vec Ideal S1x64x3 .f32) (h : Fin 64) (r : Fin 160) : k0_pay7 x1 (ix2 h r) = tent r.val (x1 (ix3 0 h 0)) := by
  pointwise [k0_pay7, k0_pay6, k0_pay4, tent]

theorem pay9_at (x1 : Vec Ideal S1x64x3 .f32) (h : Fin 64) (r : Fin 160) : k0_pay9 x1 (ix2 h r) = tent r.val (x1 (ix3 0 h 1)) := by
  pointwise [k0_pay9, k0_pay6, k0_pay4, tent]

theorem pay12_at (x1 : Vec Ideal S1x64x3 .f32) (h : Fin 64) (r : Fin 160) : k0_pay12 (k0_pay4 x1) k0_pay6 (ix2 h r) = tent r.val (x1 (ix3 0 h 2)) := by
  pointwise [k0_pay12, k0_pay6, k0_pay4, tent]

theorem pay8_at (x0 : Vec Ideal S1x1280x160 .f32) (x2 : Vec Ideal S1x64x3 .f32) (s : EReal) (a : Fin 1280) (w : Fin 64) :
    k0_pay8 x0 x2 s (ix2 a w) = colSum x0 x2 0 s a w := by
  pointwise [k0_pay8, k0_pay6, k0_pay3, k0_pay5, tent, colSum]

theorem pay11_at (x0 : Vec Ideal S1x1280x160 .f32) (x2 : Vec Ideal S1x64x3 .f32) (s : EReal) (a : Fin 1280) (w : Fin 64) :
    k0_pay11 (k0_pay3 x0) k0_pay6 (k0_pay10 x2) s (ix2 a w) = colSum x0 x2 1 s a w := by
  pointwise [k0_pay11, k0_pay10, k0_pay6, k0_pay3, k0_pay5, tent, colSum]

theorem pay13_at (x0 : Vec Ideal S1x1280x160 .f32) (x2 : Vec Ideal S1x64x3 .f32) (s : EReal) (a : Fin 1280) (w : Fin 64) :
    k0_pay13 (k0_pay3 x0) (k0_pay5 x2) k0_pay6 s (ix2 a w) = colSum x0 x2 2 s a w := by
  pointwise [k0_pay13, k0_pay6, k0_pay3, k0_pay5, tent, colSum]

/-- One channel: the row weights against that channel's rows of the three column sums. -/
def chan (W0 W1 W2 : FVec Ideal S64x160 .f32) (T0 T1 T2 : FVec Ideal S1280x64 .f32) (c : Fin 8) (h w : Fin 64) : EReal :=
  (∑ r : Fin 160, W0 (ix2 h r) * T0 (ix2 ⟨c.val * 160 + r.val, by omega⟩ w) + ∑ r : Fin 160, W1 (ix2 h r) * T1 (ix2 ⟨c.val * 160 + r.val, by omega⟩ w))
    + ∑ r : Fin 160, W2 (ix2 h r) * T2 (ix2 ⟨c.val * 160 + r.val, by omega⟩ w)

/-- The first output block, from the input blocks. -/
def tile (x0 : Vec Ideal S1x1280x160 .f32) (x1 x2 : Vec Ideal S1x64x3 .f32) (x5 : Vec Ideal S1x3 .f32) : FVec Ideal S1x1x8x64x64 .f32 :=
  let v1 := k0_pay3 x0
  let v3 := k0_pay4 x1
  let v5 := k0_pay5 x2
  let v9 : FVec Ideal S64x160 .f32 := k0_pay6
  let W0 := k0_pay7 x1
  let T0 := k0_pay8 x0 x2 (x5 (ix2 0 0))
  let W1 := k0_pay9 x1
  let v38 := k0_pay10 x2
  let T1 := k0_pay11 v1 v9 v38 (x5 (ix2 0 1))
  let W2 := k0_pay12 v3 v9
  let T2 := k0_pay13 v1 v5 v9 (x5 (ix2 0 2))
  k0_pay1 W0 T0 W1 T1 W2 T2 (k0_pay14 v1 v3 v5 v9 W0 T0 W1 v38 (x5 (ix2 0 1)) (x5 (ix2 0 2)))
    (k0_pay17 W2 T2 (k0_pay15 W0 T0) (k0_pay16 v1 v9 W1 v38 (x5 (ix2 0 1)))) (k0_pay18 W0 T0 W1 T1 W2 T2) (k0_pay19 W0 T0 W1 T1 W2 T2)
    (k0_pay20 W0 T0 W1 T1 W2 T2) (k0_pay21 W0 T0 W1 T1 W2 T2) (k0_pay22 W0 T0 W1 T1 W2 T2)

theorem tile_chan (x0 : Vec Ideal S1x1280x160 .f32) (x1 x2 : Vec Ideal S1x64x3 .f32) (x5 : Vec Ideal S1x3 .f32) (c : Fin 8) (h w : Fin 64) :
    tile x0 x1 x2 x5 (ix5 0 0 c h w)
      = chan (k0_pay7 x1) (k0_pay9 x1) (k0_pay12 (k0_pay4 x1) k0_pay6) (k0_pay8 x0 x2 (x5 (ix2 0 0)))
          (k0_pay11 (k0_pay3 x0) k0_pay6 (k0_pay10 x2) (x5 (ix2 0 1))) (k0_pay13 (k0_pay3 x0) (k0_pay5 x2) k0_pay6 (x5 (ix2 0 2))) c h w := by
  unfold tile
  fin_cases c <;> pointwise [k0_pay1, k0_pay14, k0_pay15, k0_pay16, k0_pay17, k0_pay18, k0_pay19, k0_pay20, k0_pay21, k0_pay22, chan]

theorem tile_at (x0 : Vec Ideal S1x1280x160 .f32) (x1 x2 : Vec Ideal S1x64x3 .f32) (x5 : Vec Ideal S1x3 .f32) (c : Fin 8) (h w : Fin 64) :
    tile x0 x1 x2 x5 (ix5 0 0 c h w)
      = ∑ i : Fin 3, ∑ r : Fin 160, tent r.val (x1 (ix3 0 h i)) * colSum x0 x2 i (x5 (ix2 0 i)) ⟨c.val * 160 + r.val, by omega⟩ w := by
  rw [tile_chan, Fin.sum_univ_three]
  unfold chan
  simp only [pay7_at, pay8_at, pay9_at, pay11_at, pay12_at, pay13_at]

/-- The second output block: the rows, then the columns. -/
theorem pay2_rows (x3 x4 : Vec Ideal S1x3x64 .f32) (i : Fin 3) (h w : Fin 64) : k0_pay2 x3 x4 (ix5 0 0 ⟨i.val, by omega⟩ h w) = x3 (ix3 0 i h) := by
  pointwise [k0_pay2]

theorem pay2_cols (x3 x4 : Vec Ideal S1x3x64 .f32) (i : Fin 3) (h w : Fin 64) : k0_pay2 x3 x4 (ix5 0 0 ⟨3 + i.val, by omega⟩ h w) = x4 (ix3 0 i w) := by
  pointwise [k0_pay2]

end Cert.SampleIdeal.Hand

end
-- ==== Proof.Sample.Hat.lean ====
module

public import proofs.«01_k».proof.Proof.Maths

/-! Bilinear sampling over the reals: the sum against two hat functions over a window is the four-corner formula. -/

@[expose] public section

noncomputable section

namespace Cert.Maths

open Idealize.ShloMosaic

/-- The hat function: one at zero, falling to zero at distance one. -/
def hat (z : ℝ) : ℝ := max 0 (1 - |z|)

/-- The weight of the lower neighbour of `p`. -/
def gLo (p : ℝ) : ℝ := 1 + ((⌊p⌋₊ : ℝ) - p)

/-- The weight of the upper neighbour of `p`. -/
def gHi (p : ℝ) : ℝ := 1 - (((⌊p⌋₊ + 1 : ℕ) : ℝ) - p)

theorem floor_le' {p : ℝ} (h0 : 48 ≤ p) : (⌊p⌋₊ : ℝ) ≤ p := Nat.floor_le (by linarith)

theorem gLo_nonneg {p : ℝ} (h0 : 48 ≤ p) : 0 ≤ gLo p := by
  have := Nat.lt_floor_add_one p
  unfold gLo; linarith

theorem gHi_nonneg {p : ℝ} (h0 : 48 ≤ p) : 0 ≤ gHi p := by
  have := floor_le' h0
  unfold gHi; push_cast; linarith

theorem floor_ge {p : ℝ} (h0 : 48 ≤ p) : 48 ≤ ⌊p⌋₊ := Nat.le_floor (by exact_mod_cast h0)

theorem floor_le207 {p : ℝ} (h1 : p ≤ 207) : ⌊p⌋₊ ≤ 207 := Nat.floor_le_of_le (by exact_mod_cast h1)

/-- The sum over a window against the hat at `p` keeps the two neighbours of `p`. -/
theorem hat_sum (p : ℝ) (h0 : 48 ≤ p) (h1 : p ≤ 207) (F : ℕ → EReal) :
    ∑ r : Fin 160, ((hat ((r.val : ℝ) + 48 - p) : ℝ) : EReal) * F (r.val + 48)
      = ((gLo p : ℝ) : EReal) * F ⌊p⌋₊ + ((gHi p : ℝ) : EReal) * F (⌊p⌋₊ + 1) := by
  have hT0 := floor_ge h0
  have hT1 := floor_le207 h1
  have ha := floor_le' h0
  have hb := Nat.lt_floor_add_one p
  rw [Fin.sum_univ_eq_sum_range (fun r => ((hat ((r : ℝ) + 48 - p) : ℝ) : EReal) * F (r + 48)) 160]
  generalize hT : ⌊p⌋₊ = T at *
  obtain ⟨a, rfl⟩ := Nat.exists_eq_add_of_le hT0
  have hcast : ((48 + a : ℕ) : ℝ) = 48 + (a : ℝ) := by push_cast; ring
  rw [hcast] at ha hb
  have elo : hat ((a : ℝ) + 48 - p) = gLo p := by
    unfold hat gLo
    rw [hT, hcast, abs_of_nonpos (by linarith), max_eq_right (by linarith)]
    ring
  have ehi : hat (((a + 1 : ℕ) : ℝ) + 48 - p) = gHi p := by
    unfold hat gHi
    rw [hT]
    push_cast
    rw [abs_of_nonneg (by linarith), max_eq_right (by linarith)]
    ring
  rw [Finset.sum_eq_add a (a + 1) (by omega)]
  · rw [elo, ehi, Nat.add_comm a 48, show a + 1 + 48 = 48 + a + 1 by omega]
  · rintro r - ⟨hr1, hr2⟩
    have : hat ((r : ℝ) + 48 - p) = 0 := by
      unfold hat
      refine max_eq_left ?_
      rcases lt_or_ge r a with h | h
      · have : (r : ℝ) + 1 ≤ a := by exact_mod_cast h
        rw [abs_of_nonpos (by linarith)]; linarith
      · have : (a : ℝ) + 2 ≤ r := by exact_mod_cast (show a + 2 ≤ r by omega)
        rw [abs_of_nonneg (by linarith)]; linarith
    rw [this, EReal.coe_zero, zero_mul]
  · intro h
    exact absurd (Finset.mem_range.mpr (show a < 160 by omega)) h
  · intro h
    have ha' : a = 159 := by
      have := mt Finset.mem_range.mpr h
      omega
    have hz : gHi p = 0 := by
      unfold gHi
      rw [hT, ha']
      rw [ha'] at ha
      push_cast at ha ⊢
      linarith
    rw [ehi, hz, EReal.coe_zero, zero_mul]

theorem coe_mul_add {x : ℝ} (hx : 0 ≤ x) (y z : EReal) : (x : EReal) * (y + z) = x * y + x * z :=
  EReal.left_distrib_of_nonneg_of_ne_top (EReal.coe_nonneg.mpr hx) (EReal.coe_ne_top x) y z

theorem add_mul_coe {x : ℝ} (hx : 0 ≤ x) (y z : EReal) : (y + z) * (x : EReal) = y * x + z * x :=
  EReal.right_distrib_of_nonneg_of_ne_top (EReal.coe_nonneg.mpr hx) (EReal.coe_ne_top x) y z

/-- The four-corner sample of `X` at `(p, q)`. -/
def corners (p q : ℝ) (X : ℕ → ℕ → EReal) : EReal :=
  ((((gLo p : ℝ) : EReal) * ((gLo q : ℝ) : EReal)) * X ⌊p⌋₊ ⌊q⌋₊ + (((gHi p : ℝ) : EReal) * ((gHi q : ℝ) : EReal)) * X (⌊p⌋₊ + 1) (⌊q⌋₊ + 1)
    + (((gLo p : ℝ) : EReal) * ((gHi q : ℝ) : EReal)) * X ⌊p⌋₊ (⌊q⌋₊ + 1)) + (((gHi p : ℝ) : EReal) * ((gLo q : ℝ) : EReal)) * X (⌊p⌋₊ + 1) ⌊q⌋₊

/-- The sum against the two hats, with a nonnegative mask, is the masked four-corner sample. -/
theorem hats_eq_corners (p q μ : ℝ) (hp0 : 48 ≤ p) (hp1 : p ≤ 207) (hq0 : 48 ≤ q) (hq1 : q ≤ 207) (hμ : 0 ≤ μ) (X : ℕ → ℕ → EReal) :
    ∑ r : Fin 160, ((hat ((r.val : ℝ) + 48 - p) : ℝ) : EReal)
        * ∑ k : Fin 160, X (r.val + 48) (k.val + 48) * (((hat ((k.val : ℝ) + 48 - q) : ℝ) : EReal) * (μ : EReal))
      = corners p q X * (μ : EReal) := by
  have inner : ∀ r : ℕ, ∑ k : Fin 160, X r (k.val + 48) * (((hat ((k.val : ℝ) + 48 - q) : ℝ) : EReal) * (μ : EReal))
      = ((gLo q : ℝ) : EReal) * (X r ⌊q⌋₊ * μ) + ((gHi q : ℝ) : EReal) * (X r (⌊q⌋₊ + 1) * μ) := fun r => by
    rw [← hat_sum q hq0 hq1 (fun k => X r k * (μ : EReal))]
    exact Finset.sum_congr rfl fun k _ => by rw [mul_left_comm]
  rw [Finset.sum_congr rfl fun r _ => congrArg (((hat ((r.val : ℝ) + 48 - p) : ℝ) : EReal) * ·) (inner (r.val + 48)),
    hat_sum p hp0 hp1 (fun r => ((gLo q : ℝ) : EReal) * (X r ⌊q⌋₊ * μ) + ((gHi q : ℝ) : EReal) * (X r (⌊q⌋₊ + 1) * μ))]
  unfold corners
  rw [coe_mul_add (gLo_nonneg hp0), coe_mul_add (gHi_nonneg hp0), add_mul_coe hμ, add_mul_coe hμ, add_mul_coe hμ]
  simp only [← mul_assoc]
  abel

/-! ## The mask -/

theorem ninf_eq : Ideal.ofBits .f32 0xFF800000#32 = ⊥ := by
  simp [Ideal.ofBits, Ideal.ieee]

theorem c48_eq : Ideal.ofBits .f32 0x42400000#32 = ((48 : ℝ) : EReal) := by
  simp [Ideal.ofBits, Ideal.ieee, -EReal.coe_mul]
  norm_num

theorem c207_eq : Ideal.ofBits .f32 0x434F0000#32 = ((207 : ℝ) : EReal) := by
  simp [Ideal.ofBits, Ideal.ieee, -EReal.coe_mul]
  norm_num

theorem c257_eq : Ideal.ofBits .f32 0x43808000#32 = ((257 : ℝ) : EReal) := by
  simp [Ideal.ofBits, Ideal.ieee, -EReal.coe_mul]
  norm_num

/-- The softmax of three values, the largest value taken off first. -/
def mixW (b : Fin 3 → EReal) (i : Fin 3) : EReal :=
  Ideal.div (Ideal.exp (b i - max (Ideal.ofBits .f32 0xFF800000#32) (Finset.fold max (Ideal.ofBits .f32 0xFF800000#32) b Finset.univ)))
    (∑ j, Ideal.exp (b j - max (Ideal.ofBits .f32 0xFF800000#32) (Finset.fold max (Ideal.ofBits .f32 0xFF800000#32) b Finset.univ)))

/-- The softmax of real values is real and nonnegative. -/
theorem mixW_real (b : Fin 3 → EReal) (hb : ∀ i, IsReal (b i)) (i : Fin 3) : ∃ μ : ℝ, 0 ≤ μ ∧ mixW b i = (μ : EReal) := by
  choose f hf using hb
  obtain rfl : b = fun i => (f i : EReal) := funext hf
  have hM : IsReal (max (Ideal.ofBits .f32 0xFF800000#32) (Finset.fold max (Ideal.ofBits .f32 0xFF800000#32) (fun i => (f i : EReal)) Finset.univ)) := by
    rw [ninf_eq]
    refine IsReal.of_lt (max_lt bot_lt_top ?_) (lt_max_of_lt_right ?_)
    · exact (Finset.fold_max_lt _).mpr ⟨bot_lt_top, fun j _ => EReal.coe_lt_top _⟩
    · exact (Finset.lt_fold_max _).mpr (Or.inr ⟨0, Finset.mem_univ _, EReal.bot_lt_coe _⟩)
  obtain ⟨M, hM⟩ := hM
  have hpos : 0 < ∑ j, Real.exp (f j - M) := Finset.sum_pos (fun j _ => Real.exp_pos _) Finset.univ_nonempty
  refine ⟨Real.exp (f i - M) * (1 / ∑ j, Real.exp (f j - M)), mul_nonneg (Real.exp_pos _).le (by positivity), ?_⟩
  unfold mixW
  rw [hM]
  simp only [← EReal.coe_sub, Ideal.exp_coe]
  rw [coe_sum, Ideal.div_coe hpos.ne', ← EReal.coe_mul]

/-! ## Words -/

theorem toInt_small {q : ℕ} (hq : q < 66564) : (BitVec.ofNat 32 q).toInt = (q : ℤ) := by
  rw [BitVec.toInt_eq_toNat_cond, BitVec.toNat_ofNat, Nat.mod_eq_of_lt (by omega), if_pos (by omega)]

/-- A small number as a word, converted to a float, is that number. -/
theorem sitofp_small {q : ℕ} (hq : q < 66564) : (FloatOps.sitofp (F := Ideal) .f32 (BitVec.ofNat 32 q) : EReal) = ((q : ℝ) : EReal) := by
  show ((((BitVec.ofNat 32 q).toInt : ℤ) : ℝ) : EReal) = _
  rw [toInt_small hq, Int.cast_natCast]

/-- A real number clipped to the padded image. -/
def clip (x : EReal) : EReal := min ((257 : ℝ) : EReal) (max 0 x)

theorem clip_coe {p : ℝ} (h0 : 0 ≤ p) (h1 : p ≤ 257) : clip (p : EReal) = (p : EReal) := by
  unfold clip
  rw [max_eq_right (EReal.coe_nonneg.mpr h0), min_eq_right (EReal.coe_le_coe_iff.mpr h1)]

/-- The word of a natural number held as a float. -/
theorem fptosi_small {q : ℕ} (hq : q < 66564) : Ideal.fptosi 32 (((q : ℝ)) : EReal) = BitVec.ofNat 32 q := by
  rw [Ideal.fptosi, Ideal.toIntClamped_coe, if_pos (Nat.cast_nonneg q), Int.floor_natCast, max_eq_right, min_eq_right]
  · simp
  · norm_num; omega
  · norm_num

/-- The word of the lower neighbour. -/
theorem word_lo {p : ℝ} (h0 : 48 ≤ p) (h1 : p ≤ 207) : Ideal.fptosi 32 (clip (Ideal.liftRound Int.floor (p : EReal))) = BitVec.ofNat 32 ⌊p⌋₊ := by
  have hf : Ideal.liftRound Int.floor (p : EReal) = (((⌊p⌋₊ : ℕ) : ℝ) : EReal) := by
    show (((⌊p⌋ : ℤ) : ℝ) : EReal) = _
    rw [← natCast_floor_eq_intCast_floor (by linarith)]
  have := floor_le207 h1
  rw [hf, clip_coe (Nat.cast_nonneg _) (by exact_mod_cast (show ⌊p⌋₊ ≤ 257 by omega)), fptosi_small (by omega)]

/-- The word of the upper neighbour. -/
theorem word_hi {p : ℝ} (h0 : 48 ≤ p) (h1 : p ≤ 207) :
    Ideal.fptosi 32 (clip (Ideal.liftRound Int.floor (p : EReal) + 1)) = BitVec.ofNat 32 (⌊p⌋₊ + 1) := by
  have hf : Ideal.liftRound Int.floor (p : EReal) + 1 = (((⌊p⌋₊ + 1 : ℕ) : ℝ) : EReal) := by
    show (((⌊p⌋ : ℤ) : ℝ) : EReal) + 1 = _
    rw [← natCast_floor_eq_intCast_floor (by linarith), ← EReal.coe_one, ← EReal.coe_add]
    push_cast
    rfl
  have := floor_le207 h1
  rw [hf, clip_coe (Nat.cast_nonneg _) (by exact_mod_cast (show ⌊p⌋₊ + 1 ≤ 257 by omega)), fptosi_small (by omega)]

end Cert.Maths

end
-- ==== Proof.Sample.Arrays.lean ====
module

public import proofs.«01_k».proof.Proof.Sample.Tile
public import proofs.«01_k».proof.Proof.Sample.Hat
public import Idealize.ShloMosaic.Lib.WholeRead
public import Idealize.ShloMosaic.Lib.WritesUnit
public import Idealize.ShloMosaic.Lib.Claim

/-! What the sampling kernel leaves in its two results, from the launch's arguments. -/

@[expose] public section

set_option maxRecDepth 16384

noncomputable section

namespace Cert.SampleIdeal.Hand

open Cert.SampleIdeal Cert.SampleIdeal.Gen
open Idealize.ShloMosaic Idealize.ShloMosaic.TcCoe Idealize.ShloMosaic.Tactic
open Idealize.SL.Sem
open Idealize.ShloMosaic.Pipeline (Dat)
open Cert.Maths

variable (m : (ℓ : Loc nD τ sig) → Buf (Elt Ideal) ℓ)

/-! ## The body's blocks -/

/-- A whole-block store, read back. -/
theorem read_write_full {s : Shape} (v : View sig .tc .vmem s .f32) (f : v.ty.Contents (Elt Ideal)) {off : Fin s.rank → ℕ} (hoff : ∀ a, off a = 0)
    (inb : ∀ a, off a + s.size a ≤ s.size a) (w : Vec Ideal s .f32) (L : List (View.Piece (Elt Ideal) s .f32)) :
    v.read (Elt Ideal) (v.writes (Elt Ideal) f ((⟨Rect.unit (s := s) off s.size inb, w⟩ : View.Piece (Elt Ideal) s .f32) :: L)) = w := by
  funext y
  exact View.read_writes_cons_unit_of_mem v f inb w L y y rfl (fun a => by rw [hoff a, Nat.zero_add])

/-- A load of a whole block reads its contents. -/
theorem load_full {s : Shape} (mr : Memref sig .tc .vmem s .f32) (hm : mr.IsWhole) (x : Vec Ideal s .f32) {off : Fin s.rank → ℕ} (hoff : ∀ a, off a = 0)
    (inb : ∀ a, off a + s.size a ≤ s.size a) :
    mr.view.readAt (Elt Ideal) (Rect.unit (s := s) off s.size inb).toLoadRect (hm.unread x) = x := by
  funext y
  rw [Memref.IsWhole.readAt_unread]
  refine congrArg x (funext fun a => Fin.ext ?_)
  show off a + 1 * (y a).val = (y a).val
  rw [hoff a]; omega

theorem mask0 (c : Dev nD) (t : Fin cfg0.N) (x5 : Vec Ideal S1x3 .f32) : kernelRun0_A.sl.r c (ms0_5 t) (hs0_5 t) x5 = x5 (ix2 0 0) := by
  unfold kernelRun0_A.sl.r
  rw [Memref.IsWhole.readAt_unread]
  exact congrArg x5 (funext fun a => Fin.ext (by fin_cases a <;> rfl))

theorem mask1 (c : Dev nD) (t : Fin cfg0.N) (x5 : Vec Ideal S1x3 .f32) : kernelRun0_A.sl.r_8 c (ms0_5 t) (hs0_5 t) x5 = x5 (ix2 0 1) := by
  unfold kernelRun0_A.sl.r_8
  rw [Memref.IsWhole.readAt_unread]
  exact congrArg x5 (funext fun a => Fin.ext (by fin_cases a <;> rfl))

theorem mask2 (c : Dev nD) (t : Fin cfg0.N) (x5 : Vec Ideal S1x3 .f32) : kernelRun0_A.sl.r_9 c (ms0_5 t) (hs0_5 t) x5 = x5 (ix2 0 2) := by
  unfold kernelRun0_A.sl.r_9
  rw [Memref.IsWhole.readAt_unread]
  exact congrArg x5 (funext fun a => Fin.ext (by fin_cases a <;> rfl))

theorem out7_eq (c : Dev nD) (t : Fin cfg0.N) (i : grid0.Coords) (x0 : Vec Ideal S1x1280x160 .f32) (x1 x2 : Vec Ideal S1x64x3 .f32) (x3 x4 : Vec Ideal S1x3x64 .f32) (x5 : Vec Ideal S1x3 .f32) :
    out0_A_7 c i (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) x0 x1 x2 x3 x4 x5 = k0_pay2 x3 x4 := by
  unfold out0_A_7 kernelRun0_A
  refine (read_write_full _ _ (by decide) _ _ _).trans ?_
  exact congrArg₂ k0_pay2 (load_full _ _ _ (by decide) _) (load_full _ _ _ (by decide) _)

theorem out6_eq (c : Dev nD) (t : Fin cfg0.N) (i : grid0.Coords) (x0 : Vec Ideal S1x1280x160 .f32) (x1 x2 : Vec Ideal S1x64x3 .f32) (x3 x4 : Vec Ideal S1x3x64 .f32) (x5 : Vec Ideal S1x3 .f32) :
    out0_A_6 c i (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) x0 x1 x2 x3 x4 x5 = tile x0 x1 x2 x5 := by
  unfold out0_A_6 kernelRun0_A
  refine (read_write_full _ _ (by decide) _ _ _).trans ?_
  have e0 := load_full (ms0_0 t) (hs0_0 t) x0 (off := ![0, 0, 0]) (by decide) inb_S1x1280x160_S1x1280x160_0_0_0
  have e1 := load_full (ms0_1 t) (hs0_1 t) x1 (off := ![0, 0, 0]) (by decide) inb_S1x64x3_S1x64x3_0_0_0
  have e2 := load_full (ms0_2 t) (hs0_2 t) x2 (off := ![0, 0, 0]) (by decide) inb_S1x64x3_S1x64x3_0_0_0
  simp only [kernelRun0_A.sl.r_1, kernelRun0_A.sl.r_2, kernelRun0_A.sl.r_3, kernelRun0_A.sl.r_4, kernelRun0_A.sl.r_5, kernelRun0_A.sl.r_6, kernelRun0_A.sl.r_7,
    kernelRun0_A.sl.r_10, kernelRun0_A.sl.r_11, kernelRun0_A.sl.r_12, kernelRun0_A.sl.r_13, kernelRun0_A.sl.r_14, kernelRun0_A.sl.r_15, kernelRun0_A.sl.r_16,
    kernelRun0_A.sl.r_17, kernelRun0_A.sl.r_18, kernelRun0_A.sl.r_19, kernelRun0_A.sl.r_20, kernelRun0_A.sl.r_21, mask0, mask1, mask2]
  erw [e0, e1, e2]
  rfl

/-! ## The arrays before the call -/

/-- The clipped positions, an offset per tap and a table of base positions. -/
def pos (off : FVec Ideal S3 .f32) (A : FVec Ideal S64x64 .f32) : FVec Ideal S64x64x3 .f32 :=
  minimumf (broadcastInDim S64x64x3 ![] bcast_S_S64x64x3 (constant S_ .f32 0x43808000#32))
    (maximumf (broadcastInDim S64x64x3 ![] bcast_S_S64x64x3 (constant S_ .f32 0x00000000#32))
      (addf (addf (broadcastInDim S64x64x3 ![0, 1, 2] bcast_S1x1x3_S64x64x3_0_1_2 (broadcastInDim S1x1x3 ![2] bcast_S3_S1x1x3_2 off))
        (broadcastInDim S64x64x3 ![0, 1, 2] bcast_S64x64x1_S64x64x3_0_1_2 (broadcastInDim S64x64x1 ![0, 1] bcast_S64x64_S64x64x1_0_1 A)))
        (broadcastInDim S64x64x3 ![] bcast_S_S64x64x3 (constant S_ .f32 0x3F800000#32))))

theorem pos_at (off : FVec Ideal S3 .f32) (A : FVec Ideal S64x64 .f32) (d h : Fin 64) (i : Fin 3) :
    pos off A (ix3 d h i) = clip (off (ix1 i) + A (ix2 d h) + 1) := by
  unfold clip
  rw [← c257_eq]
  pointwise [pos]

/-- The softmax of the mask's three values. -/
def mask (A7 : FVec Ideal S3 .f32) : FVec Ideal S3 .f32 :=
  let e := Host.exp (subf A7 (broadcastInDim S3 ![0] bcast_S1_S3_0 (broadcastInDim S1 ![] bcast_S_S1 (maximumf (constant S_ .f32 0xFF800000#32)
    (Host.reduce (FloatOps.maximumf (F := Ideal) (φ := .f32)) A7 (constant S_ .f32 0xFF800000#32) reducesTo_S3_S_d0 h_S_)))))
  Host.divf e (broadcastInDim S3 ![0] bcast_S1_S3_0 (broadcastInDim S1 ![] bcast_S_S1 (Host.reduceAdd e (constant S_ .f32 0x00000000#32) reducesTo_S3_S_d0 h_S_)))

theorem mask_at (A7 : FVec Ideal S3 .f32) (i : Fin 3) : shapeCast S1x3 (mask A7) shapeCasts_S3_S1x3 (ix2 0 i) = mixW (fun j => A7 (ix1 j)) i := by
  pointwise [mask, mixW]

/-- The image with its border of zeros. -/
def padded (A1 : FVec Ideal S2x8x256x256 .f32) : FVec Ideal S2x8x258x258 .f32 :=
  pad S2x8x258x258 ![0, 0, 1, 1] ![0, 0, 1, 1] ![0, 0, 0, 0] A1 (sitofp .f32 (constantI S_ 32 0#32)) pads_S2x8x256x256_S2x8x258x258_000_000_110_110 h_S_

theorem win_at (Y : FVec Ideal S2x8x258x258 .f32) (b : Fin 2) (c : Fin 8) (r k : Fin 160) :
    shapeCast S2x1280x160 (extractStridedSlice S2x8x160x160 ![0, 0, 48, 48] Y slices_S2x8x258x258_S2x8x160x160_0_0_48_48) shapeCasts_S2x8x160x160_S2x1280x160
      (ix3 b ⟨c.val * 160 + r.val, by omega⟩ k) = Y (ix4 b c ⟨48 + r.val, by omega⟩ ⟨48 + k.val, by omega⟩) := by
  pointwise

theorem V_v8 (c : Dev nD) : (V m c main_v8 : FVec Ideal S64x64x3 .f32)
    = pos (extractStridedSlice S3 ![0] (m ((c : Thread nD τ).loc main_arg5) : FVec Ideal S6 .f32) slices_S6_S3_0) (m ((c : Thread nD τ).loc main_arg2)) := by
  show StableHlo.after _ _ (Proc.devRef .tc main_v8) = _
  simp only [List.flatten_cons, List.flatten_nil, List.append_nil, List.cons_append, List.nil_append, hostOps0, hostOps0_1, hostOps0_2, hostOps0_3, hostOps0_4, hostOps0_5, hostOps0_6]
  entry_read
  rfl

theorem V_v17 (c : Dev nD) : (V m c main_v17 : FVec Ideal S64x64x3 .f32)
    = pos (extractStridedSlice S3 ![3] (m ((c : Thread nD τ).loc main_arg5) : FVec Ideal S6 .f32) slices_S6_S3_3) (m ((c : Thread nD τ).loc main_arg3)) := by
  show StableHlo.after _ _ (Proc.devRef .tc main_v17) = _
  simp only [List.flatten_cons, List.flatten_nil, List.append_nil, List.cons_append, List.nil_append, hostOps0, hostOps0_1, hostOps0_2, hostOps0_3, hostOps0_4, hostOps0_5, hostOps0_6]
  entry_read
  rfl

theorem V_v18 (c : Dev nD) : (V m c main_v18 : FVec Ideal S64x3x64 .f32)
    = transpose S64x3x64 [0, 2, 1] (pos (extractStridedSlice S3 ![0] (m ((c : Thread nD τ).loc main_arg5) : FVec Ideal S6 .f32) slices_S6_S3_0) (m ((c : Thread nD τ).loc main_arg2)))
        transposes_S64x64x3_S64x3x64_0_2_1 := by
  show StableHlo.after _ _ (Proc.devRef .tc main_v18) = _
  simp only [List.flatten_cons, List.flatten_nil, List.append_nil, List.cons_append, List.nil_append, hostOps0, hostOps0_1, hostOps0_2, hostOps0_3, hostOps0_4, hostOps0_5, hostOps0_6]
  entry_read
  rfl

theorem V_v19 (c : Dev nD) : (V m c main_v19 : FVec Ideal S64x3x64 .f32)
    = transpose S64x3x64 [0, 2, 1] (pos (extractStridedSlice S3 ![3] (m ((c : Thread nD τ).loc main_arg5) : FVec Ideal S6 .f32) slices_S6_S3_3) (m ((c : Thread nD τ).loc main_arg3)))
        transposes_S64x64x3_S64x3x64_0_2_1 := by
  show StableHlo.after _ _ (Proc.devRef .tc main_v19) = _
  simp only [List.flatten_cons, List.flatten_nil, List.append_nil, List.cons_append, List.nil_append, hostOps0, hostOps0_1, hostOps0_2, hostOps0_3, hostOps0_4, hostOps0_5, hostOps0_6]
  entry_read
  rfl

theorem V_v30 (c : Dev nD) : (V m c main_v30 : FVec Ideal S1x3 .f32) = shapeCast S1x3 (mask (m ((c : Thread nD τ).loc main_arg7))) shapeCasts_S3_S1x3 := by
  show StableHlo.after _ _ (Proc.devRef .tc main_v30) = _
  simp only [List.flatten_cons, List.flatten_nil, List.append_nil, List.cons_append, List.nil_append, hostOps0, hostOps0_1, hostOps0_2, hostOps0_3, hostOps0_4, hostOps0_5, hostOps0_6]
  entry_read
  rfl

theorem V_v33 (c : Dev nD) : (V m c main_v33 : FVec Ideal S2x1280x160 .f32)
    = shapeCast S2x1280x160 (extractStridedSlice S2x8x160x160 ![0, 0, 48, 48] (padded (m ((c : Thread nD τ).loc main_arg1))) slices_S2x8x258x258_S2x8x160x160_0_0_48_48)
        shapeCasts_S2x8x160x160_S2x1280x160 := by
  show StableHlo.after _ _ (Proc.devRef .tc main_v33) = _
  simp only [List.flatten_cons, List.flatten_nil, List.append_nil, List.cons_append, List.nil_append, hostOps0, hostOps0_1, hostOps0_2, hostOps0_3, hostOps0_4, hostOps0_5, hostOps0_6]
  entry_read
  rfl

/-! ## The blocks -/

theorem idx : ∀ t : Fin cfg0.N, win0_0.index t = ![t.val / 64, 0, 0] ∧ win0_1.index t = ![t.val % 64, 0, 0] ∧ win0_2.index t = ![t.val % 64, 0, 0]
    ∧ win0_3.index t = ![t.val % 64, 0, 0] ∧ win0_4.index t = ![t.val % 64, 0, 0] ∧ win0_5.index t = ![0, 0]
    ∧ win0_6.index t = ![t.val / 64, t.val % 64, 0, 0, 0] ∧ win0_7.index t = ![t.val / 64, t.val % 64, 0, 0, 0] ∧ t.val < 128 :=
  (by decide +kernel : ∀ t : Fin grid0.N, _)

theorem lt128 (t : Fin cfg0.N) : t.val < 128 := (idx t).2.2.2.2.2.2.2.2

theorem blk0 (c : Dev nD) (t : Fin cfg0.N) (a : Fin 1280) (k : Fin 160) :
    iblk m c 0 t (ix3 (n0 := 1) (n1 := 1280) (n2 := 160) 0 a k) = V m c main_v33 (ix3 (n0 := 2) (n1 := 1280) (n2 := 160) ⟨t.val / 64, by have := lt128 t; omega⟩ a k) := by
  blk_ext [iblk, idx t]

theorem blk1 (c : Dev nD) (t : Fin cfg0.N) (h : Fin 64) (i : Fin 3) :
    iblk m c 1 t (ix3 (n0 := 1) (n1 := 64) (n2 := 3) 0 h i) = V m c main_v8 (ix3 (n0 := 64) (n1 := 64) (n2 := 3) ⟨t.val % 64, by omega⟩ h i) := by
  blk_ext [iblk, idx t]

theorem blk2 (c : Dev nD) (t : Fin cfg0.N) (h : Fin 64) (i : Fin 3) :
    iblk m c 2 t (ix3 (n0 := 1) (n1 := 64) (n2 := 3) 0 h i) = V m c main_v17 (ix3 (n0 := 64) (n1 := 64) (n2 := 3) ⟨t.val % 64, by omega⟩ h i) := by
  blk_ext [iblk, idx t]

theorem blk3 (c : Dev nD) (t : Fin cfg0.N) (i : Fin 3) (h : Fin 64) :
    iblk m c 3 t (ix3 (n0 := 1) (n1 := 3) (n2 := 64) 0 i h) = V m c main_v18 (ix3 (n0 := 64) (n1 := 3) (n2 := 64) ⟨t.val % 64, by omega⟩ i h) := by
  blk_ext [iblk, idx t]

theorem blk4 (c : Dev nD) (t : Fin cfg0.N) (i : Fin 3) (h : Fin 64) :
    iblk m c 4 t (ix3 (n0 := 1) (n1 := 3) (n2 := 64) 0 i h) = V m c main_v19 (ix3 (n0 := 64) (n1 := 3) (n2 := 64) ⟨t.val % 64, by omega⟩ i h) := by
  blk_ext [iblk, idx t]

theorem blk5 (c : Dev nD) (t : Fin cfg0.N) (i : Fin 3) : iblk m c 5 t (ix2 (n0 := 1) (n1 := 3) 0 i) = V m c main_v30 (ix2 (n0 := 1) (n1 := 3) 0 i) := by
  blk_ext [iblk, idx t]

end Cert.SampleIdeal.Hand

end
-- ==== Proof.Sample.Result.lean ====
module

public import proofs.«01_k».proof.Proof.Sample.Arrays

/-! The two results of the sampling kernel in closed form. -/

@[expose] public section

set_option maxRecDepth 16384

noncomputable section

namespace Cert.SampleIdeal.Hand

open Cert.SampleIdeal Cert.SampleIdeal.Gen
open Idealize.ShloMosaic Idealize.ShloMosaic.TcCoe Idealize.ShloMosaic.Tactic
open Idealize.SL.Sem
open Idealize.ShloMosaic.Pipeline (Dat)
open Cert.Maths

/-- One channel of the padded image, read at two natural numbers. -/
def img (Y : FVec Ideal S2x8x258x258 .f32) (n : Fin 2) (c : Fin 8) (r k : ℕ) : EReal :=
  if h : r < 258 ∧ k < 258 then Y (ix4 n c ⟨r, h.1⟩ ⟨k, h.2⟩) else 0

/-- The row position of a tap, before the clip. -/
def rowOf (A5 : FVec Ideal S6 .f32) (A2 : FVec Ideal S64x64 .f32) (d h : Fin 64) (i : Fin 3) : EReal := A5 (ix1 ⟨i.val, by omega⟩) + A2 (ix2 d h) + 1

/-- The column position of a tap, before the clip. -/
def colOf (A5 : FVec Ideal S6 .f32) (A3 : FVec Ideal S64x64 .f32) (d w : Fin 64) (i : Fin 3) : EReal := A5 (ix1 ⟨3 + i.val, by omega⟩) + A3 (ix2 d w) + 1

/-- The sampled image: for each tap the four corners around its position, weighted by the mask. -/
def sampled (A1 : FVec Ideal S2x8x256x256 .f32) (A7 : FVec Ideal S3 .f32) (P Q : Fin 64 → Fin 64 → Fin 3 → ℝ) (n : Fin 2) (d : Fin 64) (c : Fin 8) (h w : Fin 64) : EReal :=
  ∑ i : Fin 3, corners (P d h i) (Q d w i) (img (padded A1) n c) * mixW (fun j => A7 (ix1 j)) i

/-- The positions' volume: three rows, then three columns. -/
def positions (A5 : FVec Ideal S6 .f32) (A2 A3 : FVec Ideal S64x64 .f32) (d : Fin 64) (j : Fin 6) (h w : Fin 64) : EReal :=
  if hj : j.val < 3 then clip (rowOf A5 A2 d h ⟨j.val, hj⟩) else clip (colOf A5 A3 d w ⟨j.val - 3, by omega⟩)

theorem slice_lo (A5 : FVec Ideal S6 .f32) (i : Fin 3) : extractStridedSlice S3 ![0] A5 slices_S6_S3_0 (ix1 i) = A5 (ix1 ⟨i.val, by omega⟩) := by
  pointwise

theorem slice_hi (A5 : FVec Ideal S6 .f32) (i : Fin 3) : extractStridedSlice S3 ![3] A5 slices_S6_S3_3 (ix1 i) = A5 (ix1 ⟨3 + i.val, by omega⟩) := by
  pointwise

theorem max_coe (a b : ℝ) : ((max a b : ℝ) : EReal) = max (a : EReal) (b : EReal) := EReal.coe_strictMono.monotone.map_max

/-- The weight at a real position is the hat there. -/
theorem tent_real (r : ℕ) (hr : r < 160) (p : ℝ) : tent r (p : EReal) = ((hat ((r : ℝ) + 48 - p) : ℝ) : EReal) := by
  unfold tent hat
  rw [sitofp_small (by omega), c48_eq, ← EReal.coe_add, ← EReal.coe_sub]
  show max 0 (1 - max (((r : ℝ) + 48 - p : ℝ) : EReal) (-(((r : ℝ) + 48 - p : ℝ) : EReal))) = _
  rw [← EReal.coe_neg, ← max_coe, ← EReal.coe_one, ← EReal.coe_sub, ← EReal.coe_zero, ← max_coe]
  rfl

variable (m : (ℓ : Loc nD τ sig) → Buf (Elt Ideal) ℓ)

theorem row_block (c : Dev nD) (t : Fin cfg0.N) (h : Fin 64) (i : Fin 3) :
    iblk m c 1 t (ix3 (n0 := 1) (n1 := 64) (n2 := 3) 0 h i)
      = clip (rowOf (m ((c : Thread nD τ).loc main_arg5)) (m ((c : Thread nD τ).loc main_arg2)) ⟨t.val % 64, by omega⟩ h i) := by
  rw [blk1, V_v8, pos_at, slice_lo]
  rfl

theorem col_block (c : Dev nD) (t : Fin cfg0.N) (h : Fin 64) (i : Fin 3) :
    iblk m c 2 t (ix3 (n0 := 1) (n1 := 64) (n2 := 3) 0 h i)
      = clip (colOf (m ((c : Thread nD τ).loc main_arg5)) (m ((c : Thread nD τ).loc main_arg3)) ⟨t.val % 64, by omega⟩ h i) := by
  rw [blk2, V_v17, pos_at, slice_hi]
  rfl

theorem swap_at (x : FVec Ideal S64x64x3 .f32) (d : Fin 64) (i : Fin 3) (h : Fin 64) :
    transpose S64x3x64 [0, 2, 1] x transposes_S64x64x3_S64x3x64_0_2_1 (ix3 d i h) = x (ix3 d h i) := by
  pointwise

theorem rowT_block (c : Dev nD) (t : Fin cfg0.N) (h : Fin 64) (i : Fin 3) :
    iblk m c 3 t (ix3 (n0 := 1) (n1 := 3) (n2 := 64) 0 i h)
      = clip (rowOf (m ((c : Thread nD τ).loc main_arg5)) (m ((c : Thread nD τ).loc main_arg2)) ⟨t.val % 64, by omega⟩ h i) := by
  rw [blk3, V_v18, swap_at, pos_at, slice_lo]
  rfl

theorem colT_block (c : Dev nD) (t : Fin cfg0.N) (h : Fin 64) (i : Fin 3) :
    iblk m c 4 t (ix3 (n0 := 1) (n1 := 3) (n2 := 64) 0 i h)
      = clip (colOf (m ((c : Thread nD τ).loc main_arg5)) (m ((c : Thread nD τ).loc main_arg3)) ⟨t.val % 64, by omega⟩ h i) := by
  rw [blk4, V_v19, swap_at, pos_at, slice_hi]
  rfl

theorem mask_block (c : Dev nD) (t : Fin cfg0.N) (i : Fin 3) :
    iblk m c 5 t (ix2 (n0 := 1) (n1 := 3) 0 i) = mixW (fun j => (m ((c : Thread nD τ).loc main_arg7) : FVec Ideal S3 .f32) (ix1 j)) i := by
  rw [blk5, V_v30, mask_at]

theorem img_block (c : Dev nD) (t : Fin cfg0.N) (ch : Fin 8) (r k : Fin 160) :
    iblk m c 0 t (ix3 (n0 := 1) (n1 := 1280) (n2 := 160) 0 ⟨ch.val * 160 + r.val, by omega⟩ k)
      = img (padded (m ((c : Thread nD τ).loc main_arg1))) ⟨t.val / 64, by have := lt128 t; omega⟩ ch (r.val + 48) (k.val + 48) := by
  rw [blk0, V_v33, win_at]
  unfold img
  rw [dif_pos (by omega)]
  exact congrArg₂ (fun a b => padded (m ((c : Thread nD τ).loc main_arg1)) (ix4 _ ch a b)) (Fin.ext (by show 48 + r.val = r.val + 48; omega)) (Fin.ext (by show 48 + k.val = k.val + 48; omega))

/-- The positions as real numbers inside the window, and a real mask. -/
structure Inside (A5 : FVec Ideal S6 .f32) (A2 A3 : FVec Ideal S64x64 .f32) (A7 : FVec Ideal S3 .f32) (P Q : Fin 64 → Fin 64 → Fin 3 → ℝ) : Prop where
  row : ∀ d h i, rowOf A5 A2 d h i = ((P d h i : ℝ) : EReal)
  row_lo : ∀ d h i, 48 ≤ P d h i
  row_hi : ∀ d h i, P d h i ≤ 207
  col : ∀ d w i, colOf A5 A3 d w i = ((Q d w i : ℝ) : EReal)
  col_lo : ∀ d w i, 48 ≤ Q d w i
  col_hi : ∀ d w i, Q d w i ≤ 207
  mask : ∀ i, IsReal (A7 (ix1 i))

theorem Inside.clip_row {A5 : FVec Ideal S6 .f32} {A2 A3 : FVec Ideal S64x64 .f32} {A7 : FVec Ideal S3 .f32} {P Q : Fin 64 → Fin 64 → Fin 3 → ℝ} (H : Inside A5 A2 A3 A7 P Q)
    (d h : Fin 64) (i : Fin 3) : clip (rowOf A5 A2 d h i) = ((P d h i : ℝ) : EReal) := by
  rw [H.row, clip_coe (by linarith [H.row_lo d h i]) (by linarith [H.row_hi d h i])]

theorem Inside.clip_col {A5 : FVec Ideal S6 .f32} {A2 A3 : FVec Ideal S64x64 .f32} {A7 : FVec Ideal S3 .f32} {P Q : Fin 64 → Fin 64 → Fin 3 → ℝ} (H : Inside A5 A2 A3 A7 P Q)
    (d w : Fin 64) (i : Fin 3) : clip (colOf A5 A3 d w i) = ((Q d w i : ℝ) : EReal) := by
  rw [H.col, clip_coe (by linarith [H.col_lo d w i]) (by linarith [H.col_hi d w i])]

/-- The first result's block. -/
theorem tile_block (c : Dev nD) {P Q : Fin 64 → Fin 64 → Fin 3 → ℝ}
    (H : Inside (m ((c : Thread nD τ).loc main_arg5)) (m ((c : Thread nD τ).loc main_arg2)) (m ((c : Thread nD τ).loc main_arg3)) (m ((c : Thread nD τ).loc main_arg7)) P Q)
    (t : Fin cfg0.N) (ch : Fin 8) (h w : Fin 64) :
    tile (iblk m c 0 t) (iblk m c 1 t) (iblk m c 2 t) (iblk m c 5 t) (ix5 (n0 := 1) (n1 := 1) (n2 := 8) (n3 := 64) (n4 := 64) 0 0 ch h w)
      = sampled (m ((c : Thread nD τ).loc main_arg1)) (m ((c : Thread nD τ).loc main_arg7)) P Q ⟨t.val / 64, by have := lt128 t; omega⟩ ⟨t.val % 64, by omega⟩ ch h w := by
  refine (tile_at _ _ _ _ ch h w).trans ?_
  unfold sampled
  refine Finset.sum_congr rfl fun i _ => ?_
  obtain ⟨μ, hμ, hm⟩ := mixW_real (fun j => (m ((c : Thread nD τ).loc main_arg7) : FVec Ideal S3 .f32) (ix1 j)) H.mask i
  rw [hm, ← hats_eq_corners _ _ μ (H.row_lo _ _ _) (H.row_hi _ _ _) (H.col_lo _ _ _) (H.col_hi _ _ _) hμ]
  refine Finset.sum_congr rfl fun r _ => congrArg₂ (· * ·) ?_ (Finset.sum_congr rfl fun k _ => congrArg₂ (· * ·) ?_ (congrArg₂ (· * ·) ?_ ?_))
  · exact (congrArg (tent r.val) ((row_block m c t h i).trans (H.clip_row _ _ _))).trans (tent_real r.val r.isLt _)
  · exact img_block m c t ch r k
  · exact (congrArg (tent k.val) ((col_block m c t w i).trans (H.clip_col _ _ _))).trans (tent_real k.val k.isLt _)
  · exact (mask_block m c t i).trans hm

/-- The second result's block. -/
theorem pos_block (c : Dev nD) (t : Fin cfg0.N) (j : Fin 6) (h w : Fin 64) :
    k0_pay2 (iblk m c 3 t) (iblk m c 4 t) (ix5 (n0 := 1) (n1 := 1) (n2 := 6) (n3 := 64) (n4 := 64) 0 0 j h w)
      = positions (m ((c : Thread nD τ).loc main_arg5)) (m ((c : Thread nD τ).loc main_arg2)) (m ((c : Thread nD τ).loc main_arg3)) ⟨t.val % 64, by omega⟩ j h w := by
  unfold positions
  by_cases hj : j.val < 3
  · rw [dif_pos hj]
    exact (pay2_rows _ _ ⟨j.val, hj⟩ h w).trans (rowT_block m c t h _)
  · rw [dif_neg hj]
    have e : j = ⟨3 + (⟨j.val - 3, by omega⟩ : Fin 3).val, by omega⟩ := Fin.ext (by show j.val = 3 + (j.val - 3); omega)
    refine Eq.trans ?_ (colT_block m c t w ⟨j.val - 3, by omega⟩)
    refine Eq.trans ?_ (pay2_cols (iblk m c 3 t) (iblk m c 4 t) ⟨j.val - 3, by omega⟩ h w)
    exact congrArg (fun a => k0_pay2 (iblk m c 3 t) (iblk m c 4 t) (ix5 0 0 a h w)) e

/-- The first result. -/
def sampledArr (A1 : FVec Ideal S2x8x256x256 .f32) (A7 : FVec Ideal S3 .f32) (P Q : Fin 64 → Fin 64 → Fin 3 → ℝ) : FVec Ideal S2x64x8x64x64 .f32 :=
  fun i => sampled A1 A7 P Q (i 0) (i 1) (i 2) (i 3) (i 4)

/-- The second result. -/
def positionsArr (A5 : FVec Ideal S6 .f32) (A2 A3 : FVec Ideal S64x64 .f32) : FVec Ideal S2x64x6x64x64 .f32 :=
  fun i => positions A5 A2 A3 (i 1) (i 2) (i 3) (i 4)

theorem eta8 (y : S1x1x8x64x64.Idx) : y = ix5 (n0 := 1) (n1 := 1) (n2 := 8) (n3 := 64) (n4 := 64) 0 0 (y 2) (y 3) (y 4) := by
  have h0 : (y 0).val < 1 := (y 0).isLt
  have h1 : (y 1).val < 1 := (y 1).isLt
  funext a
  match a with
  | ⟨0, _⟩ => exact Fin.ext (by show (y 0).val = 0; omega)
  | ⟨1, _⟩ => exact Fin.ext (by show (y 1).val = 0; omega)
  | ⟨2, _⟩ => rfl
  | ⟨3, _⟩ => rfl
  | ⟨4, _⟩ => rfl

theorem eta6 (y : S1x1x6x64x64.Idx) : y = ix5 (n0 := 1) (n1 := 1) (n2 := 6) (n3 := 64) (n4 := 64) 0 0 (y 2) (y 3) (y 4) := by
  have h0 : (y 0).val < 1 := (y 0).isLt
  have h1 : (y 1).val < 1 := (y 1).isLt
  funext a
  match a with
  | ⟨0, _⟩ => exact Fin.ext (by show (y 0).val = 0; omega)
  | ⟨1, _⟩ => exact Fin.ext (by show (y 1).val = 0; omega)
  | ⟨2, _⟩ => rfl
  | ⟨3, _⟩ => rfl
  | ⟨4, _⟩ => rfl

theorem sampled_final (c : Dev nD) {P Q : Fin 64 → Fin 64 → Fin 3 → ℝ}
    (H : Inside (m ((c : Thread nD τ).loc main_arg5)) (m ((c : Thread nD τ).loc main_arg2)) (m ((c : Thread nD τ).loc main_arg3)) (m ((c : Thread nD τ).loc main_arg7)) P Q) :
    (dats m 0 c).arrAt 6 cfg0.N = sampledArr (m ((c : Thread nD τ).loc main_arg1)) (m ((c : Thread nD τ).loc main_arg7)) P Q := by
  refine (dats m 0 c).arrAt_eq_of_covers 6 _ (by decide +kernel) fun t _ y => ?_
  blk_simp
  rw [after0_6]
  simp only [outsAt0]
  rw [out6_eq]
  have key : ∀ (y : S1x1x8x64x64.Idx) (i : S2x64x8x64x64.Idx), i = ix5 (n0 := 2) (n1 := 64) (n2 := 8) (n3 := 64) (n4 := 64) ⟨t.val / 64, by have := lt128 t; omega⟩ ⟨t.val % 64, by omega⟩ (y 2) (y 3) (y 4)
      → tile (iblk m c 0 t) (iblk m c 1 t) (iblk m c 2 t) (iblk m c 5 t) y = sampledArr (m ((c : Thread nD τ).loc main_arg1)) (m ((c : Thread nD τ).loc main_arg7)) P Q i := by
    rintro y i rfl
    rw [eta8 y]
    exact tile_block m c H t _ _ _
  refine key y _ ?_
  blk_ext [idx t]

theorem positions_final (c : Dev nD) :
    (dats m 0 c).arrAt 7 cfg0.N = positionsArr (m ((c : Thread nD τ).loc main_arg5)) (m ((c : Thread nD τ).loc main_arg2)) (m ((c : Thread nD τ).loc main_arg3)) := by
  refine (dats m 0 c).arrAt_eq_of_covers 7 _ (by decide +kernel) fun t _ y => ?_
  blk_simp
  rw [after0_7]
  simp only [outsAt0]
  rw [out7_eq]
  have key : ∀ (y : S1x1x6x64x64.Idx) (i : S2x64x6x64x64.Idx), i = ix5 (n0 := 2) (n1 := 64) (n2 := 6) (n3 := 64) (n4 := 64) ⟨t.val / 64, by have := lt128 t; omega⟩ ⟨t.val % 64, by omega⟩ (y 2) (y 3) (y 4)
      → k0_pay2 (iblk m c 3 t) (iblk m c 4 t) y = positionsArr (m ((c : Thread nD τ).loc main_arg5)) (m ((c : Thread nD τ).loc main_arg2)) (m ((c : Thread nD τ).loc main_arg3)) i := by
    rintro y i rfl
    rw [eta6 y]
    exact pos_block m c t _ _ _
  refine key y _ ?_
  blk_ext [idx t]

end Cert.SampleIdeal.Hand

end
-- ==== Proof.Sample.Inside.lean ====
module

public import proofs.«01_k».proof.Proof.Finite
public import proofs.«01_k».proof.Proof.Sample.Result

/-! What the second precondition says: positions inside the window, zero weights, and a real mask bias. -/

@[expose] public section

noncomputable section

namespace Cert.Pre_inside.Hand

open Idealize.ShloMosaic
open Cert.Maths
open Cert.Pre_finite.Hand (and_one real_of_test)
open Cert.SampleIdeal.Hand (rowOf colOf Inside)

theorem facts : Cert.Pre_inside.Facts where
  slices_S6_S3_0 := by decide
  bcast_S3_S1x1x3_2 := by decide
  bcast_S64x64_S64x64x1_0_1 := by decide
  bcast_S1x1x3_S64x64x3_0_1_2 := by decide
  bcast_S64x64x1_S64x64x3_0_1_2 := by decide
  bcast_S_S64x64x3 := by decide
  slices_S6_S3_3 := by decide
  reducesTo_S64x64x3_S_d0_1_2 := by decide
  h_S_ := by decide
  bcast_S_S6x16x3x3x3 := by decide
  reducesTo_S6x16x3x3x3_S_d0_1_2_3_4 := by decide
  bcast_S_S3x16x3x3x3 := by decide
  reducesTo_S3x16x3x3x3_S_d0_1_2_3_4 := by decide
  bcast_S_S3 := by decide
  reducesTo_S3_S_d0 := by decide

instance : Subsingleton Cert.Pre_inside.S_.Idx := ⟨fun a b => funext fun k => k.elim0⟩

/-- A comparison that answers one holds. -/
theorem of_test {p : Prop} [Decidable p] (h : BitVec.ofBool (decide p) = 1#1) : p := by
  by_contra hn
  rw [decide_eq_false hn] at h
  exact absurd h (by decide)

/-- An array that passes a comparison with a constant everywhere passes it at each element. -/
theorem test_all {s : Shape} {axes : List (Fin s.rank)} (P : CmpFPredicate) (b : BitVec 32) (x : FVec Ideal s .f32) (hb : S_.BroadcastsInDim s (![] : Fin 0 → Fin s.rank))
    (hr : s.ReducesTo axes S_) (hu : 0 < S_.numel) (i0 : S_.Idx)
    (h : Host.reduce IntOp.andi (cmpf P x (broadcastInDim s ![] hb (constant (F := Ideal) S_ .f32 b))) (constantI S_ 1 1#1) hr hu i0 = 1#1)
    (i : s.Idx) : Ideal.cmp P (x i) (Ideal.ofBits .f32 b) = 1#1 :=
  Host.reduce_andi_all _ _ _ _ i0 h i

variable [Cert.Pre_inside.Facts]
open Cert.Pre_inside.Facts

/-- A tap's position as the precondition writes it. -/
def spot (a : FVec Ideal S3 .f32) (A : FVec Ideal S64x64 .f32) : FVec Ideal S64x64x3 .f32 :=
  addf (addf (broadcastInDim S64x64x3 ![0, 1, 2] bcast_S1x1x3_S64x64x3_0_1_2 (broadcastInDim S1x1x3 ![2] bcast_S3_S1x1x3_2 a))
    (broadcastInDim S64x64x3 ![0, 1, 2] bcast_S64x64x1_S64x64x3_0_1_2 (broadcastInDim S64x64x1 ![0, 1] bcast_S64x64_S64x64x1_0_1 A)))
    (broadcastInDim S64x64x3 ![] bcast_S_S64x64x3 (constant (F := Ideal) S_ .f32 0x3F800000#32))

theorem spot_at (a : FVec Ideal S3 .f32) (A : FVec Ideal S64x64 .f32) (d h : Fin 64) (i : Fin 3) :
    spot a A (ix3 d h i) = a (ix1 i) + A (ix2 d h) + 1 := by
  pointwise [spot]

theorem row_spot (A5 : FVec Ideal S6 .f32) (A : FVec Ideal S64x64 .f32) (d h : Fin 64) (i : Fin 3) :
    spot (extractStridedSlice S3 ![0] A5 slices_S6_S3_0) A (ix3 d h i) = rowOf A5 A d h i := by
  rw [spot_at]
  unfold rowOf
  pointwise

theorem col_spot (A5 : FVec Ideal S6 .f32) (A : FVec Ideal S64x64 .f32) (d h : Fin 64) (i : Fin 3) :
    spot (extractStridedSlice S3 ![3] A5 slices_S6_S3_3) A (ix3 d h i) = colOf A5 A d h i := by
  rw [spot_at]
  unfold colOf
  pointwise

/-- A value that passes both comparisons is a real number of the window. -/
theorem between (x : EReal) (h1 : Ideal.cmp .oge x (Ideal.ofBits .f32 0x42400000#32) = 1#1) (h2 : Ideal.cmp .ole x (Ideal.ofBits .f32 0x434F0000#32) = 1#1) :
    ∃ p : ℝ, x = (p : EReal) ∧ 48 ≤ p ∧ p ≤ 207 := by
  rw [c48_eq] at h1
  rw [c207_eq] at h2
  have g1 : ((48 : ℝ) : EReal) ≤ x := of_test h1
  have g2 : x ≤ ((207 : ℝ) : EReal) := of_test h2
  obtain ⟨p, rfl⟩ := IsReal.of_lt (lt_of_le_of_lt g2 (EReal.coe_lt_top _)) (lt_of_lt_of_le (EReal.bot_lt_coe _) g1)
  exact ⟨p, rfl, EReal.coe_le_coe_iff.mp g1, EReal.coe_le_coe_iff.mp g2⟩

/-- A value that equals the zero constant is zero. -/
theorem zero_of_test (x : EReal) (h : Ideal.cmp .oeq x (Ideal.ofBits .f32 0x00000000#32) = 1#1) : x = 0 := by
  rw [Ideal.ofBits_zero_f32] at h
  exact of_test h

/-- The precondition, unpacked. -/
theorem inside (x0 : FVec Ideal S2x8x64x64x64 .f32) (x1 : FVec Ideal S2x8x256x256 .f32) (x2 x3 : FVec Ideal S64x64 .f32) (x4 : FVec Ideal S6x16x3x3x3 .f32)
    (x5 : FVec Ideal S6 .f32) (x6 : FVec Ideal S3x16x3x3x3 .f32) (x7 : FVec Ideal S3 .f32) (h : Cert.Pre_inside.fn (F := Ideal) x0 x1 x2 x3 x4 x5 x6 x7 = fun _ => 1#1) :
    ∃ P Q : Fin 64 → Fin 64 → Fin 3 → ℝ, Inside x5 x2 x3 x7 P Q ∧ (∀ i, x4 i = (0 : EReal)) ∧ (∀ i, x6 i = (0 : EReal)) := by
  have i0 : S_.Idx := fun k => k.elim0
  obtain ⟨h, h7⟩ := and_one (congrFun h i0)
  obtain ⟨h, h6⟩ := and_one h
  obtain ⟨h, h5⟩ := and_one h
  obtain ⟨h, h4⟩ := and_one h
  obtain ⟨h, h3⟩ := and_one h
  obtain ⟨h1, h2⟩ := and_one h
  have hr : ∀ d h i, ∃ p : ℝ, rowOf x5 x2 d h i = (p : EReal) ∧ 48 ≤ p ∧ p ≤ 207 := fun d h i => by
    rw [← row_spot]
    exact between _ (test_all .oge _ (spot _ x2) _ _ _ i0 h1 _) (test_all .ole _ (spot _ x2) _ _ _ i0 h2 _)
  have hc : ∀ d h i, ∃ p : ℝ, colOf x5 x3 d h i = (p : EReal) ∧ 48 ≤ p ∧ p ≤ 207 := fun d h i => by
    rw [← col_spot]
    exact between _ (test_all .oge _ (spot _ x3) _ _ _ i0 h3 _) (test_all .ole _ (spot _ x3) _ _ _ i0 h4 _)
  choose P hP using hr
  choose Q hQ using hc
  exact ⟨P, Q, ⟨fun d h i => (hP d h i).1, fun d h i => (hP d h i).2.1, fun d h i => (hP d h i).2.2, fun d h i => (hQ d h i).1, fun d h i => (hQ d h i).2.1,
    fun d h i => (hQ d h i).2.2, fun i => real_of_test _ (Host.reduce_andi_all _ _ _ _ i0 h7 (ix1 i))⟩,
    fun i => zero_of_test _ (test_all .oeq _ x4 _ _ _ i0 h5 i), fun i => zero_of_test _ (test_all .oeq _ x6 _ _ _ i0 h6 i)⟩

end Cert.Pre_inside.Hand

end
-- ==== Proof.Sample.Ref.Conv.lean ====
module

public import proofs.«01_k».proof.Proof.Gen.SampleReferenceIdeal.Read
public import proofs.«01_k».proof.Proof.Sample.Hat
public import Idealize.ShloMosaic.Lib.Pointwise

/-! The reference's two convolutions with zero weights leave their biases only. -/

@[expose] public section

set_option maxRecDepth 16384

noncomputable section

namespace Cert.SampleReferenceIdeal.Hand

open Cert.SampleReferenceIdeal Cert.SampleReferenceIdeal.Gen Cert.SampleReferenceIdeal.Read
open Idealize.ShloMosaic Idealize.ShloMosaic.TcCoe

theorem slO : ∀ kd kh kw : Fin 3, S6x16x3x3x3.Slices ![0, 0, kd.val, kh.val, kw.val] S6x16x1x1x1 := by decide
theorem slM : ∀ kd kh kw : Fin 3, S3x16x3x3x3.Slices ![0, 0, kd.val, kh.val, kw.val] S3x16x1x1x1 := by decide
theorem slX : ∀ kd kh kw : Fin 3, S2x16x66x66x66.Slices ![0, 0, kd.val, kh.val, kw.val] S2x16x64x64x64 := by decide

/-- The tap of the offsets' convolution at the shift `(kd, kh, kw)`. -/
def tapO (xp : FVec Ideal S2x16x66x66x66 .f32) (w : FVec Ideal S6x16x3x3x3 .f32) (kd kh kw : Fin 3) : FVec Ideal S2x6x64x64x64 .f32 :=
  transpose S2x6x64x64x64 [1, 0, 2, 3, 4]
    (Host.dotGeneral dot_S6x16_S2x16x64x64x64_S6x2x64x64x64_1_1_0_0234_n_n none
      (shapeCast S6x16 (extractStridedSlice S6x16x1x1x1 ![0, 0, kd.val, kh.val, kw.val] w (slO kd kh kw)) shapeCasts_S6x16x1x1x1_S6x16)
      (extractStridedSlice S2x16x64x64x64 ![0, 0, kd.val, kh.val, kw.val] xp (slX kd kh kw)) : FVec Ideal S6x2x64x64x64 .f32)
    transposes_S6x2x64x64x64_S2x6x64x64x64_1_0_2_3_4

/-- The tap of the mask's convolution at the shift `(kd, kh, kw)`. -/
def tapM (xp : FVec Ideal S2x16x66x66x66 .f32) (w : FVec Ideal S3x16x3x3x3 .f32) (kd kh kw : Fin 3) : FVec Ideal S2x3x64x64x64 .f32 :=
  transpose S2x3x64x64x64 [1, 0, 2, 3, 4]
    (Host.dotGeneral dot_S3x16_S2x16x64x64x64_S3x2x64x64x64_1_1_0_0234_n_n none
      (shapeCast S3x16 (extractStridedSlice S3x16x1x1x1 ![0, 0, kd.val, kh.val, kw.val] w (slM kd kh kw)) shapeCasts_S3x16x1x1x1_S3x16)
      (extractStridedSlice S2x16x64x64x64 ![0, 0, kd.val, kh.val, kw.val] xp (slX kd kh kw)) : FVec Ideal S3x2x64x64x64 .f32)
    transposes_S3x2x64x64x64_S2x3x64x64x64_1_0_2_3_4

theorem tapO_zero (xp : FVec Ideal S2x16x66x66x66 .f32) (w : FVec Ideal S6x16x3x3x3 .f32) (hw : ∀ i, w i = (0 : EReal)) (kd kh kw : Fin 3)
    (n : Fin 2) (o : Fin 6) (d h e : Fin 64) : tapO xp w kd kh kw (ix5 n o d h e) = (0 : EReal) := by
  pointwise [tapO, hw]
  try simp

theorem tapM_zero (xp : FVec Ideal S2x16x66x66x66 .f32) (w : FVec Ideal S3x16x3x3x3 .f32) (hw : ∀ i, w i = (0 : EReal)) (kd kh kw : Fin 3)
    (n : Fin 2) (o : Fin 3) (d h e : Fin 64) : tapM xp w kd kh kw (ix5 n o d h e) = (0 : EReal) := by
  pointwise [tapM, hw]
  try simp

variable (x0 : FVec Ideal S2x8x64x64x64 .f32) (x1 : FVec Ideal S2x8x256x256 .f32) (x2 x3 : FVec Ideal S64x64 .f32)

theorem sumO (x4 : FVec Ideal S6x16x3x3x3 .f32) (i : S2x6x64x64x64.Idx) :
    val_main_v246 (F := Ideal) x0 x1 x2 x3 x4 i = ∑ kd : Fin 3, ∑ kh : Fin 3, ∑ kw : Fin 3, tapO (val_main_v85 (F := Ideal) x0 x1 x2 x3) x4 kd kh kw i := by
  simp only [Fin.sum_univ_three, ← add_assoc]
  simp only [val_main_v246_apply, val_main_v240_apply, val_main_v234_apply, val_main_v228_apply, val_main_v222_apply, val_main_v216_apply, val_main_v210_apply, val_main_v204_apply, val_main_v198_apply, val_main_v192_apply, val_main_v186_apply, val_main_v180_apply, val_main_v174_apply, val_main_v168_apply, val_main_v162_apply, val_main_v156_apply, val_main_v150_apply, val_main_v144_apply, val_main_v138_apply, val_main_v132_apply, val_main_v126_apply, val_main_v120_apply, val_main_v114_apply, val_main_v108_apply, val_main_v102_apply, val_main_v96_apply]
  rfl

theorem sumM (x6 : FVec Ideal S3x16x3x3x3 .f32) (i : S2x3x64x64x64.Idx) :
    val_main_v412 (F := Ideal) x0 x1 x2 x3 x6 i = ∑ kd : Fin 3, ∑ kh : Fin 3, ∑ kw : Fin 3, tapM (val_main_v251 (F := Ideal) x0 x1 x2 x3) x6 kd kh kw i := by
  simp only [Fin.sum_univ_three, ← add_assoc]
  simp only [val_main_v412_apply, val_main_v406_apply, val_main_v400_apply, val_main_v394_apply, val_main_v388_apply, val_main_v382_apply, val_main_v376_apply, val_main_v370_apply, val_main_v364_apply, val_main_v358_apply, val_main_v352_apply, val_main_v346_apply, val_main_v340_apply, val_main_v334_apply, val_main_v328_apply, val_main_v322_apply, val_main_v316_apply, val_main_v310_apply, val_main_v304_apply, val_main_v298_apply, val_main_v292_apply, val_main_v286_apply, val_main_v280_apply, val_main_v274_apply, val_main_v268_apply, val_main_v262_apply]
  rfl

/-- With zero weights the offsets are their biases. -/
theorem offset_at (x4 : FVec Ideal S6x16x3x3x3 .f32) (x5 : FVec Ideal S6 .f32) (hw : ∀ i, x4 i = (0 : EReal)) (n : Fin 2) (o : Fin 6) (d h e : Fin 64) :
    val_main_v249 (F := Ideal) x0 x1 x2 x3 x4 x5 (ix5 n o d h e) = x5 (ix1 o) := by
  have hs : val_main_v246 (F := Ideal) x0 x1 x2 x3 x4 (ix5 n o d h e) = (0 : EReal) := by
    rw [sumO]
    simp only [tapO_zero _ x4 hw, Finset.sum_const_zero]
  have hb : val_main_v248 (F := Ideal) x5 (ix5 n o d h e) = x5 (ix1 o) := by
    pointwise [val_main_v248, val_main_v247]
  rw [val_main_v249_apply, hs, hb]
  exact zero_add _

/-- With zero weights the mask's logits are their biases. -/
theorem logit_at (x6 : FVec Ideal S3x16x3x3x3 .f32) (x7 : FVec Ideal S3 .f32) (hw : ∀ i, x6 i = (0 : EReal)) (n : Fin 2) (o : Fin 3) (d h e : Fin 64) :
    val_main_v415 (F := Ideal) x0 x1 x2 x3 x6 x7 (ix5 n o d h e) = x7 (ix1 o) := by
  have hs : val_main_v412 (F := Ideal) x0 x1 x2 x3 x6 (ix5 n o d h e) = (0 : EReal) := by
    rw [sumM]
    simp only [tapM_zero _ x6 hw, Finset.sum_const_zero]
  have hb : val_main_v414 (F := Ideal) x7 (ix5 n o d h e) = x7 (ix1 o) := by
    pointwise [val_main_v414, val_main_v413]
  rw [val_main_v415_apply, hs, hb]
  exact zero_add _

/-- The mask is the softmax of its biases. -/
theorem mask_at (x6 : FVec Ideal S3x16x3x3x3 .f32) (x7 : FVec Ideal S3 .f32) (hw : ∀ i, x6 i = (0 : EReal)) (n : Fin 2) (o : Fin 3) (d h e : Fin 64) :
    val_main_v426 (F := Ideal) x0 x1 x2 x3 x6 x7 (ix5 n o d h e) = Cert.Maths.mixW (fun j => x7 (ix1 j)) o := by
  pointwise [val_main_v426, val_main_v425, val_main_v424, val_main_v423, val_main_cst_21, val_main_v422, val_main_v421, val_main_v420, val_main_v419, val_main_v418,
    val_main_v417, val_main_cst_20, val_main_v416, val_main_cst_19, Cert.Maths.mixW, logit_at x0 x1 x2 x3 x6 x7 hw]

end Cert.SampleReferenceIdeal.Hand

end
-- ==== Proof.Sample.Ref.Gather.lean ====
module

public import proofs.«01_k».proof.SampleReferenceIdeal
public import proofs.«01_k».proof.Proof.Gen.SampleReferenceIdeal
public import Idealize.ShloMosaic.Lib.Pointwise
public import Idealize.ShloMosaic.Lib.ValueIdxCore

/-! The reference's look-up of image elements by flat index, read at an index. -/

@[expose] public section

set_option maxRecDepth 16384

noncomputable section

namespace Cert.SampleReferenceIdeal.Hand

open Cert.SampleReferenceIdeal Cert.SampleReferenceIdeal.Gen
open Idealize.ShloMosaic Idealize.ShloMosaic.TcCoe

/-- The look-up along the flat plane: the element at the index word, clamped into the plane. -/
theorem gather_at (x : FVec Ideal S2x8x66564 .f32) (idx : IVec S2x786432x1 32) (n : Fin 2) (c : Fin 8) (j : Fin 786432) :
    Host.gather gather_S2x8x66564_S2x786432x1_S2x8x786432_1_2_0_0_2_2_181 x idx (ix3 n c j)
      = x (ix3 n c ⟨min (idx (ix3 n j 0)).toInt.toNat 66563, by omega⟩) := by
  unfold Host.gather
  refine congrArg x (funext fun a => Fin.ext ?_)
  show GatherDims.start gather_S2x8x66564_S2x786432x1_S2x8x786432_1_2_0_0_2_2_181 (ix3 n c j) idx a
    + GatherDims.batchCoord gather_S2x8x66564_S2x786432x1_S2x8x786432_1_2_0_0_2_2_181 (ix3 n c j) a
    + GatherDims.offCoord gather_S2x8x66564_S2x786432x1_S2x8x786432_1_2_0_0_2_2_181 (ix3 n c j) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · have h0 : (0 : Fin S2x8x66564.rank) ∈ gather_S2x8x66564_S2x786432x1_S2x8x786432_1_2_0_0_2_2_181.operandBatchingDims := by decide
    rw [GatherDims.start_batching _ _ _ _ h0, GatherDims.offCoord_eq_zero _ _ _ (fun h => ((GatherDims.mem_sKept _ _).mp h).2 h0)]
    simp only [Nat.zero_add, Nat.add_zero]
    unfold GatherDims.batchCoord
    rw [dif_pos h0]
    rfl
  · have hb : (1 : Fin S2x8x66564.rank) ∉ gather_S2x8x66564_S2x786432x1_S2x8x786432_1_2_0_0_2_2_181.operandBatchingDims := by decide
    have hs : (1 : Fin S2x8x66564.rank) ∉ gather_S2x8x66564_S2x786432x1_S2x8x786432_1_2_0_0_2_2_181.startIndexMap := by decide
    have hk : (1 : Fin S2x8x66564.rank) ∈ gather_S2x8x66564_S2x786432x1_S2x8x786432_1_2_0_0_2_2_181.sKept := by decide
    rw [GatherDims.batchCoord_eq_zero _ _ _ hb]
    unfold GatherDims.start GatherDims.offCoord
    rw [dif_neg hs, dif_pos hk]
    simp only [Nat.zero_add, Nat.add_zero]
    rfl
  · have hb : (2 : Fin S2x8x66564.rank) ∉ gather_S2x8x66564_S2x786432x1_S2x8x786432_1_2_0_0_2_2_181.operandBatchingDims := by decide
    have hc : (2 : Fin S2x8x66564.rank) ∈ gather_S2x8x66564_S2x786432x1_S2x8x786432_1_2_0_0_2_2_181.collapsedSliceDims := by decide
    have hs : (2 : Fin S2x8x66564.rank) ∈ gather_S2x8x66564_S2x786432x1_S2x8x786432_1_2_0_0_2_2_181.startIndexMap := by decide
    rw [GatherDims.batchCoord_eq_zero _ _ _ hb, GatherDims.offCoord_eq_zero _ _ _ (fun h => ((GatherDims.mem_sKept _ _).mp h).1 hc)]
    simp only [Nat.add_zero]
    unfold GatherDims.start
    rw [dif_pos hs]
    have hsi : ∀ k, GatherDims.siIdx gather_S2x8x66564_S2x786432x1_S2x8x786432_1_2_0_0_2_2_181 (ix3 n c j) k = ix3 n j 0 := by
      intro k
      funext b
      refine Fin.ext ?_
      match b with
      | ⟨0, _⟩ => rfl
      | ⟨1, _⟩ => rfl
      | ⟨2, _⟩ =>
        have hk : k.val < 1 := k.isLt
        show k.val = 0
        omega
    rw [hsi]
    rfl

/-- The look-up of a whole array of indices in the padded image. -/
def look (Y : FVec Ideal S2x8x258x258 .f32) (w : IVec S2x64x64x64x3 32) : FVec Ideal S2x8x786432 .f32 :=
  Host.gather gather_S2x8x66564_S2x786432x1_S2x8x786432_1_2_0_0_2_2_181 (shapeCast S2x8x66564 Y shapeCasts_S2x8x258x258_S2x8x66564)
    (broadcastInDim S2x786432x1 ![0, 1] bcast_S2x786432_S2x786432x1_0_1 (shapeCast S2x786432 w shapeCasts_S2x64x64x64x3_S2x786432))

theorem flat_at (Y : FVec Ideal S2x8x258x258 .f32) (n : Fin 2) (c : Fin 8) (j : Fin 66564) :
    shapeCast S2x8x66564 Y shapeCasts_S2x8x258x258_S2x8x66564 (ix3 n c j) = Y (ix4 n c ⟨j.val / 258, by omega⟩ ⟨j.val % 258, by omega⟩) := by
  pointwise

theorem words_at (w : IVec S2x64x64x64x3 32) (n : Fin 2) (d h e : Fin 64) (i : Fin 3) :
    broadcastInDim S2x786432x1 ![0, 1] bcast_S2x786432_S2x786432x1_0_1 (shapeCast S2x786432 w shapeCasts_S2x64x64x64x3_S2x786432)
      (ix3 n ⟨((d.val * 64 + h.val) * 64 + e.val) * 3 + i.val, by omega⟩ 0) = w (ix5 n d h e i) := by
  pointwise

/-- An array over three planes and a channel, read with the planes' coordinates split. -/
theorem split_at (x : FVec Ideal S2x8x786432 .f32) (n : Fin 2) (c : Fin 8) (d h e : Fin 64) (i : Fin 3) :
    shapeCast S2x8x64x64x64x3 x shapeCasts_S2x8x786432_S2x8x64x64x64x3 (ix6 n c d h e i)
      = x (ix3 n c ⟨((d.val * 64 + h.val) * 64 + e.val) * 3 + i.val, by omega⟩) := by
  pointwise
  exact congrArg (fun k => x (ix3 n c k)) (Fin.ext (by show d.val * 12288 + h.val * 192 + e.val * 3 + i.val = ((d.val * 64 + h.val) * 64 + e.val) * 3 + i.val; omega))

/-- The look-up at the word for the place `(r, k)` of the padded image reads the image there. -/
theorem look_at (Y : FVec Ideal S2x8x258x258 .f32) (w : IVec S2x64x64x64x3 32) (n : Fin 2) (c : Fin 8) (d h e : Fin 64) (i : Fin 3) (r k : ℕ)
    (hr : r < 258) (hk : k < 258) (hw : w (ix5 n d h e i) = BitVec.ofNat 32 (r * 258 + k)) :
    shapeCast S2x8x64x64x64x3 (look Y w) shapeCasts_S2x8x786432_S2x8x64x64x64x3 (ix6 n c d h e i) = Y (ix4 n c ⟨r, hr⟩ ⟨k, hk⟩) := by
  have hword : ∀ q : ℕ, q < 66564 → min (BitVec.ofNat 32 q).toInt.toNat 66563 = q := fun q hq => by
    rw [BitVec.toInt_eq_toNat_cond, BitVec.toNat_ofNat, Nat.mod_eq_of_lt (by omega), if_pos (by omega)]
    simp only [Int.toNat_natCast]
    omega
  rw [split_at]
  unfold look
  rw [gather_at, flat_at]
  have e0 : min ((broadcastInDim S2x786432x1 ![0, 1] bcast_S2x786432_S2x786432x1_0_1 (shapeCast S2x786432 w shapeCasts_S2x64x64x64x3_S2x786432)
      (ix3 n ⟨((d.val * 64 + h.val) * 64 + e.val) * 3 + i.val, by omega⟩ 0) : BitVec 32)).toInt.toNat 66563 = r * 258 + k := by
    rw [words_at, hw]
    exact hword _ (by omega)
  exact congrArg₂ (fun a b => Y (ix4 n c a b)) (Fin.ext (by show min _ _ / 258 = r; rw [e0]; omega)) (Fin.ext (by show min _ _ % 258 = k; rw [e0]; omega))

end Cert.SampleReferenceIdeal.Hand

end
-- ==== Proof.Sample.Ref.Words.lean ====
module

public import proofs.«01_k».proof.Proof.Sample.Ref.Conv
public import proofs.«01_k».proof.Proof.Sample.Ref.Gather
public import proofs.«01_k».proof.Proof.Sample.Result

/-! The reference's positions, corner words, corner weights and corner reads. -/

@[expose] public section

set_option maxRecDepth 16384

noncomputable section

namespace Cert.SampleReferenceIdeal.Hand

open Cert.SampleReferenceIdeal Cert.SampleReferenceIdeal.Gen Cert.SampleReferenceIdeal.Read
open Idealize.ShloMosaic Idealize.ShloMosaic.TcCoe
open Cert.Maths

variable (x0 : FVec Ideal S2x8x64x64x64 .f32) (x1 : FVec Ideal S2x8x256x256 .f32) (x2 x3 : FVec Ideal S64x64 .f32)
variable (x4 : FVec Ideal S6x16x3x3x3 .f32) (x5 : FVec Ideal S6 .f32)

theorem sit0 : (FloatOps.sitofp (F := Ideal) .f32 0#32 : EReal) = 0 := by
  rw [sitofp_small (by norm_num)]
  norm_num

theorem sit257 : (FloatOps.sitofp (F := Ideal) .f32 257#32 : EReal) = ((257 : ℝ) : EReal) := by
  rw [sitofp_small (by norm_num)]
  norm_num

/-- The row positions. -/
theorem row_at (hw : ∀ i, x4 i = (0 : EReal)) (n : Fin 2) (d h e : Fin 64) (i : Fin 3) :
    val_main_v433 (F := Ideal) x0 x1 x2 x3 x4 x5 (ix5 n d h e i) = clip (x5 (ix1 ⟨i.val, by omega⟩) + x2 (ix2 d h) + 1) := by
  unfold clip
  pointwise [val_main_v433, val_main_call11_v4, val_main_call11_v3, val_main_call11_v2, val_main_call11_v1, val_main_call11_v0, val_main_c_23, val_main_c_24, val_main_v432, val_main_v431, val_main_v430, val_main_v429, val_main_v428, val_main_v427, val_main_v250, val_main_v0, val_main_v1, val_main_cst_22, offset_at x0 x1 x2 x3 x4 x5 hw, sit0, sit257]

/-- The column positions. -/
theorem col_at (hw : ∀ i, x4 i = (0 : EReal)) (n : Fin 2) (d h e : Fin 64) (i : Fin 3) :
    val_main_v440 (F := Ideal) x0 x1 x2 x3 x4 x5 (ix5 n d h e i) = clip (x5 (ix1 ⟨3 + i.val, by omega⟩) + x3 (ix2 d e) + 1) := by
  unfold clip
  pointwise [val_main_v440, val_main_call12_v4, val_main_call12_v3, val_main_call12_v2, val_main_call12_v1, val_main_call12_v0, val_main_c_26, val_main_c_27, val_main_v439, val_main_v438, val_main_v437, val_main_v436, val_main_v435, val_main_v434, val_main_v250, val_main_v2, val_main_v3, val_main_cst_25, offset_at x0 x1 x2 x3 x4 x5 hw, sit0, sit257]

theorem wordT (j : S2x64x64x64x3.Idx) : val_main_v443 (F := Ideal) x0 x1 x2 x3 x4 x5 j
    = Ideal.fptosi 32 (clip (Ideal.liftRound Int.floor (val_main_v433 (F := Ideal) x0 x1 x2 x3 x4 x5 j))) := by
  unfold clip
  rw [← sit257, ← sit0]
  rfl

theorem wordB (j : S2x64x64x64x3.Idx) : val_main_v448 (F := Ideal) x0 x1 x2 x3 x4 x5 j
    = Ideal.fptosi 32 (clip (Ideal.liftRound Int.floor (val_main_v433 (F := Ideal) x0 x1 x2 x3 x4 x5 j) + 1)) := by
  unfold clip
  rw [← sit257, ← sit0, ← Ideal.ofBits_one_f32]
  rfl

theorem wordL (j : S2x64x64x64x3.Idx) : val_main_v451 (F := Ideal) x0 x1 x2 x3 x4 x5 j
    = Ideal.fptosi 32 (clip (Ideal.liftRound Int.floor (val_main_v440 (F := Ideal) x0 x1 x2 x3 x4 x5 j))) := by
  unfold clip
  rw [← sit257, ← sit0]
  rfl

theorem wordR (j : S2x64x64x64x3.Idx) : val_main_v456 (F := Ideal) x0 x1 x2 x3 x4 x5 j
    = Ideal.fptosi 32 (clip (Ideal.liftRound Int.floor (val_main_v440 (F := Ideal) x0 x1 x2 x3 x4 x5 j) + 1)) := by
  unfold clip
  rw [← sit257, ← sit0, ← Ideal.ofBits_one_f32]
  rfl

theorem lo_weight {p : ℝ} (h1 : p ≤ 207) : (1 : EReal) + ((FloatOps.sitofp (F := Ideal) .f32 (BitVec.ofNat 32 ⌊p⌋₊) : EReal) - (p : EReal)) = ((gLo p : ℝ) : EReal) := by
  have := floor_le207 h1
  rw [sitofp_small (by omega), ← EReal.coe_one, ← EReal.coe_sub, ← EReal.coe_add]
  rfl

theorem hi_weight {p : ℝ} (h1 : p ≤ 207) : (1 : EReal) - ((FloatOps.sitofp (F := Ideal) .f32 (BitVec.ofNat 32 (⌊p⌋₊ + 1)) : EReal) - (p : EReal)) = ((gHi p : ℝ) : EReal) := by
  have := floor_le207 h1
  rw [sitofp_small (by omega), ← EReal.coe_one, ← EReal.coe_sub, ← EReal.coe_sub]
  rfl

theorem weightT {j : S2x64x64x64x3.Idx} {p : ℝ} (h0 : 48 ≤ p) (h1 : p ≤ 207) (h : val_main_v433 (F := Ideal) x0 x1 x2 x3 x4 x5 j = (p : EReal)) :
    val_main_v460 (F := Ideal) x0 x1 x2 x3 x4 x5 j = ((gLo p : ℝ) : EReal) := by
  have e : val_main_v460 (F := Ideal) x0 x1 x2 x3 x4 x5 j = (Ideal.ofBits .f32 0x3F800000#32 : EReal)
      + ((FloatOps.sitofp (F := Ideal) .f32 (val_main_v443 (F := Ideal) x0 x1 x2 x3 x4 x5 j) : EReal) - val_main_v433 (F := Ideal) x0 x1 x2 x3 x4 x5 j) := rfl
  rw [e, wordT, h, word_lo h0 h1, Ideal.ofBits_one_f32, lo_weight h1]

theorem weightB {j : S2x64x64x64x3.Idx} {p : ℝ} (h0 : 48 ≤ p) (h1 : p ≤ 207) (h : val_main_v433 (F := Ideal) x0 x1 x2 x3 x4 x5 j = (p : EReal)) :
    val_main_v464 (F := Ideal) x0 x1 x2 x3 x4 x5 j = ((gHi p : ℝ) : EReal) := by
  have e : val_main_v464 (F := Ideal) x0 x1 x2 x3 x4 x5 j = (Ideal.ofBits .f32 0x3F800000#32 : EReal)
      - ((FloatOps.sitofp (F := Ideal) .f32 (val_main_v448 (F := Ideal) x0 x1 x2 x3 x4 x5 j) : EReal) - val_main_v433 (F := Ideal) x0 x1 x2 x3 x4 x5 j) := rfl
  rw [e, wordB, h, word_hi h0 h1, Ideal.ofBits_one_f32, hi_weight h1]

theorem weightL {j : S2x64x64x64x3.Idx} {q : ℝ} (h0 : 48 ≤ q) (h1 : q ≤ 207) (h : val_main_v440 (F := Ideal) x0 x1 x2 x3 x4 x5 j = (q : EReal)) :
    val_main_v468 (F := Ideal) x0 x1 x2 x3 x4 x5 j = ((gLo q : ℝ) : EReal) := by
  have e : val_main_v468 (F := Ideal) x0 x1 x2 x3 x4 x5 j = (Ideal.ofBits .f32 0x3F800000#32 : EReal)
      + ((FloatOps.sitofp (F := Ideal) .f32 (val_main_v451 (F := Ideal) x0 x1 x2 x3 x4 x5 j) : EReal) - val_main_v440 (F := Ideal) x0 x1 x2 x3 x4 x5 j) := rfl
  rw [e, wordL, h, word_lo h0 h1, Ideal.ofBits_one_f32, lo_weight h1]

theorem weightR {j : S2x64x64x64x3.Idx} {q : ℝ} (h0 : 48 ≤ q) (h1 : q ≤ 207) (h : val_main_v440 (F := Ideal) x0 x1 x2 x3 x4 x5 j = (q : EReal)) :
    val_main_v472 (F := Ideal) x0 x1 x2 x3 x4 x5 j = ((gHi q : ℝ) : EReal) := by
  have e : val_main_v472 (F := Ideal) x0 x1 x2 x3 x4 x5 j = (Ideal.ofBits .f32 0x3F800000#32 : EReal)
      - ((FloatOps.sitofp (F := Ideal) .f32 (val_main_v456 (F := Ideal) x0 x1 x2 x3 x4 x5 j) : EReal) - val_main_v440 (F := Ideal) x0 x1 x2 x3 x4 x5 j) := rfl
  rw [e, wordR, h, word_hi h0 h1, Ideal.ofBits_one_f32, hi_weight h1]

/-- The word of a place of the padded image, from its row word and its column word. -/
def flatW (a b : IVec S2x64x64x64x3 32) : IVec S2x64x64x64x3 32 :=
  addi (muli a (broadcastInDim S2x64x64x64x3 ![] bcast_S_S2x64x64x64x3 (constantI S_ 32 258#32))) b

theorem flatW_at {a b : IVec S2x64x64x64x3 32} {j : S2x64x64x64x3.Idx} {r k : ℕ} (ha : a j = BitVec.ofNat 32 r) (hb : b j = BitVec.ofNat 32 k) :
    flatW a b j = BitVec.ofNat 32 (r * 258 + k) := by
  have e : flatW a b j = a j * 258#32 + b j := rfl
  rw [e, ha, hb, BitVec.ofNat_add, BitVec.ofNat_mul]

/-- One corner: the two weights' product times the image at the corner. -/
def corner (Y : FVec Ideal S2x8x258x258 .f32) (g k : FVec Ideal S2x64x64x64x3 .f32) (a b : IVec S2x64x64x64x3 32) : FVec Ideal S2x8x64x64x64x3 .f32 :=
  mulf (broadcastInDim S2x8x64x64x64x3 ![0, 1, 2, 3, 4, 5] bcast_S2x1x64x64x64x3_S2x8x64x64x64x3_0_1_2_3_4_5
      (broadcastInDim S2x1x64x64x64x3 ![0, 2, 3, 4, 5] bcast_S2x64x64x64x3_S2x1x64x64x64x3_0_2_3_4_5 (mulf g k)))
    (shapeCast S2x8x64x64x64x3 (look Y (flatW a b)) shapeCasts_S2x8x786432_S2x8x64x64x64x3)

theorem corner_at {Y : FVec Ideal S2x8x258x258 .f32} {g k : FVec Ideal S2x64x64x64x3 .f32} {a b : IVec S2x64x64x64x3 32} {n : Fin 2} {c : Fin 8} {d h e : Fin 64} {i : Fin 3}
    {u v : ℝ} {r s : ℕ} (hg : g (ix5 n d h e i) = (u : EReal)) (hk : k (ix5 n d h e i) = (v : EReal)) (ha : a (ix5 n d h e i) = BitVec.ofNat 32 r) (hb : b (ix5 n d h e i) = BitVec.ofNat 32 s)
    (hr : r < 258) (hs : s < 258) : corner Y g k a b (ix6 n c d h e i) = ((u : EReal) * (v : EReal)) * Cert.SampleIdeal.Hand.img Y n c r s := by
  have e1 : corner Y g k a b (ix6 n c d h e i)
      = (g (ix5 n d h e i) * k (ix5 n d h e i)) * shapeCast S2x8x64x64x64x3 (look Y (flatW a b)) shapeCasts_S2x8x786432_S2x8x64x64x64x3 (ix6 n c d h e i) := by
    unfold corner
    generalize shapeCast S2x8x64x64x64x3 (look Y (flatW a b)) shapeCasts_S2x8x786432_S2x8x64x64x64x3 = z
    pointwise
  rw [e1, hg, hk, look_at Y _ n c d h e i r s hr hs (flatW_at ha hb)]
  unfold Cert.SampleIdeal.Hand.img
  rw [dif_pos ⟨hr, hs⟩]

theorem image_eq : val_main_v84 (F := Ideal) x1 = Cert.SampleIdeal.Hand.padded x1 := rfl

/-- The four corners' sum at a real position of the window. -/
theorem corners_at {n : Fin 2} (c : Fin 8) {d h e : Fin 64} {i : Fin 3} {p q : ℝ} (hp0 : 48 ≤ p) (hp1 : p ≤ 207) (hq0 : 48 ≤ q) (hq1 : q ≤ 207)
    (hp : val_main_v433 (F := Ideal) x0 x1 x2 x3 x4 x5 (ix5 n d h e i) = (p : EReal)) (hq : val_main_v440 (F := Ideal) x0 x1 x2 x3 x4 x5 (ix5 n d h e i) = (q : EReal)) :
    val_main_v519 (F := Ideal) x0 x1 x2 x3 x4 x5 (ix6 n c d h e i) = corners p q (Cert.SampleIdeal.Hand.img (Cert.SampleIdeal.Hand.padded x1) n c) := by
  have hT := (wordT x0 x1 x2 x3 x4 x5 (ix5 n d h e i)).trans ((congrArg (fun z => Ideal.fptosi 32 (clip (Ideal.liftRound Int.floor z))) hp).trans (word_lo hp0 hp1))
  have hB := (wordB x0 x1 x2 x3 x4 x5 (ix5 n d h e i)).trans ((congrArg (fun z => Ideal.fptosi 32 (clip (Ideal.liftRound Int.floor z + 1))) hp).trans (word_hi hp0 hp1))
  have hL := (wordL x0 x1 x2 x3 x4 x5 (ix5 n d h e i)).trans ((congrArg (fun z => Ideal.fptosi 32 (clip (Ideal.liftRound Int.floor z))) hq).trans (word_lo hq0 hq1))
  have hR := (wordR x0 x1 x2 x3 x4 x5 (ix5 n d h e i)).trans ((congrArg (fun z => Ideal.fptosi 32 (clip (Ideal.liftRound Int.floor z + 1))) hq).trans (word_hi hq0 hq1))
  have gT := weightT x0 x1 x2 x3 x4 x5 hp0 hp1 hp
  have gB := weightB x0 x1 x2 x3 x4 x5 hp0 hp1 hp
  have gL := weightL x0 x1 x2 x3 x4 x5 hq0 hq1 hq
  have gR := weightR x0 x1 x2 x3 x4 x5 hq0 hq1 hq
  have bp := floor_le207 hp1
  have bq := floor_le207 hq1
  have e : val_main_v519 (F := Ideal) x0 x1 x2 x3 x4 x5 (ix6 n c d h e i)
      = ((corner (val_main_v84 (F := Ideal) x1) (val_main_v460 (F := Ideal) x0 x1 x2 x3 x4 x5) (val_main_v468 (F := Ideal) x0 x1 x2 x3 x4 x5) (val_main_v443 (F := Ideal) x0 x1 x2 x3 x4 x5) (val_main_v451 (F := Ideal) x0 x1 x2 x3 x4 x5) (ix6 n c d h e i)
        + corner (val_main_v84 (F := Ideal) x1) (val_main_v464 (F := Ideal) x0 x1 x2 x3 x4 x5) (val_main_v472 (F := Ideal) x0 x1 x2 x3 x4 x5) (val_main_v448 (F := Ideal) x0 x1 x2 x3 x4 x5) (val_main_v456 (F := Ideal) x0 x1 x2 x3 x4 x5) (ix6 n c d h e i))
        + corner (val_main_v84 (F := Ideal) x1) (val_main_v460 (F := Ideal) x0 x1 x2 x3 x4 x5) (val_main_v472 (F := Ideal) x0 x1 x2 x3 x4 x5) (val_main_v443 (F := Ideal) x0 x1 x2 x3 x4 x5) (val_main_v456 (F := Ideal) x0 x1 x2 x3 x4 x5) (ix6 n c d h e i))
        + corner (val_main_v84 (F := Ideal) x1) (val_main_v464 (F := Ideal) x0 x1 x2 x3 x4 x5) (val_main_v468 (F := Ideal) x0 x1 x2 x3 x4 x5) (val_main_v448 (F := Ideal) x0 x1 x2 x3 x4 x5) (val_main_v451 (F := Ideal) x0 x1 x2 x3 x4 x5) (ix6 n c d h e i) := by
    rw [val_main_v519_apply, val_main_v507_apply, val_main_v495_apply]
    rfl
  rw [e, corner_at gT gL hT hL (by omega) (by omega), corner_at gB gR hB hR (by omega) (by omega), corner_at gT gR hT hR (by omega) (by omega),
    corner_at gB gL hB hL (by omega) (by omega), image_eq]
  rfl

end Cert.SampleReferenceIdeal.Hand

end
-- ==== Proof.Sample.Ref.Value.lean ====
module

public import proofs.«01_k».proof.Proof.Sample.Ref.Words

/-! The reference's two results in closed form. -/

@[expose] public section

set_option maxRecDepth 16384

noncomputable section

namespace Cert.SampleReferenceIdeal.Hand

open Cert.SampleReferenceIdeal Cert.SampleReferenceIdeal.Gen Cert.SampleReferenceIdeal.Read
open Idealize.ShloMosaic Idealize.ShloMosaic.TcCoe
open Cert.Maths
open Cert.SampleIdeal.Hand (Inside sampled positions sampledArr positionsArr rowOf colOf)

variable (x0 : FVec Ideal S2x8x64x64x64 .f32) (x1 : FVec Ideal S2x8x256x256 .f32) (x2 x3 : FVec Ideal S64x64 .f32)
variable (x4 : FVec Ideal S6x16x3x3x3 .f32) (x5 : FVec Ideal S6 .f32) (x6 : FVec Ideal S3x16x3x3x3 .f32) (x7 : FVec Ideal S3 .f32)

theorem weight_at (hw : ∀ i, x6 i = (0 : EReal)) (n : Fin 2) (c : Fin 8) (d h e : Fin 64) (i : Fin 3) :
    val_main_v522 (F := Ideal) x0 x1 x2 x3 x6 x7 (ix6 n c d h e i) = mixW (fun j => x7 (ix1 j)) i := by
  rw [← mask_at x0 x1 x2 x3 x6 x7 hw n i d h e]
  pointwise [val_main_v522, val_main_v521, val_main_v520]

/-- The first result. -/
theorem sampled_eq {P Q : Fin 64 → Fin 64 → Fin 3 → ℝ} (H : Inside x5 x2 x3 x7 P Q) (h4 : ∀ i, x4 i = (0 : EReal)) (h6 : ∀ i, x6 i = (0 : EReal)) :
    val_main_v525 (F := Ideal) x0 x1 x2 x3 x4 x5 x6 x7 = sampledArr x1 x7 P Q := by
  funext z
  obtain ⟨n, d, c, h, e, rfl⟩ : ∃ (n : Fin 2) (d : Fin 64) (c : Fin 8) (h e : Fin 64), z = ix5 n d c h e :=
    ⟨z 0, z 1, z 2, z 3, z 4, funext fun a => match a with
      | ⟨0, _⟩ => rfl
      | ⟨1, _⟩ => rfl
      | ⟨2, _⟩ => rfl
      | ⟨3, _⟩ => rfl
      | ⟨4, _⟩ => rfl⟩
  have e1 : val_main_v525 (F := Ideal) x0 x1 x2 x3 x4 x5 x6 x7 (ix5 n d c h e) = ∑ i : Fin 3, val_main_v523 (F := Ideal) x0 x1 x2 x3 x4 x5 x6 x7 (ix6 n c d h e i) := by
    have e2 : val_main_v525 (F := Ideal) x0 x1 x2 x3 x4 x5 x6 x7 (ix5 n d c h e) = val_main_v524 (F := Ideal) x0 x1 x2 x3 x4 x5 x6 x7 (ix5 n c d h e) := by
      pointwise [val_main_v525]
    rw [e2, val_main_v524_apply]
    refine (congrArg (· + _) (Ideal.ofBits_zero_f32)).trans ((zero_add _).trans (Finset.sum_congr rfl fun i _ => congrArg _ (funext fun a => ?_)))
    match a with
    | ⟨0, _⟩ => rfl
    | ⟨1, _⟩ => rfl
    | ⟨2, _⟩ => rfl
    | ⟨3, _⟩ => rfl
    | ⟨4, _⟩ => rfl
    | ⟨5, _⟩ => rfl
  rw [e1]
  show _ = sampled x1 x7 P Q n d c h e
  unfold sampled
  refine Finset.sum_congr rfl fun i _ => ?_
  rw [val_main_v523_apply, weight_at x0 x1 x2 x3 x6 x7 h6, corners_at x0 x1 x2 x3 x4 x5 c (H.row_lo d h i) (H.row_hi d h i) (H.col_lo d e i) (H.col_hi d e i)
    ((row_at x0 x1 x2 x3 x4 x5 h4 n d h e i).trans (H.clip_row d h i)) ((col_at x0 x1 x2 x3 x4 x5 h4 n d h e i).trans (H.clip_col d e i))]
  rfl

theorem join_lo (u v : FVec Ideal S2x64x64x64x3 .f32) (n : Fin 2) (d h e : Fin 64) (i : Fin 3) :
    transpose S2x64x6x64x64 [0, 1, 4, 2, 3] (concatenate S2x64x64x64x6 4 [⟨S2x64x64x64x3, u⟩, ⟨S2x64x64x64x3, v⟩] concatenates_S2x64x64x64x3_S2x64x64x64x3_S2x64x64x64x6_d4)
      transposes_S2x64x64x64x6_S2x64x6x64x64_0_1_4_2_3 (ix5 n d ⟨i.val, by omega⟩ h e) = u (ix5 n d h e i) := by
  pointwise

theorem join_hi (u v : FVec Ideal S2x64x64x64x3 .f32) (n : Fin 2) (d h e : Fin 64) (i : Fin 3) :
    transpose S2x64x6x64x64 [0, 1, 4, 2, 3] (concatenate S2x64x64x64x6 4 [⟨S2x64x64x64x3, u⟩, ⟨S2x64x64x64x3, v⟩] concatenates_S2x64x64x64x3_S2x64x64x64x3_S2x64x64x64x6_d4)
      transposes_S2x64x64x64x6_S2x64x6x64x64_0_1_4_2_3 (ix5 n d ⟨3 + i.val, by omega⟩ h e) = v (ix5 n d h e i) := by
  pointwise

/-- The second result. -/
theorem positions_eq (h4 : ∀ i, x4 i = (0 : EReal)) : val_main_v527 (F := Ideal) x0 x1 x2 x3 x4 x5 = positionsArr x5 x2 x3 := by
  funext z
  obtain ⟨n, d, j, h, e, rfl⟩ : ∃ (n : Fin 2) (d : Fin 64) (j : Fin 6) (h e : Fin 64), z = ix5 n d j h e :=
    ⟨z 0, z 1, z 2, z 3, z 4, funext fun a => match a with
      | ⟨0, _⟩ => rfl
      | ⟨1, _⟩ => rfl
      | ⟨2, _⟩ => rfl
      | ⟨3, _⟩ => rfl
      | ⟨4, _⟩ => rfl⟩
  show _ = positions x5 x2 x3 d j h e
  unfold positions val_main_v527 val_main_v526
  by_cases hj : j.val < 3
  · rw [dif_pos hj]
    exact (join_lo _ _ n d h e ⟨j.val, hj⟩).trans (row_at x0 x1 x2 x3 x4 x5 h4 n d h e _)
  · rw [dif_neg hj]
    have ej : j = ⟨3 + (⟨j.val - 3, by omega⟩ : Fin 3).val, by omega⟩ := Fin.ext (by show j.val = 3 + (j.val - 3); omega)
    refine Eq.trans ?_ ((join_hi (val_main_v433 (F := Ideal) x0 x1 x2 x3 x4 x5) _ n d h e ⟨j.val - 3, by omega⟩).trans (col_at x0 x1 x2 x3 x4 x5 h4 n d h e ⟨j.val - 3, by omega⟩))
    exact congrArg (fun a => transpose S2x64x6x64x64 [0, 1, 4, 2, 3] (concatenate S2x64x64x64x6 4 [⟨S2x64x64x64x3, val_main_v433 (F := Ideal) x0 x1 x2 x3 x4 x5⟩, ⟨S2x64x64x64x3, val_main_v440 (F := Ideal) x0 x1 x2 x3 x4 x5⟩] concatenates_S2x64x64x64x3_S2x64x64x64x3_S2x64x64x64x6_d4)
      transposes_S2x64x64x64x6_S2x64x6x64x64_0_1_4_2_3 (ix5 n d a h e)) ej

/-- Both results, from arguments equal to some that lie inside the window. -/
theorem results_of {y0 : FVec Ideal S2x8x64x64x64 .f32} {y1 : FVec Ideal S2x8x256x256 .f32} {y2 y3 : FVec Ideal S64x64 .f32} {y4 : FVec Ideal S6x16x3x3x3 .f32} {y5 : FVec Ideal S6 .f32}
    {y6 : FVec Ideal S3x16x3x3x3 .f32} {y7 : FVec Ideal S3 .f32} {P Q : Fin 64 → Fin 64 → Fin 3 → ℝ}
    (h : x0 = y0 ∧ x1 = y1 ∧ x2 = y2 ∧ x3 = y3 ∧ x4 = y4 ∧ x5 = y5 ∧ x6 = y6 ∧ x7 = y7)
    (H : Inside y5 y2 y3 y7 P Q) (h4 : ∀ i, y4 i = (0 : EReal)) (h6 : ∀ i, y6 i = (0 : EReal)) :
    val_main_v525 (F := Ideal) x0 x1 x2 x3 x4 x5 x6 x7 = sampledArr y1 y7 P Q ∧ val_main_v527 (F := Ideal) x0 x1 x2 x3 x4 x5 = positionsArr y5 y2 y3 := by
  obtain ⟨rfl, rfl, rfl, rfl, rfl, rfl, rfl, rfl⟩ := h
  exact ⟨sampled_eq x0 x1 x2 x3 x4 x5 x6 x7 H h4 h6, positions_eq x0 x1 x2 x3 x4 x5 h4⟩

end Cert.SampleReferenceIdeal.Hand

end
-- ==== Proof.Sample.Ref.Run.lean ====
module

public import proofs.«01_k».proof.Proof.Gen.SampleReferenceIdeal.Run
public import proofs.«01_k».proof.Proof.Sample.Ref.Value
public import Idealize.ShloMosaic.Lib.Claim
public import Idealize.ShloMosaic.Init

/-! The second reference program's run: it has host operations only and declares no semaphore. -/

@[expose] public section

noncomputable section

namespace Cert.SampleReferenceIdeal.Hand

open Cert.SampleReferenceIdeal Idealize.ShloMosaic Idealize.ShloMosaic.TcCoe Idealize.SL.Sem

/-- The reference terminates, leaves its arguments as they were, and every semaphore counter reads zero. -/
theorem frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0 :=
  θ_run_mono (Cert.SampleReferenceIdeal.Value.run m ρ) fun r hr => ⟨fun c => (hr c).2.2, sem_eq_zero_of_no_sems (by decide) r.2⟩

/-- The reference's run: both results as functions of the arguments, the arguments unchanged. -/
theorem result (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v525)
          = Cert.SampleReferenceIdeal.Read.val_main_v525 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v527)
          = Cert.SampleReferenceIdeal.Read.val_main_v527 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  θ_run_mono (Cert.SampleReferenceIdeal.Value.run (F := Ideal) m ρ) fun r h c =>
    ⟨(h c).1.trans (Cert.SampleReferenceIdeal.Read.val_main_v525_eq (StableHlo.launchContents m c)),
      (h c).2.1.trans (Cert.SampleReferenceIdeal.Read.val_main_v527_eq (StableHlo.launchContents m c)), (h c).2.2⟩

end Cert.SampleReferenceIdeal.Hand

end
-- ==== Proof.Ideal.Regions.lean ====
module

public import proofs.«01_k».proof.Proof.Ideal.Bodies
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The two pipelines: their windows, their proof data and their body obligations, at any contents of the buffers on entry. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The algebra of the runs. -/
local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_k2` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of pipeline 0 on core `c`: the arrays as the region finds them (`V`); after the body at
    point `t` each input's buffer at its block and each output's at `out0_W` of the input blocks; the invariant the
    class's; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_k3` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's memrefs and scratch -/

/-- Each window's current staging buffer at point `t`. -/
abbrev ms1_0 (t : Fin cfg1.N) : Memref sig .tc .vmem S1x64x8x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2x8x2 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S72x24 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x64x8x4096 .f32 := win1_6.stage (cfg1.slots t 6)
abbrev hs1_6 (t : Fin cfg1.N) : (ms1_6 t).IsWhole := hstage1_6 ((cfg1.slots t 6).cast nbuf1_6)
/-- The scratch operands: whole scoped buffers of the kernel's own, passed beside the windows. -/
abbrev scM1_0 : Memref sig .tc .vmem S64x8x4096 .f32 := Memref.whole cc1_scratch0

/-- The generated set-up's invariant with the scratch operands as memrefs owned at some contents (`scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d)) ∗ (∃ r, prngReg c r)) := by
  unfold Pipeline.ΦA; rw [scopedRest1_eq]; simp only [scM1_0, owns_whole]; try rfl

/-- What the output's buffer holds after the body at point `t`. -/
def outsAt1 (c : Dev nD) (t : Fin cfg1.N) : Vec F S1x64x8x4096 .f32 :=
  out1_6 (iblk1 V c 0 t) (iblk1 V c 1 t) (iblk1 V c 2 t) (iblk1 V c 3 t) (iblk1 V c 4 t) (iblk1 V c 5 t)

/-! ## The pipeline's proof data -/

/-- The proof data of pipeline 1 on core `c`: the arrays as the region finds them (`V`); after the body at
    point `t` each input's buffer at its block and the outputs' at `outsAt1`; the invariant the plain one; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 800000 in
/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  rw [show (dat1 V c).Φ t.castSucc = Pipeline.ΦA spec1 c from rfl, PhiA1_eq]
  unfold outsAt1
  iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  iintro ⟨H0, H1, H2, H3, H4, H5, H6, HS0⟩
  isplitl [HR0 HR1 HR2 HR3 HR4 HR5 HR6 HR7 HR8 HS0 Hg]
  · isplitl [HR0 HR1 HR2 HR3 HR4 HR5 HR6 HR7 HR8 HS0]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions
end Cert.KernelIdeal.Hand

end
-- ==== Proof.Ideal.Run.lean ====
module

public import proofs.«01_k».proof.Proof.Ideal.Regions
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The whole run: the segments from the launch to the return, and what the buffers hold at each boundary. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The algebra of the runs. -/
local notation "𝕄" => MT nD τ sig Unit (Elt F) ℕ (UR sig nD τ) ℕ

variable (m : (ℓ : Loc nD τ sig) → Buf (Elt F) ℓ) (ρ : Dev nD → PrngReg)

/-! # THE RUN: @main's segments from the launch to the return -/

/-- @main's argument arrays, as TensorCore references: what the frame claim reads back. -/
abbrev argRefs : List (Ref sig .tc) := [main_arg0, main_arg1, main_arg2, main_arg3, main_arg4, main_arg5, main_arg6, main_arg7]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v8, main_v9, main_v10]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v12, main_v13]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)
theorem W5_main_arg7 (c : Dev nD) : W5 m ρ c (Proc.devRef .tc main_arg7) = m ((c : Thread nD τ).loc main_arg7) :=
  W5_args m ρ c main_arg7 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the generated set-up's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the generated set-up's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide
-- the implicit arguments of the launch theorem are found by unifying its conclusion with this one, which takes unfolding
-- plain definitions in a metavariable's type
set_option backward.isDefEq.respectTransparency.types false in
/-- THE RUN: from any memory with zero counters the program terminates with nothing faulting; the argument arrays end as
    launched, every semaphore counter at zero, and the result array at the last boundary's contents. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ (r.2.sem = fun _ => 0)
      ∧ ∀ c : Dev nD, r.2.mem ((c.tc : Thread nD τ).loc main_v13) = W5 m ρ c (Proc.devRef .tc main_v13)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩), funext fun g => hz g (.inr (no_unscoped g.2)),
       fun c => h c _ (mem_uc main_v13 (by decide))⟩)

end Cert.KernelIdeal.Hand

end
-- ==== Proof.RefRun.lean ====
module

public import proofs.«01_k».proof.Proof.Gen.ReferenceIdeal.Run
public import Idealize.ShloMosaic.Lib.Claim
public import Idealize.ShloMosaic.Init

/-! The reference program's run: it has host operations only and declares no semaphore. -/

@[expose] public section

noncomputable section

namespace Cert.ReferenceIdeal.Hand

open Cert.ReferenceIdeal Idealize.ShloMosaic Idealize.ShloMosaic.TcCoe Idealize.SL.Sem

variable {F : FTy → Type} [FloatOps F]

/-- The reference terminates, leaves its arguments as they were, and every semaphore counter reads zero. -/
theorem frame (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0 :=
  θ_run_mono (Cert.ReferenceIdeal.Value.run m ρ) fun r hr => ⟨fun c => (hr c).2, sem_eq_zero_of_no_sems (by decide) r.2⟩

end Cert.ReferenceIdeal.Hand

end
-- ==== Proof.Ref.Taps.lean ====
module

public import proofs.«01_k».proof.Proof.Gen.ReferenceIdeal.Read
public import Idealize.ShloMosaic.Lib.Pointwise

/-! One tap of the reference's convolutions: the product of the weights at one shift with the padded input at that
shift, read at an index. -/

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe

theorem slW : ∀ kd kh kw : Fin 3, S8x16x3x3x3.Slices ![0, 0, kd.val, kh.val, kw.val] S8x16x1x1x1 := by decide
theorem slX : ∀ kd kh kw : Fin 3, S2x16x66x66x66.Slices ![0, 0, kd.val, kh.val, kw.val] S2x16x64x64x64 := by decide
theorem slW' : ∀ kd kh kw : Fin 3, S8x8x3x3x3.Slices ![0, 0, kd.val, kh.val, kw.val] S8x8x1x1x1 := by decide
theorem slX' : ∀ kd kh kw : Fin 3, S2x8x66x66x66.Slices ![0, 0, kd.val, kh.val, kw.val] S2x8x64x64x64 := by decide

/-- The tap of the first convolution at the shift `(kd, kh, kw)`. -/
def tapA (xp : FVec Ideal S2x16x66x66x66 .f32) (w : FVec Ideal S8x16x3x3x3 .f32) (kd kh kw : Fin 3) : FVec Ideal S2x8x64x64x64 .f32 :=
  transpose S2x8x64x64x64 [1, 0, 2, 3, 4]
    (Host.dotGeneral dot_S8x16_S2x16x64x64x64_S8x2x64x64x64_1_1_0_0234_n_n none
      (shapeCast S8x16 (extractStridedSlice S8x16x1x1x1 ![0, 0, kd.val, kh.val, kw.val] w (slW kd kh kw)) shapeCasts_S8x16x1x1x1_S8x16)
      (extractStridedSlice S2x16x64x64x64 ![0, 0, kd.val, kh.val, kw.val] xp (slX kd kh kw)) : FVec Ideal S8x2x64x64x64 .f32)
    transposes_S8x2x64x64x64_S2x8x64x64x64_1_0_2_3_4

/-- The tap of the second convolution at the shift `(kd, kh, kw)`. -/
def tapB (xp : FVec Ideal S2x8x66x66x66 .f32) (w : FVec Ideal S8x8x3x3x3 .f32) (kd kh kw : Fin 3) : FVec Ideal S2x8x64x64x64 .f32 :=
  transpose S2x8x64x64x64 [1, 0, 2, 3, 4]
    (Host.dotGeneral dot_S8x8_S2x8x64x64x64_S8x2x64x64x64_1_1_0_0234_n_n none
      (shapeCast S8x8 (extractStridedSlice S8x8x1x1x1 ![0, 0, kd.val, kh.val, kw.val] w (slW' kd kh kw)) shapeCasts_S8x8x1x1x1_S8x8)
      (extractStridedSlice S2x8x64x64x64 ![0, 0, kd.val, kh.val, kw.val] xp (slX' kd kh kw)) : FVec Ideal S8x2x64x64x64 .f32)
    transposes_S8x2x64x64x64_S2x8x64x64x64_1_0_2_3_4

theorem tapA_at (xp : FVec Ideal S2x16x66x66x66 .f32) (w : FVec Ideal S8x16x3x3x3 .f32) (kd kh kw : Fin 3) (n : Fin 2) (o : Fin 8) (d h e : Fin 64) :
    tapA xp w kd kh kw (ix5 n o d h e) = ∑ c : Fin 16, w (ix5 o c kd kh kw)
      * xp (ix5 n c (⟨kd.val + d.val, by omega⟩ : Fin 66) (⟨kh.val + h.val, by omega⟩ : Fin 66) (⟨kw.val + e.val, by omega⟩ : Fin 66)) := by
  pointwise [tapA]

theorem tapB_at (xp : FVec Ideal S2x8x66x66x66 .f32) (w : FVec Ideal S8x8x3x3x3 .f32) (kd kh kw : Fin 3) (n : Fin 2) (o : Fin 8) (d h e : Fin 64) :
    tapB xp w kd kh kw (ix5 n o d h e) = ∑ c : Fin 8, w (ix5 o c kd kh kw)
      * xp (ix5 n c (⟨kd.val + d.val, by omega⟩ : Fin 66) (⟨kh.val + h.val, by omega⟩ : Fin 66) (⟨kw.val + e.val, by omega⟩ : Fin 66)) := by
  pointwise [tapB]

end Cert.ReferenceIdeal.Hand

end
-- ==== Proof.Ref.Conv.lean ====
module

public import proofs.«01_k».proof.Proof.Ref.Taps
public import proofs.«01_k».proof.Proof.Ideal.Conv

/-! The reference's two convolutions in closed form. -/

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe
open Cert.KernelIdeal.Hand (img vol conv)

/-- The padded volume of 16 channels, read as the volume of each channel with its border. -/
theorem padA_at (x : FVec Ideal S2x16x64x64x64 .f32) (z : FVec Ideal S_ .f32) (hz : ∀ i, z i = (0 : EReal)) (n : Fin 2) (c : Fin 16) (a b e : Fin 66) :
    pad S2x16x66x66x66 ![0, 0, 1, 1, 1] ![0, 0, 1, 1, 1] ![0, 0, 0, 0, 0] x z pads_S2x16x64x64x64_S2x16x66x66x66_000_000_110_110_110 h_S_ (ix5 n c a b e)
      = vol (fun d p => x (ix5 n c d (⟨p.val / 64, by omega⟩ : Fin 64) (⟨p.val % 64, by omega⟩ : Fin 64))) a.val b.val e.val := by
  pointwise [vol, img, hz]
  by_cases ha : 1 ≤ a.val ∧ a.val ≤ 64
  · by_cases hb : (1 ≤ b.val ∧ b.val ≤ 64) ∧ (1 ≤ e.val ∧ e.val ≤ 64)
    · rw [dif_pos (by omega), dif_pos ha, dif_pos hb]
      exact congrArg₂ (fun u v => x (ix5 n c _ u v)) (Fin.ext (by show b.val - 1 = _; simp only []; omega)) (Fin.ext (by show e.val - 1 = _; simp only []; omega))
    · rw [dif_neg (by omega), dif_pos ha, dif_neg hb]
  · rw [dif_neg (by omega), dif_neg ha]

/-- The padded volume of 8 channels, the same way. -/
theorem padB_at (x : FVec Ideal S2x8x64x64x64 .f32) (z : FVec Ideal S_ .f32) (hz : ∀ i, z i = (0 : EReal)) (n : Fin 2) (c : Fin 8) (a b e : Fin 66) :
    pad S2x8x66x66x66 ![0, 0, 1, 1, 1] ![0, 0, 1, 1, 1] ![0, 0, 0, 0, 0] x z pads_S2x8x64x64x64_S2x8x66x66x66_000_000_110_110_110 h_S_ (ix5 n c a b e)
      = vol (fun d p => x (ix5 n c d (⟨p.val / 64, by omega⟩ : Fin 64) (⟨p.val % 64, by omega⟩ : Fin 64))) a.val b.val e.val := by
  pointwise [vol, img, hz]
  by_cases ha : 1 ≤ a.val ∧ a.val ≤ 64
  · by_cases hb : (1 ≤ b.val ∧ b.val ≤ 64) ∧ (1 ≤ e.val ∧ e.val ≤ 64)
    · rw [dif_pos (by omega), dif_pos ha, dif_pos hb]
      exact congrArg₂ (fun u v => x (ix5 n c _ u v)) (Fin.ext (by show b.val - 1 = _; simp only []; omega)) (Fin.ext (by show e.val - 1 = _; simp only []; omega))
    · rw [dif_neg (by omega), dif_pos ha, dif_neg hb]
  · rw [dif_neg (by omega), dif_neg ha]

/-- The sum over the 27 taps is the convolution, the plane's two shifts written as one number below 9. -/
theorem conv_of_taps {C : ℕ} (W : Fin C → Fin 3 → Fin 3 → Fin 3 → EReal) (X : Fin C → Fin 64 → Fin 4096 → EReal) (d h e : Fin 64) :
    (∑ kd : Fin 3, ∑ kh : Fin 3, ∑ kw : Fin 3, ∑ c : Fin C, W c kd kh kw * vol (X c) (kd.val + d.val) (kh.val + h.val) (kw.val + e.val))
      = conv (fun c kd j => W c kd (⟨j.val / 3, by omega⟩ : Fin 3) (⟨j.val % 3, by omega⟩ : Fin 3)) X d (⟨h.val * 64 + e.val, by omega⟩ : Fin 4096) := by
  unfold conv
  refine Finset.sum_congr rfl fun kd _ => ?_
  rw [Fin.sum_univ_tiles 3 3 rfl]
  refine Finset.sum_congr rfl fun kh _ => Finset.sum_congr rfl fun kw _ => Finset.sum_congr rfl fun c _ => ?_
  have e1 : kd.val + d.val = d.val + kd.val := by omega
  have e2 : kh.val + h.val = (h.val * 64 + e.val) / 64 + (kh.val * 3 + kw.val) / 3 := by omega
  have e3 : kw.val + e.val = (h.val * 64 + e.val) % 64 + (kh.val * 3 + kw.val) % 3 := by omega
  have e4 : kh = (⟨(kh.val * 3 + kw.val) / 3, by omega⟩ : Fin 3) := Fin.ext (by show kh.val = (kh.val * 3 + kw.val) / 3; omega)
  have e5 : kw = (⟨(kh.val * 3 + kw.val) % 3, by omega⟩ : Fin 3) := Fin.ext (by show kw.val = (kh.val * 3 + kw.val) % 3; omega)
  exact congrArg₂ (· * ·) (congrArg₂ (W c kd) e4 e5) (congr (congrArg₂ (vol (X c)) e1 e2) e3)

theorem sumA (x0 : FVec Ideal S2x8x64x64x64 .f32) (x1 : FVec Ideal S2x64x8x64x64 .f32) (x2 : FVec Ideal S8x16x3x3x3 .f32) (i : S2x8x64x64x64.Idx) :
    val_main_v163 (F := Ideal) x0 x1 x2 i = ∑ kd : Fin 3, ∑ kh : Fin 3, ∑ kw : Fin 3, tapA (val_main_v2 (F := Ideal) x0 x1) x2 kd kh kw i := by
  simp only [Fin.sum_univ_three, ← add_assoc]
  simp only [val_main_v163_apply, val_main_v157_apply, val_main_v151_apply, val_main_v145_apply, val_main_v139_apply, val_main_v133_apply, val_main_v127_apply, val_main_v121_apply, val_main_v115_apply, val_main_v109_apply, val_main_v103_apply, val_main_v97_apply, val_main_v91_apply, val_main_v85_apply, val_main_v79_apply, val_main_v73_apply, val_main_v67_apply, val_main_v61_apply, val_main_v55_apply, val_main_v49_apply, val_main_v43_apply, val_main_v37_apply, val_main_v31_apply, val_main_v25_apply, val_main_v19_apply, val_main_v13_apply]
  rfl

theorem sumB (x0 : FVec Ideal S2x8x64x64x64 .f32) (x1 : FVec Ideal S2x64x8x64x64 .f32) (x2 : FVec Ideal S8x16x3x3x3 .f32) (x3 : FVec Ideal S8 .f32)
    (x4 : FVec Ideal S8x8x3x3x3 .f32) (x6 x7 : FVec Ideal S8 .f32) (i : S2x8x64x64x64.Idx) :
    val_main_v351 (F := Ideal) x0 x1 x2 x3 x4 x6 x7 i
      = ∑ kd : Fin 3, ∑ kh : Fin 3, ∑ kw : Fin 3, tapB (val_main_v190 (F := Ideal) x0 x1 x2 x3 x6 x7) x4 kd kh kw i := by
  simp only [Fin.sum_univ_three, ← add_assoc]
  simp only [val_main_v351_apply, val_main_v345_apply, val_main_v339_apply, val_main_v333_apply, val_main_v327_apply, val_main_v321_apply, val_main_v315_apply, val_main_v309_apply, val_main_v303_apply, val_main_v297_apply, val_main_v291_apply, val_main_v285_apply, val_main_v279_apply, val_main_v273_apply, val_main_v267_apply, val_main_v261_apply, val_main_v255_apply, val_main_v249_apply, val_main_v243_apply, val_main_v237_apply, val_main_v231_apply, val_main_v225_apply, val_main_v219_apply, val_main_v213_apply, val_main_v207_apply, val_main_v201_apply]
  rfl

/-- The integer zero as a float. -/
theorem sitofp_zero : (FloatOps.sitofp (F := Ideal) .f32 (0#32) : EReal) = 0 := by
  show (((0#32 : BitVec 32).toInt : ℝ) : EReal) = 0
  simp

/-- The value that fills the border is zero. -/
theorem fill0 (i : S_.Idx) : val_main_call0_v0 (F := Ideal) i = (0 : EReal) := by
  pointwise [val_main_call0_v0, val_main_c]
  exact sitofp_zero

theorem fill3 (i : S_.Idx) : val_main_call3_v0 (F := Ideal) i = (0 : EReal) := by
  pointwise [val_main_call3_v0, val_main_c_5]
  exact sitofp_zero

/-- The reference's first convolution, before the bias. -/
theorem convA_at (x0 : FVec Ideal S2x8x64x64x64 .f32) (x1 : FVec Ideal S2x64x8x64x64 .f32) (x2 : FVec Ideal S8x16x3x3x3 .f32) (n : Fin 2) (o : Fin 8) (d h e : Fin 64) :
    val_main_v163 (F := Ideal) x0 x1 x2 (ix5 n o d h e)
      = conv (fun c kd j => x2 (ix5 o c kd (⟨j.val / 3, by omega⟩ : Fin 3) (⟨j.val % 3, by omega⟩ : Fin 3)))
          (fun c d p => val_main_v1 (F := Ideal) x0 x1 (ix5 n c d (⟨p.val / 64, by omega⟩ : Fin 64) (⟨p.val % 64, by omega⟩ : Fin 64)))
          d (⟨h.val * 64 + e.val, by omega⟩ : Fin 4096) := by
  rw [sumA, ← conv_of_taps (fun c kd kh kw => x2 (ix5 o c kd kh kw))]
  refine Finset.sum_congr rfl fun kd _ => Finset.sum_congr rfl fun kh _ => Finset.sum_congr rfl fun kw _ => ?_
  rw [tapA_at]
  exact Finset.sum_congr rfl fun c _ => congrArg (x2 (ix5 o c kd kh kw) * ·) (padA_at _ _ fill0 n c _ _ _)

/-- The reference's second convolution, before the bias. -/
theorem convB_at (x0 : FVec Ideal S2x8x64x64x64 .f32) (x1 : FVec Ideal S2x64x8x64x64 .f32) (x2 : FVec Ideal S8x16x3x3x3 .f32) (x3 : FVec Ideal S8 .f32)
    (x4 : FVec Ideal S8x8x3x3x3 .f32) (x6 x7 : FVec Ideal S8 .f32) (n : Fin 2) (o : Fin 8) (d h e : Fin 64) :
    val_main_v351 (F := Ideal) x0 x1 x2 x3 x4 x6 x7 (ix5 n o d h e)
      = conv (fun c kd j => x4 (ix5 o c kd (⟨j.val / 3, by omega⟩ : Fin 3) (⟨j.val % 3, by omega⟩ : Fin 3)))
          (fun c d p => val_main_v189 (F := Ideal) x0 x1 x2 x3 x6 x7 (ix5 n c d (⟨p.val / 64, by omega⟩ : Fin 64) (⟨p.val % 64, by omega⟩ : Fin 64)))
          d (⟨h.val * 64 + e.val, by omega⟩ : Fin 4096) := by
  rw [sumB, ← conv_of_taps (fun c kd kh kw => x4 (ix5 o c kd kh kw))]
  refine Finset.sum_congr rfl fun kd _ => Finset.sum_congr rfl fun kh _ => Finset.sum_congr rfl fun kw _ => ?_
  rw [tapB_at]
  exact Finset.sum_congr rfl fun c _ => congrArg (x4 (ix5 o c kd kh kw) * ·) (padB_at _ _ fill3 n c _ _ _)

end Cert.ReferenceIdeal.Hand

end
-- ==== Proof.Ideal.Arrays.lean ====
module

public import proofs.«01_k».proof.Proof.Ideal.Norm
public import proofs.«01_k».proof.Proof.Ideal.Run
public import Idealize.ShloMosaic.Lib.Pipeline.ValueKit
public import Idealize.ShloMosaic.Lib.Claim

/-! What the arrays hold after each kernel call, from the launch's arguments. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)

/-- Equal weights and equal inputs give equal convolutions. -/
theorem conv_congr {C : ℕ} {W W' : Fin C → Fin 3 → Fin 9 → EReal} {X X' : Fin C → Fin 64 → Fin 4096 → EReal}
    (hW : ∀ c kd j, W c kd j = W' c kd j) (hX : ∀ c d p, X c d p = X' c d p) (d : Fin 64) (p : Fin 4096) : conv W X d p = conv W' X' d p := by
  obtain rfl : W = W' := funext fun c => funext fun kd => funext fun j => hW c kd j
  obtain rfl : X = X' := funext fun c => funext fun d => funext fun p => hX c d p
  rfl

/-- The two inputs as one volume of 16 channels, the plane flat. -/
def volIn (A0 : FVec Ideal S2x8x64x64x64 .f32) (A1 : FVec Ideal S2x64x8x64x64 .f32) (n : Fin 2) (c : Fin 16) (d : Fin 64) (p : Fin 4096) : EReal :=
  if h : c.val < 8 then A0 (ix5 (n0 := 2) (n1 := 8) (n2 := 64) (n3 := 64) (n4 := 64) n ⟨c.val, h⟩ d ⟨p.val / 64, by omega⟩ ⟨p.val % 64, by omega⟩)
  else A1 (ix5 (n0 := 2) (n1 := 64) (n2 := 8) (n3 := 64) (n4 := 64) n d ⟨c.val - 8, by omega⟩ ⟨p.val / 64, by omega⟩ ⟨p.val % 64, by omega⟩)

/-- The first convolution's weights for the output channel `o`. -/
def wA (A2 : FVec Ideal S8x16x3x3x3 .f32) (o : Fin 8) (c : Fin 16) (kd : Fin 3) (j : Fin 9) : EReal :=
  A2 (ix5 (n0 := 8) (n1 := 16) (n2 := 3) (n3 := 3) (n4 := 3) o c kd ⟨j.val / 3, by omega⟩ ⟨j.val % 3, by omega⟩)

/-- The second convolution's weights for the output channel `o`. -/
def wB (A4 : FVec Ideal S8x8x3x3x3 .f32) (o : Fin 8) (c : Fin 8) (kd : Fin 3) (j : Fin 9) : EReal :=
  A4 (ix5 (n0 := 8) (n1 := 8) (n2 := 3) (n3 := 3) (n4 := 3) o c kd ⟨j.val / 3, by omega⟩ ⟨j.val % 3, by omega⟩)

/-- The features: the first convolution, without its bias. -/
def feat (A0 : FVec Ideal S2x8x64x64x64 .f32) (A1 : FVec Ideal S2x64x8x64x64 .f32) (A2 : FVec Ideal S8x16x3x3x3 .f32) (n : Fin 2) (o : Fin 8) (d : Fin 64) (p : Fin 4096) : EReal :=
  conv (wA A2 o) (volIn A0 A1 n) d p

theorem idx0 : ∀ t : Fin cfg0.N, win0_0.index t = ![t.val, 0, 0, 0] ∧ win0_1.index t = ![t.val, 0, 0, 0] ∧ win0_2.index t = ![0, 0]
    ∧ win0_3.index t = ![t.val, 0, 0, 0] ∧ win0_4.index t = ![t.val, 0, 0] ∧ t.val < 2 :=
  (by decide +kernel : ∀ t : Fin grid0.N, _)

variable (m : (ℓ : Loc nD τ sig) → Buf (Elt Ideal) ℓ) (ρ : Dev nD → PrngReg)

theorem V1_v0 (c : Dev nD) : (V1 m ρ c main_v0 : FVec Ideal S2x64x8x4096 .f32)
    = shapeCast S2x64x8x4096 (m ((c : Thread nD τ).loc main_arg1) : FVec Ideal S2x64x8x64x64 .f32) shapeCasts_S2x64x8x64x64_S2x64x8x4096 := by
  show StableHlo.after hostOps0 (W0 m ρ c) (Proc.devRef .tc main_v0) = _
  entry_read
  rfl

theorem V1_v2 (c : Dev nD) : (V1 m ρ c main_v2 : FVec Ideal S2x64x8x4096 .f32)
    = shapeCast S2x64x8x4096 (transpose S2x64x8x64x64 [0, 2, 1, 3, 4] (m ((c : Thread nD τ).loc main_arg0) : FVec Ideal S2x8x64x64x64 .f32)
        transposes_S2x8x64x64x64_S2x64x8x64x64_0_2_1_3_4) shapeCasts_S2x64x8x64x64_S2x64x8x4096 := by
  show StableHlo.after hostOps0 (W0 m ρ c) (Proc.devRef .tc main_v2) = _
  entry_read
  rfl

theorem V1_v4 (c : Dev nD) : (V1 m ρ c main_v4 : FVec Ideal S144x24 .f32)
    = shapeCast S144x24 (transpose S3x3x16x3x8 [3, 4, 1, 2, 0] (m ((c : Thread nD τ).loc main_arg2) : FVec Ideal S8x16x3x3x3 .f32)
        transposes_S8x16x3x3x3_S3x3x16x3x8_3_4_1_2_0) shapeCasts_S3x3x16x3x8_S144x24 := by
  show StableHlo.after hostOps0 (W0 m ρ c) (Proc.devRef .tc main_v4) = _
  entry_read
  rfl

theorem V1_v6 (c : Dev nD) : (V1 m ρ c main_v6 : FVec Ideal S72x24 .f32)
    = shapeCast S72x24 (transpose S3x3x8x3x8 [3, 4, 1, 2, 0] (m ((c : Thread nD τ).loc main_arg4) : FVec Ideal S8x8x3x3x3 .f32)
        transposes_S8x8x3x3x3_S3x3x8x3x8_3_4_1_2_0) shapeCasts_S3x3x8x3x8_S72x24 := by
  show StableHlo.after hostOps0 (W0 m ρ c) (Proc.devRef .tc main_v6) = _
  entry_read
  rfl

theorem xo_at (A1 : FVec Ideal S2x64x8x64x64 .f32) (n : Fin 2) (d : Fin 64) (k : Fin 8) (p : Fin 4096) :
    shapeCast S2x64x8x4096 A1 shapeCasts_S2x64x8x64x64_S2x64x8x4096 (ix4 (n0 := 2) (n1 := 64) (n2 := 8) (n3 := 4096) n d k p)
      = A1 (ix5 (n0 := 2) (n1 := 64) (n2 := 8) (n3 := 64) (n4 := 64) n d k ⟨p.val / 64, by omega⟩ ⟨p.val % 64, by omega⟩) := by
  pointwise

theorem ct_at (A0 : FVec Ideal S2x8x64x64x64 .f32) (n : Fin 2) (d : Fin 64) (k : Fin 8) (p : Fin 4096) :
    shapeCast S2x64x8x4096 (transpose S2x64x8x64x64 [0, 2, 1, 3, 4] A0 transposes_S2x8x64x64x64_S2x64x8x64x64_0_2_1_3_4) shapeCasts_S2x64x8x64x64_S2x64x8x4096
        (ix4 (n0 := 2) (n1 := 64) (n2 := 8) (n3 := 4096) n d k p)
      = A0 (ix5 (n0 := 2) (n1 := 8) (n2 := 64) (n3 := 64) (n4 := 64) n k d ⟨p.val / 64, by omega⟩ ⟨p.val % 64, by omega⟩) := by
  pointwise

theorem wA_at (A2 : FVec Ideal S8x16x3x3x3 .f32) (o : Fin 8) (c : Fin 16) (kd : Fin 3) (j : Fin 9) :
    shapeCast S144x24 (transpose S3x3x16x3x8 [3, 4, 1, 2, 0] A2 transposes_S8x16x3x3x3_S3x3x16x3x8_3_4_1_2_0) shapeCasts_S3x3x16x3x8_S144x24
        (ix2 (n0 := 144) (n1 := 24) ⟨j.val * 16 + c.val, by omega⟩ ⟨8 * kd.val + o.val, by omega⟩) = wA A2 o c kd j := by
  unfold wA
  pointwise
  exact congrArg₂ (fun u v => A2 (ix5 (n0 := 8) (n1 := 16) (n2 := 3) (n3 := 3) (n4 := 3) o c kd u v))
    (Fin.ext (by show (j.val * 16 + c.val) / 48 = j.val / 3; omega)) (Fin.ext (by show (j.val * 16 + c.val) / 16 % 3 = j.val % 3; omega))

theorem wB_at (A4 : FVec Ideal S8x8x3x3x3 .f32) (o : Fin 8) (c : Fin 8) (kd : Fin 3) (j : Fin 9) :
    shapeCast S72x24 (transpose S3x3x8x3x8 [3, 4, 1, 2, 0] A4 transposes_S8x8x3x3x3_S3x3x8x3x8_3_4_1_2_0) shapeCasts_S3x3x8x3x8_S72x24
        (ix2 (n0 := 72) (n1 := 24) ⟨j.val * 8 + c.val, by omega⟩ ⟨8 * kd.val + o.val, by omega⟩) = wB A4 o c kd j := by
  unfold wB
  pointwise
  exact congrArg₂ (fun u v => A4 (ix5 (n0 := 8) (n1 := 8) (n2 := 3) (n3 := 3) (n4 := 3) o c kd u v))
    (Fin.ext (by show (j.val * 8 + c.val) / 24 = j.val / 3; omega)) (Fin.ext (by show (j.val * 8 + c.val) / 8 % 3 = j.val % 3; omega))

theorem blk0_0 (c : Dev nD) (t : Fin cfg0.N) (d : Fin 64) (k : Fin 8) (p : Fin 4096) :
    iblk0 (V1 m ρ) c 0 t (ix4 (n0 := 1) (n1 := 64) (n2 := 8) (n3 := 4096) 0 d k p)
      = V1 m ρ c main_v2 (ix4 (n0 := 2) (n1 := 64) (n2 := 8) (n3 := 4096) ⟨t.val, (idx0 t).2.2.2.2.2⟩ d k p) := by
  blk_ext [iblk0, idx0 t]

theorem blk0_1 (c : Dev nD) (t : Fin cfg0.N) (d : Fin 64) (k : Fin 8) (p : Fin 4096) :
    iblk0 (V1 m ρ) c 1 t (ix4 (n0 := 1) (n1 := 64) (n2 := 8) (n3 := 4096) 0 d k p)
      = V1 m ρ c main_v0 (ix4 (n0 := 2) (n1 := 64) (n2 := 8) (n3 := 4096) ⟨t.val, (idx0 t).2.2.2.2.2⟩ d k p) := by
  blk_ext [iblk0, idx0 t]

theorem blk0_2 (c : Dev nD) (t : Fin cfg0.N) (a : Fin 144) (b : Fin 24) :
    iblk0 (V1 m ρ) c 2 t (ix2 (n0 := 144) (n1 := 24) a b) = V1 m ρ c main_v4 (ix2 (n0 := 144) (n1 := 24) a b) := by
  blk_ext [iblk0, idx0 t]

/-- The features of one image, at a place of the block that the first call leaves. -/
theorem feat_block (c : Dev nD) (t : Fin cfg0.N) (d : Fin 64) (o : Fin 8) (p : Fin 4096) :
    out0_3 (iblk0 (V1 m ρ) c 0 t) (iblk0 (V1 m ρ) c 1 t) (iblk0 (V1 m ρ) c 2 t) (ix4 (n0 := 1) (n1 := 64) (n2 := 8) (n3 := 4096) 0 d o p)
      = feat (m ((c : Thread nD τ).loc main_arg0)) (m ((c : Thread nD τ).loc main_arg1)) (m ((c : Thread nD τ).loc main_arg2)) ⟨t.val, (idx0 t).2.2.2.2.2⟩ o d p := by
  refine (out0_3_at _ _ _ d o p).trans (conv_congr (fun c' kd j => ?_) (fun c' d p => ?_) d p)
  · refine (blk0_2 m ρ c t _ _).trans ?_
    rw [V1_v4]
    exact wA_at _ o c' kd j
  · unfold inp volIn
    by_cases h : c'.val < 8
    · rw [dif_pos h, dif_pos h]
      refine (blk0_0 m ρ c t _ _ _).trans ?_
      rw [V1_v2]
      exact ct_at _ _ d ⟨c'.val, h⟩ p
    · rw [dif_neg h, dif_neg h]
      refine (blk0_1 m ρ c t _ _ _).trans ?_
      rw [V1_v0]
      exact xo_at _ _ d ⟨c'.val - 8, by omega⟩ p

/-- The array of features after the first call. -/
def featArr (c : Dev nD) : FVec Ideal S2x64x8x4096 .f32 := fun i =>
  feat (m ((c : Thread nD τ).loc main_arg0)) (m ((c : Thread nD τ).loc main_arg1)) (m ((c : Thread nD τ).loc main_arg2)) (i 0) (i 2) (i 1) (i 3)

/-- The sum of the features of an image's channel. -/
def sum1 (c : Dev nD) (n : Fin 2) (o : Fin 8) : EReal :=
  ∑ d : Fin 64, ∑ p : Fin 4096, feat (m ((c : Thread nD τ).loc main_arg0)) (m ((c : Thread nD τ).loc main_arg1)) (m ((c : Thread nD τ).loc main_arg2)) n o d p

/-- The sum of their squares. -/
def sum2 (c : Dev nD) (n : Fin 2) (o : Fin 8) : EReal :=
  ∑ d : Fin 64, ∑ p : Fin 4096, feat (m ((c : Thread nD τ).loc main_arg0)) (m ((c : Thread nD τ).loc main_arg1)) (m ((c : Thread nD τ).loc main_arg2)) n o d p
    * feat (m ((c : Thread nD τ).loc main_arg0)) (m ((c : Thread nD τ).loc main_arg1)) (m ((c : Thread nD τ).loc main_arg2)) n o d p

/-- The array of sums after the first call. -/
def sumArr (c : Dev nD) : FVec Ideal S2x8x2 .f32 := fun i =>
  if (i 2).val = 0 then sum1 m c (i 0) (i 1) else sum2 m c (i 0) (i 1)

theorem sumArr_0 (c : Dev nD) (n : Fin 2) (o : Fin 8) : sumArr m c (ix3 (n0 := 2) (n1 := 8) (n2 := 2) n o 0) = sum1 m c n o := if_pos rfl
theorem sumArr_1 (c : Dev nD) (n : Fin 2) (o : Fin 8) : sumArr m c (ix3 (n0 := 2) (n1 := 8) (n2 := 2) n o 1) = sum2 m c n o := if_neg Nat.one_ne_zero

theorem eta4 (y : S1x64x8x4096.Idx) : y = ix4 (n0 := 1) (n1 := 64) (n2 := 8) (n3 := 4096) 0 (y 1) (y 2) (y 3) := by
  have h0 : (y 0).val < 1 := (y 0).isLt
  funext a
  match a with
  | ⟨0, _⟩ => exact Fin.ext (by show (y 0).val = 0; omega)
  | ⟨1, _⟩ => rfl
  | ⟨2, _⟩ => rfl
  | ⟨3, _⟩ => rfl

theorem eta3 (y : S1x8x2.Idx) : y = ix3 (n0 := 1) (n1 := 8) (n2 := 2) 0 (y 1) (y 2) := by
  have h0 : (y 0).val < 1 := (y 0).isLt
  funext a
  match a with
  | ⟨0, _⟩ => exact Fin.ext (by show (y 0).val = 0; omega)
  | ⟨1, _⟩ => rfl
  | ⟨2, _⟩ => rfl

theorem feat_final (c : Dev nD) : (dat0 (V1 m ρ) c).arrAt 3 cfg0.N = featArr m c := by
  refine (dat0 (V1 m ρ) c).arrAt_eq_of_covers 3 _ (by decide +kernel) fun t _ y => ?_
  blk_simp
  rw [after0_3]
  have key : ∀ (y : S1x64x8x4096.Idx) (i : S2x64x8x4096.Idx), i = ix4 (n0 := 2) (n1 := 64) (n2 := 8) (n3 := 4096) ⟨t.val, (idx0 t).2.2.2.2.2⟩ (y 1) (y 2) (y 3)
      → out0_3 (iblk0 (V1 m ρ) c 0 t) (iblk0 (V1 m ρ) c 1 t) (iblk0 (V1 m ρ) c 2 t) y = featArr m c i := by
    rintro y i rfl
    rw [eta4 y]
    exact feat_block m ρ c t _ _ _
  refine key y _ ?_
  blk_ext [idx0 t]

theorem sum_block (c : Dev nD) (t : Fin cfg0.N) (o : Fin 8) (k : Fin 2) :
    out0_4 (iblk0 (V1 m ρ) c 0 t) (iblk0 (V1 m ρ) c 1 t) (iblk0 (V1 m ρ) c 2 t) (ix3 (n0 := 1) (n1 := 8) (n2 := 2) 0 o k)
      = sumArr m c (ix3 (n0 := 2) (n1 := 8) (n2 := 2) ⟨t.val, (idx0 t).2.2.2.2.2⟩ o k) := by
  unfold out0_4
  have hk := k.isLt
  by_cases h : k = 0
  · subst h
    refine (sum_at _ o).trans (Eq.trans ?_ (sumArr_0 m c _ o).symm)
    exact Finset.sum_congr rfl fun d _ => Finset.sum_congr rfl fun p _ => feat_block m ρ c t d o p
  · obtain rfl : k = 1 := by omega
    refine (sumsq_at _ o).trans (Eq.trans ?_ (sumArr_1 m c _ o).symm)
    exact Finset.sum_congr rfl fun d _ => Finset.sum_congr rfl fun p _ => congrArg₂ (· * ·) (feat_block m ρ c t d o p) (feat_block m ρ c t d o p)

theorem sum_final (c : Dev nD) : (dat0 (V1 m ρ) c).arrAt 4 cfg0.N = sumArr m c := by
  refine (dat0 (V1 m ρ) c).arrAt_eq_of_covers 4 _ (by decide +kernel) fun t _ y => ?_
  blk_simp
  rw [after0_4]
  have key : ∀ (y : S1x8x2.Idx) (i : S2x8x2.Idx), i = ix3 (n0 := 2) (n1 := 8) (n2 := 2) ⟨t.val, (idx0 t).2.2.2.2.2⟩ (y 1) (y 2)
      → out0_4 (iblk0 (V1 m ρ) c 0 t) (iblk0 (V1 m ρ) c 1 t) (iblk0 (V1 m ρ) c 2 t) y = sumArr m c i := by
    rintro y i rfl
    rw [eta3 y]
    exact sum_block m ρ c t _ _
  refine key y _ ?_
  blk_ext [idx0 t]

/-! ## The second call -/

theorem idx1 : ∀ t : Fin cfg1.N, win1_0.index t = ![t.val, 0, 0, 0] ∧ win1_1.index t = ![0, 0, 0] ∧ win1_2.index t = ![0, 0]
    ∧ win1_3.index t = ![0, 0] ∧ win1_4.index t = ![0, 0] ∧ win1_5.index t = ![0, 0] ∧ win1_6.index t = ![t.val, 0, 0, 0] ∧ t.val < 2 :=
  (by decide +kernel : ∀ t : Fin grid1.N, _)

theorem t1_lt (t : Fin cfg1.N) : t.val < 2 := (idx1 t).2.2.2.2.2.2.2

theorem V3_of (c : Dev nD) (r : Ref sig .tc) (h : r ∉ hostOps1_W) : V3 m ρ c r = V2 m ρ c r := W3_of m ρ c r h

theorem V3_feat (c : Dev nD) : V3 m ρ c main_v7_0 = featArr m c :=
  (V3_of m ρ c _ (by decide)).trans ((hF0 m ρ c 3).symm.trans (feat_final m ρ c))

theorem V3_sums (c : Dev nD) : V3 m ρ c main_v7_1 = sumArr m c :=
  (V3_of m ρ c _ (by decide)).trans ((hF0 m ρ c 4).symm.trans (sum_final m ρ c))

theorem V3_w (c : Dev nD) : V3 m ρ c main_v6 = V1 m ρ c main_v6 :=
  (V3_of m ρ c _ (by decide)).trans (W2_of m ρ c main_v6 (by decide +kernel))

theorem V3_v8 (c : Dev nD) : (V3 m ρ c main_v8 : FVec Ideal S8x1 .f32)
    = shapeCast S8x1 (m ((c : Thread nD τ).loc main_arg6) : FVec Ideal S8 .f32) shapeCasts_S8_S8x1 := by
  rw [← W2_args m ρ c main_arg6 (by decide)]
  show StableHlo.after hostOps1 (W2 m ρ c) (Proc.devRef .tc main_v8) = _
  entry_read
  rfl

theorem V3_v9 (c : Dev nD) : (V3 m ρ c main_v9 : FVec Ideal S8x1 .f32)
    = shapeCast S8x1 (m ((c : Thread nD τ).loc main_arg7) : FVec Ideal S8 .f32) shapeCasts_S8_S8x1 := by
  rw [← W2_args m ρ c main_arg7 (by decide)]
  show StableHlo.after hostOps1 (W2 m ρ c) (Proc.devRef .tc main_v9) = _
  entry_read
  rfl

theorem V3_v10 (c : Dev nD) : (V3 m ρ c main_v10 : FVec Ideal S8x1 .f32)
    = shapeCast S8x1 (m ((c : Thread nD τ).loc main_arg5) : FVec Ideal S8 .f32) shapeCasts_S8_S8x1 := by
  rw [← W2_args m ρ c main_arg5 (by decide)]
  show StableHlo.after hostOps1 (W2 m ρ c) (Proc.devRef .tc main_v10) = _
  entry_read
  rfl

theorem col_at (x : FVec Ideal S8 .f32) (o : Fin 8) : shapeCast S8x1 x shapeCasts_S8_S8x1 (ix2 (n0 := 8) (n1 := 1) o 0) = x (ix1 (n0 := 8) o) := by
  pointwise

theorem blk1_0 (c : Dev nD) (t : Fin cfg1.N) (d : Fin 64) (k : Fin 8) (p : Fin 4096) :
    iblk1 (V3 m ρ) c 0 t (ix4 (n0 := 1) (n1 := 64) (n2 := 8) (n3 := 4096) 0 d k p)
      = V3 m ρ c main_v7_0 (ix4 (n0 := 2) (n1 := 64) (n2 := 8) (n3 := 4096) ⟨t.val, t1_lt t⟩ d k p) := by
  blk_ext [iblk1, idx1 t]

theorem blk1_1 (c : Dev nD) (t : Fin cfg1.N) (n : Fin 2) (o : Fin 8) (k : Fin 2) :
    iblk1 (V3 m ρ) c 1 t (ix3 (n0 := 2) (n1 := 8) (n2 := 2) n o k) = V3 m ρ c main_v7_1 (ix3 (n0 := 2) (n1 := 8) (n2 := 2) n o k) := by
  blk_ext [iblk1, idx1 t]

theorem blk1_2 (c : Dev nD) (t : Fin cfg1.N) (a : Fin 8) (b : Fin 1) :
    iblk1 (V3 m ρ) c 2 t (ix2 (n0 := 8) (n1 := 1) a b) = V3 m ρ c main_v8 (ix2 (n0 := 8) (n1 := 1) a b) := by
  blk_ext [iblk1, idx1 t]

theorem blk1_3 (c : Dev nD) (t : Fin cfg1.N) (a : Fin 8) (b : Fin 1) :
    iblk1 (V3 m ρ) c 3 t (ix2 (n0 := 8) (n1 := 1) a b) = V3 m ρ c main_v9 (ix2 (n0 := 8) (n1 := 1) a b) := by
  blk_ext [iblk1, idx1 t]

theorem blk1_4 (c : Dev nD) (t : Fin cfg1.N) (a : Fin 72) (b : Fin 24) :
    iblk1 (V3 m ρ) c 4 t (ix2 (n0 := 72) (n1 := 24) a b) = V3 m ρ c main_v6 (ix2 (n0 := 72) (n1 := 24) a b) := by
  blk_ext [iblk1, idx1 t]

theorem blk1_5 (c : Dev nD) (t : Fin cfg1.N) (a : Fin 8) (b : Fin 1) :
    iblk1 (V3 m ρ) c 5 t (ix2 (n0 := 8) (n1 := 1) a b) = V3 m ρ c main_v10 (ix2 (n0 := 8) (n1 := 1) a b) := by
  blk_ext [iblk1, idx1 t]

end Cert.KernelIdeal.Hand

end
-- ==== Proof.Ref.Norm.lean ====
module

public import proofs.«01_k».proof.Proof.Ref.Conv
public import proofs.«01_k».proof.Proof.Ideal.Arrays
public import proofs.«01_k».proof.Proof.Maths

/-! The reference's batch normalisation and rectifier, read at an index. -/

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe
open Cert.KernelIdeal.Hand (vol conv volIn wA wB feat leaky cN cEps cSlope conv_congr)

/-- A sum over the images and the three space axes, at a channel. -/
theorem total_at (h : S2x8x64x64x64.ReducesTo [0, 2, 3, 4] S8) (x : S2x8x64x64x64.Idx → EReal) (z : EReal) (o : Fin 8) :
    Ideal.hostReduceAdd h x z (ix1 (n0 := 8) o)
      = z + ∑ n : Fin 2, ∑ d : Fin 64, ∑ a : Fin 64, ∑ e : Fin 64, x (ix5 (n0 := 2) (n1 := 8) (n2 := 64) (n3 := 64) (n4 := 64) n o d a e) := by
  unfold Ideal.hostReduceAdd
  refine congrArg (z + ·) ?_
  have hs : (∑ n : Fin 2, ∑ d : Fin 64, ∑ a : Fin 64, ∑ e : Fin 64, x (ix5 (n0 := 2) (n1 := 8) (n2 := 64) (n3 := 64) (n4 := 64) n o d a e))
      = ∑ q : Fin 2 × Fin 64 × Fin 64 × Fin 64, x (ix5 (n0 := 2) (n1 := 8) (n2 := 64) (n3 := 64) (n4 := 64) q.1 o q.2.1 q.2.2.1 q.2.2.2) := by
    simp only [Fintype.sum_prod_type]
  rw [hs]
  have hv : ∀ i : S2x8x64x64x64.Idx, (h.drop i 0).val = (i 1).val := fun i => rfl
  have hi : ∀ i ∈ Finset.univ.filter (fun i => h.drop i = ix1 (n0 := 8) o),
      ix5 (n0 := 2) (n1 := 8) (n2 := 64) (n3 := 64) (n4 := 64) (i 0) o (i 2) (i 3) (i 4) = i := fun i hi => by
    have e : (i 1).val = o.val := (hv i).symm.trans (congrArg (fun j : S8.Idx => (j 0).val) (Finset.mem_filter.mp hi).2)
    funext b
    match b with
    | ⟨0, _⟩ => rfl
    | ⟨1, _⟩ => exact Fin.ext e.symm
    | ⟨2, _⟩ => rfl
    | ⟨3, _⟩ => rfl
    | ⟨4, _⟩ => rfl
  refine Finset.sum_nbij' (fun i => ((i 0 : Fin 2), (i 2 : Fin 64), (i 3 : Fin 64), (i 4 : Fin 64)))
    (fun q => ix5 (n0 := 2) (n1 := 8) (n2 := 64) (n3 := 64) (n4 := 64) q.1 o q.2.1 q.2.2.1 q.2.2.2)
    (fun _ _ => Finset.mem_univ _) (fun q _ => ?_) hi (fun _ _ => rfl) (fun i hm => congrArg x (hi i hm).symm)
  refine Finset.mem_filter.mpr ⟨Finset.mem_univ _, ?_⟩
  funext b
  obtain rfl : b = 0 := Subsingleton.elim _ _
  exact Fin.ext (hv _)

/-- The reference's input volume. -/
theorem in_at (x0 : FVec Ideal S2x8x64x64x64 .f32) (x1 : FVec Ideal S2x64x8x64x64 .f32) (n : Fin 2) (c : Fin 16) (d : Fin 64) (p : Fin 4096) :
    val_main_v1 (F := Ideal) x0 x1 (ix5 n c d (⟨p.val / 64, by omega⟩ : Fin 64) (⟨p.val % 64, by omega⟩ : Fin 64)) = volIn x0 x1 n c d p := by
  unfold volIn
  pointwise [val_main_v1, val_main_v0]

variable (x0 : FVec Ideal S2x8x64x64x64 .f32) (x1 : FVec Ideal S2x64x8x64x64 .f32) (x2 : FVec Ideal S8x16x3x3x3 .f32) (x3 : FVec Ideal S8 .f32) (x6 x7 : FVec Ideal S8 .f32)

/-- The reference's features, with their bias. -/
theorem feat_at (n : Fin 2) (o : Fin 8) (d a e : Fin 64) :
    val_main_v166 (F := Ideal) x0 x1 x2 x3 (ix5 n o d a e) = feat x0 x1 x2 n o d ⟨a.val * 64 + e.val, by omega⟩ + (x3 (ix1 o) : EReal) := by
  rw [val_main_v166_apply]
  refine congrArg₂ (· + ·) ((convA_at x0 x1 x2 n o d a e).trans (conv_congr (fun c kd j => rfl) (fun c d p => in_at x0 x1 n c d p) _ _)) ?_
  pointwise [val_main_v165, val_main_v164]

/-- The reference's rectified, normalised features, from the mean's sum and the variance. -/
theorem act_at (n : Fin 2) (o : Fin 8) (d a e : Fin 64) :
    val_main_v189 (F := Ideal) x0 x1 x2 x3 x6 x7 (ix5 n o d a e)
      = leaky (Ideal.div (val_main_v166 (F := Ideal) x0 x1 x2 x3 (ix5 n o d a e) - Ideal.div (val_main_v167 (F := Ideal) x0 x1 x2 x3 (ix1 o)) cN)
          (Ideal.sqrt (val_main_v171 (F := Ideal) x0 x1 x2 x3 (ix5 (n0 := 1) (n1 := 8) (n2 := 1) (n3 := 1) (n4 := 1) 0 o 0 0 0) + cEps))
          * (x6 (ix1 o) : EReal) + (x7 (ix1 o) : EReal)) := by
  pointwise [val_main_v189, val_main_v186, val_main_v188, val_main_v187, val_main_v185, val_main_v184, val_main_v183, val_main_v182, val_main_v181, val_main_v180, val_main_v179,
    val_main_v178, val_main_v177, val_main_v176, val_main_v175, val_main_v174, val_main_v173, val_main_v172, val_main_v170, val_main_v169, val_main_v168,
    val_main_cst_0, val_main_cst_2, val_main_cst_3, val_main_cst_4]
  rfl

/-- The reference's variance, a quotient of a sum of squares. -/
theorem var_at (o : Fin 8) :
    val_main_v171 (F := Ideal) x0 x1 x2 x3 (ix5 (n0 := 1) (n1 := 8) (n2 := 1) (n3 := 1) (n4 := 1) 0 o 0 0 0)
      = Ideal.div (val_main_call1_v9 (F := Ideal) x0 x1 x2 x3 (ix1 o)) cN := by
  pointwise [val_main_v171, val_main_call1_v13, val_main_call1_v12, val_main_call1_v11, val_main_call1_v10, val_main_call1_v8, val_main_call1_v7, val_main_call1_cst_1, val_main_c_1, val_main_call1_cst_3]
  have hd : cN - FloatOps.sitofp (F := Idealize.ShloMosaic.Ideal) FTy.f32 (0#32) = cN := (congrArg (cN - ·) sitofp_zero).trans (sub_zero _)
  refine (if_pos ?_).trans (congrArg (Ideal.div _) hd)
  exact lt_of_lt_of_eq Cert.Maths.cN_pos hd.symm

/-- A squared deviation from the mean. -/
theorem dev_at (n : Fin 2) (o : Fin 8) (d a e : Fin 64) :
    val_main_call1_v6 (F := Ideal) x0 x1 x2 x3 (ix5 n o d a e)
      = (val_main_v166 (F := Ideal) x0 x1 x2 x3 (ix5 n o d a e) - Ideal.div (val_main_call1_v0 (F := Ideal) x0 x1 x2 x3 (ix1 o)) cN)
        * (val_main_v166 (F := Ideal) x0 x1 x2 x3 (ix5 n o d a e) - Ideal.div (val_main_call1_v0 (F := Ideal) x0 x1 x2 x3 (ix1 o)) cN) := by
  pointwise [val_main_call1_v6, val_main_call1_v5, val_main_call1_v4, val_main_call1_v3, val_main_call1_v2, val_main_call1_v1, val_main_call1_cst_0]

theorem mean_at (o : Fin 8) : val_main_v167 (F := Ideal) x0 x1 x2 x3 (ix1 o)
    = 0 + ∑ n : Fin 2, ∑ d : Fin 64, ∑ a : Fin 64, ∑ e : Fin 64, val_main_v166 (F := Ideal) x0 x1 x2 x3 (ix5 n o d a e) := by
  refine (total_at _ _ _ o).trans (congrArg (· + _) ?_)
  pointwise [val_main_cst]

theorem mean2_at (o : Fin 8) : val_main_call1_v0 (F := Ideal) x0 x1 x2 x3 (ix1 o)
    = 0 + ∑ n : Fin 2, ∑ d : Fin 64, ∑ a : Fin 64, ∑ e : Fin 64, val_main_v166 (F := Ideal) x0 x1 x2 x3 (ix5 n o d a e) := by
  refine (total_at _ _ _ o).trans (congrArg (· + _) ?_)
  pointwise [val_main_call1_cst]

theorem devs_at (o : Fin 8) : val_main_call1_v9 (F := Ideal) x0 x1 x2 x3 (ix1 o)
    = 0 + ∑ n : Fin 2, ∑ d : Fin 64, ∑ a : Fin 64, ∑ e : Fin 64, val_main_call1_v6 (F := Ideal) x0 x1 x2 x3 (ix5 n o d a e) := by
  refine (total_at _ _ _ o).trans (congrArg (· + _) ?_)
  pointwise [val_main_call1_cst_2]

end Cert.ReferenceIdeal.Hand

end
-- ==== Proof.Ref.Agree.lean ====
module

public import proofs.«01_k».proof.Proof.Ref.Norm

/-! The reference's activations are the kernel's, where the features, the first bias and the weight are real. -/

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe
open Cert.KernelIdeal.Hand (vol conv volIn wA wB feat leaky normK cN cEps cSlope conv_congr)
open Cert.Maths

/-- The four sums of the reference, as one sum over images, planes and places in a plane. -/
theorem sum_planes (G : Fin 2 → Fin 64 → Fin 4096 → EReal) :
    (∑ n : Fin 2, ∑ d : Fin 64, ∑ a : Fin 64, ∑ e : Fin 64, G n d (⟨a.val * 64 + e.val, by omega⟩ : Fin 4096))
      = ∑ q : Fin 2 × Fin 64 × Fin 4096, G q.1 q.2.1 q.2.2 := by
  simp only [Fintype.sum_prod_type]
  exact Finset.sum_congr rfl fun n _ => Finset.sum_congr rfl fun d _ => (Fin.sum_univ_tiles 64 64 rfl (fun p : Fin 4096 => G n d p)).symm

/-- The kernel's sums of the two images, as the same one sum. -/
theorem sum_images (G : Fin 2 → Fin 64 → Fin 4096 → EReal) :
    (∑ d : Fin 64, ∑ p : Fin 4096, G 0 d p) + (∑ d : Fin 64, ∑ p : Fin 4096, G 1 d p)
      = ∑ q : Fin 2 × Fin 64 × Fin 4096, G q.1 q.2.1 q.2.2 := by
  simp only [Fintype.sum_prod_type, Fin.sum_univ_two]

theorem places : (Fintype.card (Fin 2 × Fin 64 × Fin 4096) : ℝ) = 524288 := by
  simp only [Fintype.card_prod, Fintype.card_fin]
  norm_num

variable (x0 : FVec Ideal S2x8x64x64x64 .f32) (x1 : FVec Ideal S2x64x8x64x64 .f32) (x2 : FVec Ideal S8x16x3x3x3 .f32) (x3 : FVec Ideal S8 .f32)
  (x4 : FVec Ideal S8x8x3x3x3 .f32) (x5 x6 x7 : FVec Ideal S8 .f32)

/-- Features of real volumes and real weights are real. -/
theorem feat_real (h0 : ∀ i, IsReal (x0 i)) (h1 : ∀ i, IsReal (x1 i)) (h2 : ∀ i, IsReal (x2 i)) (n : Fin 2) (o : Fin 8) (d : Fin 64) (p : Fin 4096) :
    IsReal (feat x0 x1 x2 n o d p) := by
  unfold feat
  refine IsReal.conv (fun c kd j => h2 _) (fun c d p => ?_) d p
  unfold volIn
  split_ifs
  · exact h0 _
  · exact h1 _

/-- The kernel's activations, from the arguments' arrays. -/
def actOf (n : Fin 2) (o : Fin 8) (d : Fin 64) (p : Fin 4096) : EReal :=
  leaky (normK ((∑ d : Fin 64, ∑ p : Fin 4096, feat x0 x1 x2 0 o d p) + (∑ d : Fin 64, ∑ p : Fin 4096, feat x0 x1 x2 1 o d p))
    ((∑ d : Fin 64, ∑ p : Fin 4096, feat x0 x1 x2 0 o d p * feat x0 x1 x2 0 o d p) + (∑ d : Fin 64, ∑ p : Fin 4096, feat x0 x1 x2 1 o d p * feat x0 x1 x2 1 o d p))
    (x6 (ix1 o) : EReal) (x7 (ix1 o) : EReal) (feat x0 x1 x2 n o d p))

theorem act_eq (h0 : ∀ i, IsReal (x0 i)) (h1 : ∀ i, IsReal (x1 i)) (h2 : ∀ i, IsReal (x2 i)) (h3 : ∀ i, IsReal (x3 i)) (h6 : ∀ i, IsReal (x6 i))
    (n : Fin 2) (o : Fin 8) (d a e : Fin 64) :
    val_main_v189 (F := Ideal) x0 x1 x2 x3 x6 x7 (ix5 n o d a e) = actOf x0 x1 x2 x6 x7 n o d ⟨a.val * 64 + e.val, by omega⟩ := by
  choose f hf using fun n d p => feat_real x0 x1 x2 h0 h1 h2 n o d p
  obtain ⟨β, hβ⟩ := h3 (ix1 o)
  obtain ⟨γ, hγ⟩ := h6 (ix1 o)
  rw [act_at, var_at, mean_at, devs_at]
  simp only [dev_at, mean2_at, feat_at]
  unfold actOf
  rw [sum_images fun n d p => feat x0 x1 x2 n o d p, sum_images fun n d p => feat x0 x1 x2 n o d p * feat x0 x1 x2 n o d p]
  simp only [hf]
  rw [hβ, hγ]
  have hS := sum_planes fun n d p => ((f n d p : ℝ) : EReal) + (β : EReal)
  beta_reduce at hS
  rw [hS]
  generalize hm : Ideal.div (0 + ∑ q : Fin 2 × Fin 64 × Fin 4096, (((f q.1 q.2.1 q.2.2 : ℝ) : EReal) + (β : EReal))) cN = M
  have hD := sum_planes fun n d p => (((f n d p : ℝ) : EReal) + (β : EReal) - M) * (((f n d p : ℝ) : EReal) + (β : EReal) - M)
  beta_reduce at hD
  rw [hD]
  subst hm
  exact congrArg leaky (norm_agree places (fun q : Fin 2 × Fin 64 × Fin 4096 => f q.1 q.2.1 q.2.2) β γ (x7 (ix1 o)) (n, d, ⟨a.val * 64 + e.val, by omega⟩)).symm

/-- The reference's result. -/
theorem out_at (h0 : ∀ i, IsReal (x0 i)) (h1 : ∀ i, IsReal (x1 i)) (h2 : ∀ i, IsReal (x2 i)) (h3 : ∀ i, IsReal (x3 i)) (h6 : ∀ i, IsReal (x6 i))
    (n : Fin 2) (o : Fin 8) (d h e : Fin 64) :
    val_main_v354 (F := Ideal) x0 x1 x2 x3 x4 x5 x6 x7 (ix5 n o d h e)
      = conv (wB x4 o) (actOf x0 x1 x2 x6 x7 n) d ⟨h.val * 64 + e.val, by omega⟩ + (x5 (ix1 o) : EReal) := by
  rw [val_main_v354_apply]
  refine congrArg₂ (· + ·) ((convB_at x0 x1 x2 x3 x4 x6 x7 n o d h e).trans (conv_congr (fun c kd j => rfl) (fun c d p => ?_) _ _)) ?_
  · refine (act_eq x0 x1 x2 x3 x6 x7 h0 h1 h2 h3 h6 n c d _ _).trans (congrArg (actOf x0 x1 x2 x6 x7 n c d) (Fin.ext ?_))
    exact Nat.div_add_mod' p.val 64
  · pointwise [val_main_v353, val_main_v352]

end Cert.ReferenceIdeal.Hand

end
-- ==== Proof.Ideal.Result.lean ====
module

public import proofs.«01_k».proof.Proof.Ideal.Arrays
public import Idealize.ShloMosaic.Lib.Pipeline.ValueKit
public import Idealize.ShloMosaic.Lib.Claim

/-! The kernel's result from the launch's arguments. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (ρ : Dev nD → PrngReg)

/-- The normalised volume of an image, after the rectifier. -/
def actK (c : Dev nD) (n : Fin 2) (o : Fin 8) (d : Fin 64) (p : Fin 4096) : EReal :=
  leaky (normK (sum1 m c 0 o + sum1 m c 1 o) (sum2 m c 0 o + sum2 m c 1 o)
    ((m ((c : Thread nD τ).loc main_arg6) : FVec Ideal S8 .f32) (ix1 (n0 := 8) o)) ((m ((c : Thread nD τ).loc main_arg7) : FVec Ideal S8 .f32) (ix1 (n0 := 8) o))
    (feat (m ((c : Thread nD τ).loc main_arg0)) (m ((c : Thread nD τ).loc main_arg1)) (m ((c : Thread nD τ).loc main_arg2)) n o d p))

theorem nfull_at (v0 : Vec Ideal S2x8x2 .f32) (v21 v24 : Vec Ideal S8x1 .f32) (x : Vec Ideal S1x64x8x4096 .f32) (d : Fin 64) (o : Fin 8) (p : Fin 4096) :
    nfull v0 v21 v24 x (ix3 (n0 := 64) (n1 := 8) (n2 := 4096) d o p) = k1_pay9 v0 v21 v24 (row d.val x) (ix3 (n0 := 1) (n1 := 8) (n2 := 4096) 0 o p) := rfl

/-- The scratch of the second call holds the normalised volume. -/
theorem scratch_at (c : Dev nD) (t : Fin cfg1.N) (d : Fin 64) (o : Fin 8) (p : Fin 4096) :
    nfull (iblk1 (V3 m ρ) c 1 t) (iblk1 (V3 m ρ) c 2 t) (iblk1 (V3 m ρ) c 3 t) (iblk1 (V3 m ρ) c 0 t) (ix3 (n0 := 64) (n1 := 8) (n2 := 4096) d o p)
      = actK m c ⟨t.val, t1_lt t⟩ o d p := by
  refine (nfull_at _ _ _ _ d o p).trans ((norm_at _ _ _ _ o p).trans ?_)
  unfold actK
  have hs1 : ∀ n : Fin 2, iblk1 (V3 m ρ) c 1 t (ix3 (n0 := 2) (n1 := 8) (n2 := 2) n o 0) = sum1 m c n o := fun n =>
    (blk1_1 m ρ c t n o 0).trans ((congrFun (V3_sums m ρ c) _).trans (sumArr_0 m c n o))
  have hs2 : ∀ n : Fin 2, iblk1 (V3 m ρ) c 1 t (ix3 (n0 := 2) (n1 := 8) (n2 := 2) n o 1) = sum2 m c n o := fun n =>
    (blk1_1 m ρ c t n o 1).trans ((congrFun (V3_sums m ρ c) _).trans (sumArr_1 m c n o))
  have hg := (blk1_2 m ρ c t o 0).trans ((congrFun (V3_v8 m ρ c) _).trans (col_at _ o))
  have hb := (blk1_3 m ρ c t o 0).trans ((congrFun (V3_v9 m ρ c) _).trans (col_at _ o))
  have hd : (⟨d.val % 64, Nat.mod_lt _ (by decide)⟩ : Fin 64) = d := Fin.ext (Nat.mod_eq_of_lt d.isLt)
  have hx : row d.val (iblk1 (V3 m ρ) c 0 t) (ix4 (n0 := 1) (n1 := 1) (n2 := 8) (n3 := 4096) 0 0 o p)
      = feat (m ((c : Thread nD τ).loc main_arg0)) (m ((c : Thread nD τ).loc main_arg1)) (m ((c : Thread nD τ).loc main_arg2)) ⟨t.val, t1_lt t⟩ o d p := by
    unfold row
    simp only [hd]
    exact (blk1_0 m ρ c t d o p).trans (congrFun (V3_feat m ρ c) _)
  exact congrArg leaky (congr (congr (congr (congrArg₂ normK (congrArg₂ (· + ·) (hs1 0) (hs1 1)) (congrArg₂ (· + ·) (hs2 0) (hs2 1))) hg) hb) hx)

/-- The kernel's result at a place of an image, the plane flat. -/
def outK (c : Dev nD) (n : Fin 2) (o : Fin 8) (d : Fin 64) (p : Fin 4096) : EReal :=
  conv (wB (m ((c : Thread nD τ).loc main_arg4)) o) (actK m c n) d p + (m ((c : Thread nD τ).loc main_arg5) : FVec Ideal S8 .f32) (ix1 (n0 := 8) o)

theorem out_block (c : Dev nD) (t : Fin cfg1.N) (d : Fin 64) (o : Fin 8) (p : Fin 4096) :
    outsAt1 (V3 m ρ) c t (ix4 (n0 := 1) (n1 := 64) (n2 := 8) (n3 := 4096) 0 d o p) = outK m c ⟨t.val, t1_lt t⟩ o d p := by
  unfold outsAt1 out1_6 outK
  refine (bias_at _ _ d o p).trans (congrArg₂ (· + ·) ?_ ?_)
  · refine (acc1_at _ _ d o p).trans (conv_congr (fun c' kd j => ?_) (fun c' d p => scratch_at m ρ c t d c' p) d p)
    refine (blk1_4 m ρ c t _ _).trans ?_
    rw [V3_w, V1_v6]
    exact wB_at _ o c' kd j
  · exact (blk1_5 m ρ c t o 0).trans ((congrFun (V3_v10 m ρ c) _).trans (col_at _ o))

/-- The array the second call leaves. -/
def outArr (c : Dev nD) : FVec Ideal S2x64x8x4096 .f32 := fun i => outK m c (i 0) (i 2) (i 1) (i 3)

theorem out_final (c : Dev nD) : (dat1 (V3 m ρ) c).arrAt 6 cfg1.N = outArr m c := by
  refine (dat1 (V3 m ρ) c).arrAt_eq_of_covers 6 _ (by decide +kernel) fun t _ y => ?_
  have ha := after1_6 (V3 m ρ) c t
  have key : ∀ (y : S1x64x8x4096.Idx) (i : S2x64x8x4096.Idx), i = ix4 (n0 := 2) (n1 := 64) (n2 := 8) (n3 := 4096) ⟨t.val, t1_lt t⟩ (y 1) (y 2) (y 3)
      → outsAt1 (V3 m ρ) c t y = outArr m c i := by
    rintro y i rfl
    rw [eta4 y]
    exact out_block m ρ c t _ _ _
  generalize outsAt1 (V3 m ρ) c t = O at ha key
  generalize outArr m c = G at key ⊢
  generalize dat1 (V3 m ρ) c = D at ha ⊢
  refine Eq.trans (b := O y) ?_ (key y _ ?_)
  · rw [ha]
    have hx : (cfg1.win 6).xinj (cfg1.grid.coords t) y = y := funext fun a => Fin.ext rfl
    exact eq_of_heq ((cast_heq _ _).trans (heq_of_eq (congrArg O hx)))
  · blk_ext [idx1 t]

theorem out_at (X : FVec Ideal S2x64x8x4096 .f32) (n : Fin 2) (o : Fin 8) (d h e : Fin 64) :
    transpose S2x8x64x64x64 [0, 2, 1, 3, 4] (shapeCast S2x64x8x64x64 X shapeCasts_S2x64x8x4096_S2x64x8x64x64)
        transposes_S2x64x8x64x64_S2x8x64x64x64_0_2_1_3_4 (ix5 (n0 := 2) (n1 := 8) (n2 := 64) (n3 := 64) (n4 := 64) n o d h e)
      = X (ix4 (n0 := 2) (n1 := 64) (n2 := 8) (n3 := 4096) n d o ⟨h.val * 64 + e.val, by omega⟩) := by
  pointwise

/-- The kernel's result, from the launch's arguments. -/
theorem W5_out (c : Dev nD) (n : Fin 2) (o : Fin 8) (d h e : Fin 64) :
    (W5 m ρ c (Proc.devRef .tc main_v13) : FVec Ideal S2x8x64x64x64 .f32) (ix5 (n0 := 2) (n1 := 8) (n2 := 64) (n3 := 64) (n4 := 64) n o d h e)
      = outK m c n o d ⟨h.val * 64 + e.val, by omega⟩ := by
  have e1 : W4 m ρ c (Proc.devRef .tc main_v11) = outArr m c := (hF1 m ρ c 6).symm.trans (out_final m ρ c)
  have e2 : (W5 m ρ c (Proc.devRef .tc main_v13) : FVec Ideal S2x8x64x64x64 .f32)
      = transpose S2x8x64x64x64 [0, 2, 1, 3, 4] (shapeCast S2x64x8x64x64 (outArr m c) shapeCasts_S2x64x8x4096_S2x64x8x64x64)
          transposes_S2x64x8x64x64_S2x8x64x64x64_0_2_1_3_4 := by
    rw [← e1]
    show StableHlo.after hostOps2 (W4 m ρ c) (Proc.devRef .tc main_v13) = _
    entry_read
    rfl
  exact (congrFun e2 _).trans (out_at _ n o d h e)

end Cert.KernelIdeal.Hand

end
-- ==== Proof.Value.lean ====
module

public import proofs.«01_k».proof.Proof.Ref.Agree
public import proofs.«01_k».proof.Proof.Ideal.Result
public import Idealize.ShloMosaic.Lib.Claim

/-! The kernel's result array is the reference's. -/

@[expose] public section

set_option maxRecDepth 16384

noncomputable section

namespace Cert.KernelIdeal.Hand

open Cert.KernelIdeal Cert.KernelIdeal.Gen
open Idealize.ShloMosaic Idealize.ShloMosaic.TcCoe
open Cert.Maths (IsReal)

/-- An index of the result, by its coordinates. -/
theorem eta5 (i : S2x8x64x64x64.Idx) : ix5 (n0 := 2) (n1 := 8) (n2 := 64) (n3 := 64) (n4 := 64) (i 0) (i 1) (i 2) (i 3) (i 4) = i := by
  funext a
  match a with
  | ⟨0, _⟩ => rfl
  | ⟨1, _⟩ => rfl
  | ⟨2, _⟩ => rfl
  | ⟨3, _⟩ => rfl
  | ⟨4, _⟩ => rfl

variable (m : (ℓ : Loc nD τ sig) → Buf (Elt Ideal) ℓ) (ρ : Dev nD → PrngReg)

/-- From real arguments the kernel ends with the reference's array. -/
theorem value (c : Dev nD)
    (h0 : ∀ i, IsReal ((m ((c : Thread nD τ).loc main_arg0) : FVec Ideal S2x8x64x64x64 .f32) i))
    (h1 : ∀ i, IsReal ((m ((c : Thread nD τ).loc main_arg1) : FVec Ideal S2x64x8x64x64 .f32) i))
    (h2 : ∀ i, IsReal ((m ((c : Thread nD τ).loc main_arg2) : FVec Ideal S8x16x3x3x3 .f32) i))
    (h3 : ∀ i, IsReal ((m ((c : Thread nD τ).loc main_arg3) : FVec Ideal S8 .f32) i))
    (h6 : ∀ i, IsReal ((m ((c : Thread nD τ).loc main_arg6) : FVec Ideal S8 .f32) i)) :
    (W5 m ρ c (Proc.devRef .tc main_v13) : FVec Ideal S2x8x64x64x64 .f32)
      = Cert.ReferenceIdeal.Read.val_main_v354 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) := by
  funext i
  rw [← eta5 i]
  exact (W5_out m ρ c (i 0) (i 1) (i 2) (i 3) (i 4)).trans
    (Cert.ReferenceIdeal.Hand.out_at _ _ _ _ _ _ _ _ h0 h1 h2 h3 h6 (i 0) (i 1) (i 2) (i 3) (i 4)).symm

end Cert.KernelIdeal.Hand

namespace Cert.ReferenceIdeal.Hand

open Cert.ReferenceIdeal Idealize.ShloMosaic Idealize.ShloMosaic.TcCoe Idealize.SL.Sem

/-- The reference ends with its result a function of its arguments' arrays, and its arguments unchanged. -/
theorem result (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v354)
          = Cert.ReferenceIdeal.Read.val_main_v354 (F := Ideal) (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  θ_run_mono (Cert.ReferenceIdeal.Value.run (F := Ideal) m ρ) fun r h c =>
    ⟨(h c).1.trans (Cert.ReferenceIdeal.Read.val_main_v354_eq (StableHlo.launchContents m c)), (h c).2⟩

/-- Equal arguments give equal results. -/
theorem val_congr {x0 y0 : FVec Ideal S2x8x64x64x64 .f32} {x1 y1 : FVec Ideal S2x64x8x64x64 .f32} {x2 y2 : FVec Ideal S8x16x3x3x3 .f32} {x3 y3 : FVec Ideal S8 .f32}
    {x4 y4 : FVec Ideal S8x8x3x3x3 .f32} {x5 y5 x6 y6 x7 y7 : FVec Ideal S8 .f32} (e0 : x0 = y0) (e1 : x1 = y1) (e2 : x2 = y2) (e3 : x3 = y3) (e4 : x4 = y4)
    (e5 : x5 = y5) (e6 : x6 = y6) (e7 : x7 = y7) :
    Cert.ReferenceIdeal.Read.val_main_v354 (F := Ideal) x0 x1 x2 x3 x4 x5 x6 x7 = Cert.ReferenceIdeal.Read.val_main_v354 (F := Ideal) y0 y1 y2 y3 y4 y5 y6 y7 := by
  rw [e0, e1, e2, e3, e4, e5, e6, e7]

end Cert.ReferenceIdeal.Hand

end
-- ==== Proof.lean ====
module

public import proofs.«01_k».proof.Defs
public import proofs.«01_k».proof.Proof.Gen.ReferenceIdeal.Run
public import proofs.«01_k».proof.Proof.Gen.ReferenceIdeal.Read
public import proofs.«01_k».proof.Proof.Gen.SampleReferenceIdeal.Run
public import proofs.«01_k».proof.Proof.Gen.SampleReferenceIdeal.Read
public import proofs.«01_k».proof.Proof.Gen.SampleIdeal.Value
public import proofs.«01_k».proof.Proof.Gen.Sample.Frame
public import proofs.«01_k».proof.Proof.Sample.Inside
public import proofs.«01_k».proof.Proof.Sample.Ref.Run
public import proofs.«01_k».proof.Proof.Run
public import proofs.«01_k».proof.Proof.Ideal.Run
public import proofs.«01_k».proof.Proof.RefRun
public import proofs.«01_k».proof.Proof.Value
public import proofs.«01_k».proof.Proof.Finite
public import Idealize.ShloMosaic.Lib.Claim

@[expose] public section

noncomputable section

namespace Cert.Proof

open Idealize.ShloMosaic Idealize.ShloMosaic.TcCoe Idealize.SL.Sem

/-- The kernel terminates, its arguments end unchanged and every counter at zero. -/
theorem frame_kernel : Cert.quiescent_Kernel (hKernel := Cert.Kernel.Gen.facts) := fun m g _ =>
  θ_run_mono (Cert.Kernel.Hand.run (F := Bits) m g) fun _ h => ⟨h.1, h.2.1⟩

/-- The ideal kernel terminates, its arguments end unchanged and every counter at zero. -/
theorem frame_ideal : Cert.quiescent_KernelIdeal (hKernelIdeal := Cert.KernelIdeal.Gen.facts) := fun m g _ =>
  θ_run_mono (Cert.KernelIdeal.Hand.run (F := Ideal) m g) fun _ h => ⟨h.1, h.2.1⟩

/-- The reference terminates, its arguments end unchanged and every counter at zero. -/
theorem frame_ref : Cert.quiescent_ReferenceIdeal (hReferenceIdeal := Cert.ReferenceIdeal.Gen.facts) := fun m g _ =>
  Cert.ReferenceIdeal.Hand.frame (F := Ideal) m g

/-- From finite arguments the ideal kernel and the reference end with equal results. -/
theorem equal : Cert.algebraic_KernelIdeal_ReferenceIdeal_pre_finite (hKernelIdeal := Cert.KernelIdeal.Gen.facts)
    (hReferenceIdeal := Cert.ReferenceIdeal.Gen.facts) (hPre_finite := Cert.Pre_finite.Hand.facts) := fun m g m' g' hp hag => by
  haveI := Cert.Pre_finite.Hand.facts
  refine ⟨fun c => Cert.KernelIdeal.Hand.W5 m g c (Proc.devRef .tc Cert.KernelIdeal.main_v13),
    θ_run_mono (Cert.KernelIdeal.Hand.run (F := Ideal) m g) fun r h c => ⟨h.2.2 c, h.1 c⟩,
    θ_run_mono (Cert.ReferenceIdeal.Hand.result m' g') fun r h c => ⟨(h c).1.trans ?_, (h c).2⟩⟩
  obtain ⟨h0, h1, h2, h3, h6⟩ := Cert.Pre_finite.Hand.reals _ _ _ _ _ _ _ _ (hp c)
  obtain ⟨e0, e1, e2, e3, e4, e5, e6, e7⟩ := hag c
  exact (Cert.ReferenceIdeal.Hand.val_congr e0 e1 e2 e3 e4 e5 e6 e7).trans (Cert.KernelIdeal.Hand.value m g c h0 h1 h2 h3 h6).symm

/-- The sampling kernel terminates, its arguments end unchanged and every counter at zero. -/
theorem frame_sample : Cert.quiescent_Sample (hSample := Cert.Sample.Gen.facts) := fun m g _ => Cert.Sample.Gen.frame (F := Bits) m g

/-- The ideal sampling kernel terminates, its arguments end unchanged and every counter at zero. -/
theorem frame_sample_ideal : Cert.quiescent_SampleIdeal (hSampleIdeal := Cert.SampleIdeal.Gen.facts) := fun m g _ =>
  Cert.SampleIdeal.Gen.frame (F := Ideal) m g

/-- The sampling reference terminates, its arguments end unchanged and every counter at zero. -/
theorem frame_sample_ref : Cert.quiescent_SampleReferenceIdeal (hSampleReferenceIdeal := Cert.SampleReferenceIdeal.Gen.facts) := fun m g _ =>
  Cert.SampleReferenceIdeal.Hand.frame (F := Ideal) m g

/-- From arguments inside the window the ideal sampling kernel and its reference end with equal results. -/
theorem equal_sample : Cert.algebraic_SampleIdeal_SampleReferenceIdeal_pre_inside (hSampleIdeal := Cert.SampleIdeal.Gen.facts)
    (hSampleReferenceIdeal := Cert.SampleReferenceIdeal.Gen.facts) (hPre_inside := Cert.Pre_inside.Hand.facts) := fun m g m' g' hp hag => by
  haveI := Cert.Pre_inside.Hand.facts
  refine ⟨fun c => (Cert.SampleIdeal.Gen.dats (F := Ideal) m 0 c).arrAt 6 Cert.SampleIdeal.cfg0.N,
    fun c => (Cert.SampleIdeal.Gen.dats (F := Ideal) m 0 c).arrAt 7 Cert.SampleIdeal.cfg0.N,
    Cert.SampleIdeal.Value.run_blocks (F := Ideal) m g,
    θ_run_mono (Cert.SampleReferenceIdeal.Hand.result m' g') fun r h c => ?_⟩
  obtain ⟨P, Q, H, h4, h6⟩ := Cert.Pre_inside.Hand.inside _ _ _ _ _ _ _ _ (hp c)
  obtain ⟨r0, r1⟩ := Cert.SampleReferenceIdeal.Hand.results_of _ _ _ _ _ _ _ _ (hag c) H h4 h6
  exact ⟨(h c).1.trans (r0.trans (Cert.SampleIdeal.Hand.sampled_final m c H).symm),
    (h c).2.1.trans (r1.trans (Cert.SampleIdeal.Hand.positions_final m c).symm), (h c).2.2⟩

/-- Every claim of this certificate. -/
theorem claim : Cert.Claim :=
  ⟨Cert.Kernel.Gen.facts, Cert.KernelIdeal.Gen.facts, Cert.ReferenceIdeal.Gen.facts, Cert.Sample.Gen.facts, Cert.SampleIdeal.Gen.facts,
    Cert.SampleReferenceIdeal.Gen.facts, Cert.Pre_finite.Hand.facts, Cert.Pre_inside.Hand.facts, frame_kernel, frame_ideal,
    fun m g _ => frame_ideal m g trivial, frame_ref, fun m g _ => frame_ref m g trivial, frame_sample, frame_sample_ideal,
    fun m g _ => frame_sample_ideal m g trivial, frame_sample_ref, fun m g _ => frame_sample_ref m g trivial, trivial, equal, trivial, equal_sample⟩

end Cert.Proof

end
